-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_

variable [Facts]

def fn {F : FTy → Type} [FloatOps F] (main_arg0 : FVec F S1x2048x1024 .f32) (main_arg1 : FVec F S1024x1024 .f32) (main_arg2 : FVec F S1x32768x8x128 .f32) (main_arg3 : FVec F S1x32768x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x8x128 .f32 := Host.absf main_arg2
  let main_cst_2 : FVec F S_ .f32 := constant S_ .f32 0x7F800000#32
  let main_v10 : FVec F S1x32768x8x128 .f32 := broadcastInDim S1x32768x8x128 ![] bcast_S_S1x32768x8x128 main_cst_2
  let main_v11 : IVec S1x32768x8x128 1 := cmpf .olt main_v9 main_v10
  let main_c_3 : IVec S_ 1 := constantI S_ 1 1#1
  let main_v12 : IVec S_ 1 := (fun x v => Host.reduce IntOp.andi x v reducesTo_S1x32768x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S4x64x8x128 : Shape := ⟨4, ![4, 64, 8, 128]⟩
abbrev S8x4x64x128 : Shape := ⟨4, ![8, 4, 64, 128]⟩
abbrev S4096x8x128 : Shape := ⟨3, ![4096, 8, 128]⟩
abbrev S16x4x64x8x128 : Shape := ⟨5, ![16, 4, 64, 8, 128]⟩
abbrev S8x4x128x16x64 : Shape := ⟨5, ![8, 4, 128, 16, 64]⟩
abbrev S8x4x128x1024 : Shape := ⟨4, ![8, 4, 128, 1024]⟩
abbrev S8x4x16x64x128 : Shape := ⟨5, ![8, 4, 16, 64, 128]⟩
abbrev S8x4x1024x128 : Shape := ⟨4, ![8, 4, 1024, 128]⟩
abbrev S4x8x4x64x128 : Shape := ⟨5, ![4, 8, 4, 64, 128]⟩
abbrev S4x8x4x64x2 : Shape := ⟨5, ![4, 8, 4, 64, 2]⟩
abbrev S3x4 : Shape := ⟨2, ![3, 4]⟩
abbrev S_ : Shape := ⟨0, ![]⟩
abbrev S1x8x4x64x128 : Shape := ⟨5, ![1, 8, 4, 64, 128]⟩
abbrev S8x4x64x1 : Shape := ⟨4, ![8, 4, 64, 1]⟩
abbrev S1x8x4x64x1 : Shape := ⟨5, ![1, 8, 4, 64, 1]⟩
abbrev S1x1x1x64x128 : Shape := ⟨5, ![1, 1, 1, 64, 128]⟩
abbrev S64x128 : Shape := ⟨2, ![64, 128]⟩
abbrev S1x1x128x1024 : Shape := ⟨4, ![1, 1, 128, 1024]⟩
abbrev S128x1024 : Shape := ⟨2, ![128, 1024]⟩
abbrev S1x1x1024x128 : Shape := ⟨4, ![1, 1, 1024, 128]⟩
abbrev S1024x128 : Shape := ⟨2, ![1024, 128]⟩
abbrev S64x1024 : Shape := ⟨2, ![64, 1024]⟩
abbrev S1x1x1x64x1 : Shape := ⟨5, ![1, 1, 1, 64, 1]⟩
abbrev S64x1 : Shape := ⟨2, ![64, 1]⟩
abbrev S64 : Shape := ⟨1, ![64]⟩
abbrev S1x1 : Shape := ⟨2, ![1, 1]⟩
abbrev S1x8x4x64x2 : Shape := ⟨5, ![1, 8, 4, 64, 2]⟩
abbrev S8x4x64x2 : Shape := ⟨4, ![8, 4, 64, 2]⟩

abbrev nBuf : Space → Nat
  | .hbm => 21
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S4x64x8x128, .f32⟩
  | .hbm, ⟨8, _⟩ => ⟨S8x4x64x128, .f32⟩
  | .hbm, ⟨9, _⟩ => ⟨S8x4x64x128, .bf16⟩
  | .hbm, ⟨10, _⟩ => ⟨S4096x8x128, .f32⟩
  | .hbm, ⟨11, _⟩ => ⟨S16x4x64x8x128, .f32⟩
  | .hbm, ⟨12, _⟩ => ⟨S8x4x128x16x64, .f32⟩
  | .hbm, ⟨13, _⟩ => ⟨S8x4x128x1024, .f32⟩
  | .hbm, ⟨14, _⟩ => ⟨S4096x8x128, .f32⟩
  | .hbm, ⟨15, _⟩ => ⟨S16x4x64x8x128, .f32⟩
  | .hbm, ⟨16, _⟩ => ⟨S8x4x16x64x128, .f32⟩
  | .hbm, ⟨17, _⟩ => ⟨S8x4x1024x128, .f32⟩
  | .hbm, ⟨18, _⟩ => ⟨S8x4x128x1024, .bf16⟩
  | .hbm, ⟨19, _⟩ => ⟨S8x4x1024x128, .bf16⟩
  | .hbm, ⟨20, _⟩ => ⟨S1x256x1024, .f32⟩
  | .local _ .vmem, ⟨0, _⟩ => ⟨S8x4x64x128, .bf16⟩
  | .local _ .vmem, ⟨1, _⟩ => ⟨S8x4x128x1024, .bf16⟩
  | .local _ .vmem, ⟨2, _⟩ => ⟨S8x4x1024x128, .bf16⟩
  | .local _ .vmem, ⟨3, _⟩ => ⟨S1024x1024, .f32⟩
  | .local _ .vmem, ⟨4, _⟩ => ⟨S1x256x1024, .f32⟩
  | .local _ .vmem, ⟨5, _⟩ => ⟨S4x8x4x64x128, .bf16⟩
  | .local _ .vmem, ⟨6, _⟩ => ⟨S4x8x4x64x128, .f32⟩
  | .local _ .vmem, ⟨7, _⟩ => ⟨S4x8x4x64x2, .f32⟩
  | .local _ .vmem, ⟨8, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 2 29 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_34 : BitVec 32 := 0#32
  let c32_i32 : BitVec 32 := 32#32
  let v30 : BitVec 32 := Scalar.addi c0_i32_34 c32_i32
  let c1_i32_35 : BitVec 32 := 1#32
  ⟨c0_i32_34, v30, c1_i32_35⟩
def k0_off1 (k0_t1 : Fin k0_t1_loop.trips) : Fin 5 → Nat :=
  let c0_1554 : Index := 0#32
  let c0_i32_34 : BitVec 32 := 0#32
  let c1_i32_35 : BitVec 32 := 1#32
  let arg12 : BitVec 32 := Scf.iv c0_i32_34 c1_i32_35 k0_t1
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![0, v914.toNat, v915.toNat, 0, 0]
def k0_off2 (k0_t1 : Fin k0_t1_loop.trips) : Fin 4 → Nat :=
  let c0_i32_34 : BitVec 32 := 0#32
  let c1_i32_35 : BitVec 32 := 1#32
  let arg12 : BitVec 32 := Scf.iv c0_i32_34 c1_i32_35 k0_t1
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off3 (k0_t1 : Fin k0_t1_loop.trips) : Fin 4 → Nat :=
  let c0_i32_34 : BitVec 32 := 0#32
  let c1_i32_35 : BitVec 32 := 1#32
  let arg12 : BitVec 32 := Scf.iv c0_i32_34 c1_i32_35 k0_t1
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off4 (k0_t1 : Fin k0_t1_loop.trips) : Fin 5 → Nat :=
  let c0_1563 : Index := 0#32
  let c0_i32_34 : BitVec 32 := 0#32
  let c1_i32_35 : BitVec 32 := 1#32
  let arg12 : BitVec 32 := Scf.iv c0_i32_34 c1_i32_35 k0_t1
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![0, v929.toNat, v930.toNat, 0, 0]
def k0_off5 (k0_t1 : Fin k0_t1_loop.trips) : Fin 5 → Nat :=
  let c0_1566 : Index := 0#32
  let c0_i32_34 : BitVec 32 := 0#32
  let c1_i32_35 : BitVec 32 := 1#32
  let arg12 : BitVec 32 := Scf.iv c0_i32_34 c1_i32_35 k0_t1
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![0, v933.toNat, v934.toNat, 0, 1]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_43 : BitVec 32 := 1#32
  let v31 : BitVec 32 := Scalar.muli v7 c1_i32_43
  let v32 : BitVec 32 := Scalar.addi c0_i32_44 v31
  v32.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_59 : BitVec 32 := 1#32
  let v41 : BitVec 32 := Scalar.muli v7 c1_i32_59
  let v42 : BitVec 32 := Scalar.addi c0_i32_60 v41
  v42.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_75 : BitVec 32 := 1#32
  let v51 : BitVec 32 := Scalar.muli v7 c1_i32_75
  let v52 : BitVec 32 := Scalar.addi c0_i32_76 v51
  v52.toNat
def k0_dev6 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_179 : BitVec 32 := 1#32
  let v103 : BitVec 32 := Scalar.muli v5 c1_i32_179
  let v104 : BitVec 32 := Scalar.addi c0_i32_180 v103
  v104.toNat
@[reducible] def k0_t2_loop : Scf.Loop 32 :=
  let c0_i32_181 : BitVec 32 := 0#32
  let c32_i32_182 : BitVec 32 := 32#32
  let v105 : BitVec 32 := Scalar.addi c0_i32_181 c32_i32_182
  let c1_i32_183 : BitVec 32 := 1#32
  ⟨c0_i32_181, v105, c1_i32_183⟩
def k0_off6 (k0_t2 : Fin k0_t2_loop.trips) : Fin 5 → Nat :=
  let c1_1554 : Index := 1#32
  let c0_i32_181 : BitVec 32 := 0#32
  let c1_i32_183 : BitVec 32 := 1#32
  let arg12 : BitVec 32 := Scf.iv c0_i32_181 c1_i32_183 k0_t2
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![1, v914.toNat, v915.toNat, 0, 0]
def k0_off7 (k0_t2 : Fin k0_t2_loop.trips) : Fin 4 → Nat :=
  let c0_i32_181 : BitVec 32 := 0#32
  let c1_i32_183 : BitVec 32 := 1#32
  let arg12 : BitVec 32 := Scf.iv c0_i32_181 c1_i32_183 k0_t2
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off8 (k0_t2 : Fin k0_t2_loop.trips) : Fin 4 → Nat :=
  let c0_i32_181 : BitVec 32 := 0#32
  let c1_i32_183 : BitVec 32 := 1#32
  let arg12 : BitVec 32 := Scf.iv c0_i32_181 c1_i32_183 k0_t2
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off9 (k0_t2 : Fin k0_t2_loop.trips) : Fin 5 → Nat :=
  let c1_1563 : Index := 1#32
  let c0_i32_181 : BitVec 32 := 0#32
  let c1_i32_183 : BitVec 32 := 1#32
  let arg12 : BitVec 32 := Scf.iv c0_i32_181 c1_i32_183 k0_t2
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![1, v929.toNat, v930.toNat, 0, 0]
def k0_off10 (k0_t2 : Fin k0_t2_loop.trips) : Fin 5 → Nat :=
  let c1_1566 : Index := 1#32
  let c0_i32_181 : BitVec 32 := 0#32
  let c1_i32_183 : BitVec 32 := 1#32
  let arg12 : BitVec 32 := Scf.iv c0_i32_181 c1_i32_183 k0_t2
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![1, v933.toNat, v934.toNat, 0, 1]
def k0_dev7 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_191 : BitVec 32 := 1#32
  let v106 : BitVec 32 := Scalar.muli v7 c1_i32_191
  let v107 : BitVec 32 := Scalar.addi c0_i32_192 v106
  v107.toNat
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_207 : BitVec 32 := 1#32
  let v116 : BitVec 32 := Scalar.muli v7 c1_i32_207
  let v117 : BitVec 32 := Scalar.addi c0_i32_208 v116
  v117.toNat
def k0_dev9 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_223 : BitVec 32 := 1#32
  let v126 : BitVec 32 := Scalar.muli v7 c1_i32_223
  let v127 : BitVec 32 := Scalar.addi c0_i32_224 v126
  v127.toNat
def k0_dev10 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_327 : BitVec 32 := 1#32
  let v178 : BitVec 32 := Scalar.muli v5 c1_i32_327
  let v179 : BitVec 32 := Scalar.addi c0_i32_328 v178
  v179.toNat
@[reducible] def k0_t3_loop : Scf.Loop 32 :=
  let c0_i32_329 : BitVec 32 := 0#32
  let c32_i32_330 : BitVec 32 := 32#32
  let v180 : BitVec 32 := Scalar.addi c0_i32_329 c32_i32_330
  let c1_i32_331 : BitVec 32 := 1#32
  ⟨c0_i32_329, v180, c1_i32_331⟩
def k0_off11 (k0_t3 : Fin k0_t3_loop.trips) : Fin 5 → Nat :=
  let c2_1554 : Index := 2#32
  let c0_i32_329 : BitVec 32 := 0#32
  let c1_i32_331 : BitVec 32 := 1#32
  let arg12 : BitVec 32 := Scf.iv c0_i32_329 c1_i32_331 k0_t3
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![2, v914.toNat, v915.toNat, 0, 0]
def k0_off12 (k0_t3 : Fin k0_t3_loop.trips) : Fin 4 → Nat :=
  let c0_i32_329 : BitVec 32 := 0#32
  let c1_i32_331 : BitVec 32 := 1#32
  let arg12 : BitVec 32 := Scf.iv c0_i32_329 c1_i32_331 k0_t3
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off13 (k0_t3 : Fin k0_t3_loop.trips) : Fin 4 → Nat :=
  let c0_i32_329 : BitVec 32 := 0#32
  let c1_i32_331 : BitVec 32 := 1#32
  let arg12 : BitVec 32 := Scf.iv c0_i32_329 c1_i32_331 k0_t3
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off14 (k0_t3 : Fin k0_t3_loop.trips) : Fin 5 → Nat :=
  let c2_1563 : Index := 2#32
  let c0_i32_329 : BitVec 32 := 0#32
  let c1_i32_331 : BitVec 32 := 1#32
  let arg12 : BitVec 32 := Scf.iv c0_i32_329 c1_i32_331 k0_t3
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![2, v929.toNat, v930.toNat, 0, 0]
def k0_off15 (k0_t3 : Fin k0_t3_loop.trips) : Fin 5 → Nat :=
  let c2_1566 : Index := 2#32
  let c0_i32_329 : BitVec 32 := 0#32
  let c1_i32_331 : BitVec 32 := 1#32
  let arg12 : BitVec 32 := Scf.iv c0_i32_329 c1_i32_331 k0_t3
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![2, v933.toNat, v934.toNat, 0, 1]
def k0_dev11 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_338 : BitVec 32 := 1#32
  let v181 : BitVec 32 := Scalar.muli v7 c1_i32_338
  let v182 : BitVec 32 := Scalar.addi c0_i32_339 v181
  v182.toNat
def k0_dev12 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_354 : BitVec 32 := 1#32
  let v191 : BitVec 32 := Scalar.muli v7 c1_i32_354
  let v192 : BitVec 32 := Scalar.addi c0_i32_355 v191
  v192.toNat
def k0_dev13 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_370 : BitVec 32 := 1#32
  let v201 : BitVec 32 := Scalar.muli v7 c1_i32_370
  let v202 : BitVec 32 := Scalar.addi c0_i32_371 v201
  v202.toNat
def k0_dev14 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_474 : BitVec 32 := 1#32
  let v253 : BitVec 32 := Scalar.muli v5 c1_i32_474
  let v254 : BitVec 32 := Scalar.addi c0_i32_475 v253
  v254.toNat
@[reducible] def k0_t4_loop : Scf.Loop 32 :=
  let c0_i32_476 : BitVec 32 := 0#32
  let c32_i32_477 : BitVec 32 := 32#32
  let v255 : BitVec 32 := Scalar.addi c0_i32_476 c32_i32_477
  let c1_i32_478 : BitVec 32 := 1#32
  ⟨c0_i32_476, v255, c1_i32_478⟩
def k0_off16 (k0_t4 : Fin k0_t4_loop.trips) : Fin 5 → Nat :=
  let c3_1554 : Index := 3#32
  let c0_i32_476 : BitVec 32 := 0#32
  let c1_i32_478 : BitVec 32 := 1#32
  let arg12 : BitVec 32 := Scf.iv c0_i32_476 c1_i32_478 k0_t4
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![3, v914.toNat, v915.toNat, 0, 0]
def k0_off17 (k0_t4 : Fin k0_t4_loop.trips) : Fin 4 → Nat :=
  let c0_i32_476 : BitVec 32 := 0#32
  let c1_i32_478 : BitVec 32 := 1#32
  let arg12 : BitVec 32 := Scf.iv c0_i32_476 c1_i32_478 k0_t4
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off18 (k0_t4 : Fin k0_t4_loop.trips) : Fin 4 → Nat :=
  let c0_i32_476 : BitVec 32 := 0#32
  let c1_i32_478 : BitVec 32 := 1#32
  let arg12 : BitVec 32 := Scf.iv c0_i32_476 c1_i32_478 k0_t4
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off19 (k0_t4 : Fin k0_t4_loop.trips) : Fin 5 → Nat :=
  let c3_1563 : Index := 3#32
  let c0_i32_476 : BitVec 32 := 0#32
  let c1_i32_478 : BitVec 32 := 1#32
  let arg12 : BitVec 32 := Scf.iv c0_i32_476 c1_i32_478 k0_t4
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![3, v929.toNat, v930.toNat, 0, 0]
def k0_off20 (k0_t4 : Fin k0_t4_loop.trips) : Fin 5 → Nat :=
  let c3_1566 : Index := 3#32
  let c0_i32_476 : BitVec 32 := 0#32
  let c1_i32_478 : BitVec 32 := 1#32
  let arg12 : BitVec 32 := Scf.iv c0_i32_476 c1_i32_478 k0_t4
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![3, v933.toNat, v934.toNat, 0, 1]
def k0_dev15 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_488 : BitVec 32 := 1#32
  let v256 : BitVec 32 := Scalar.muli v7 c1_i32_488
  let v257 : BitVec 32 := Scalar.addi c0_i32_489 v256
  v257.toNat
def k0_dev16 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_504 : BitVec 32 := 1#32
  let v266 : BitVec 32 := Scalar.muli v7 c1_i32_504
  let v267 : BitVec 32 := Scalar.addi c0_i32_505 v266
  v267.toNat
def k0_dev17 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_520 : BitVec 32 := 1#32
  let v276 : BitVec 32 := Scalar.muli v7 c1_i32_520
  let v277 : BitVec 32 := Scalar.addi c0_i32_521 v276
  v277.toNat
def k0_dev18 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_624 : BitVec 32 := 1#32
  let v328 : BitVec 32 := Scalar.muli v5 c1_i32_624
  let v329 : BitVec 32 := Scalar.addi c0_i32_625 v328
  v329.toNat
@[reducible] def k0_t5_loop : Scf.Loop 32 :=
  let c0_i32_626 : BitVec 32 := 0#32
  let c32_i32_627 : BitVec 32 := 32#32
  let v330 : BitVec 32 := Scalar.addi c0_i32_626 c32_i32_627
  let c1_i32_628 : BitVec 32 := 1#32
  ⟨c0_i32_626, v330, c1_i32_628⟩
def k0_off21 (k0_t5 : Fin k0_t5_loop.trips) : Fin 5 → Nat :=
  let c0_1554 : Index := 0#32
  let c0_i32_626 : BitVec 32 := 0#32
  let c1_i32_628 : BitVec 32 := 1#32
  let arg12 : BitVec 32 := Scf.iv c0_i32_626 c1_i32_628 k0_t5
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![0, v914.toNat, v915.toNat, 0, 0]
def k0_off22 (k0_t5 : Fin k0_t5_loop.trips) : Fin 4 → Nat :=
  let c0_i32_626 : BitVec 32 := 0#32
  let c1_i32_628 : BitVec 32 := 1#32
  let arg12 : BitVec 32 := Scf.iv c0_i32_626 c1_i32_628 k0_t5
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off23 (k0_t5 : Fin k0_t5_loop.trips) : Fin 4 → Nat :=
  let c0_i32_626 : BitVec 32 := 0#32
  let c1_i32_628 : BitVec 32 := 1#32
  let arg12 : BitVec 32 := Scf.iv c0_i32_626 c1_i32_628 k0_t5
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off24 (k0_t5 : Fin k0_t5_loop.trips) : Fin 5 → Nat :=
  let c0_1563 : Index := 0#32
  let c0_i32_626 : BitVec 32 := 0#32
  let c1_i32_628 : BitVec 32 := 1#32
  let arg12 : BitVec 32 := Scf.iv c0_i32_626 c1_i32_628 k0_t5
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![0, v929.toNat, v930.toNat, 0, 0]
def k0_off25 (k0_t5 : Fin k0_t5_loop.trips) : Fin 5 → Nat :=
  let c0_1566 : Index := 0#32
  let c0_i32_626 : BitVec 32 := 0#32
  let c1_i32_628 : BitVec 32 := 1#32
  let arg12 : BitVec 32 := Scf.iv c0_i32_626 c1_i32_628 k0_t5
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![0, v933.toNat, v934.toNat, 0, 1]
def k0_dev19 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_638 : BitVec 32 := 1#32
  let v331 : BitVec 32 := Scalar.muli v7 c1_i32_638
  let v332 : BitVec 32 := Scalar.addi c0_i32_639 v331
  v332.toNat
def k0_dev20 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_654 : BitVec 32 := 1#32
  let v341 : BitVec 32 := Scalar.muli v7 c1_i32_654
  let v342 : BitVec 32 := Scalar.addi c0_i32_655 v341
  v342.toNat
def k0_dev21 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_670 : BitVec 32 := 1#32
  let v351 : BitVec 32 := Scalar.muli v7 c1_i32_670
  let v352 : BitVec 32 := Scalar.addi c0_i32_671 v351
  v352.toNat
def k0_dev22 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_774 : BitVec 32 := 1#32
  let v403 : BitVec 32 := Scalar.muli v5 c1_i32_774
  let v404 : BitVec 32 := Scalar.addi c0_i32_775 v403
  v404.toNat
@[reducible] def k0_t6_loop : Scf.Loop 32 :=
  let c0_i32_776 : BitVec 32 := 0#32
  let c32_i32_777 : BitVec 32 := 32#32
  let v405 : BitVec 32 := Scalar.addi c0_i32_776 c32_i32_777
  let c1_i32_778 : BitVec 32 := 1#32
  ⟨c0_i32_776, v405, c1_i32_778⟩
def k0_off26 (k0_t6 : Fin k0_t6_loop.trips) : Fin 5 → Nat :=
  let c1_1554 : Index := 1#32
  let c0_i32_776 : BitVec 32 := 0#32
  let c1_i32_778 : BitVec 32 := 1#32
  let arg12 : BitVec 32 := Scf.iv c0_i32_776 c1_i32_778 k0_t6
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![1, v914.toNat, v915.toNat, 0, 0]
def k0_off27 (k0_t6 : Fin k0_t6_loop.trips) : Fin 4 → Nat :=
  let c0_i32_776 : BitVec 32 := 0#32
  let c1_i32_778 : BitVec 32 := 1#32
  let arg12 : BitVec 32 := Scf.iv c0_i32_776 c1_i32_778 k0_t6
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off28 (k0_t6 : Fin k0_t6_loop.trips) : Fin 4 → Nat :=
  let c0_i32_776 : BitVec 32 := 0#32
  let c1_i32_778 : BitVec 32 := 1#32
  let arg12 : BitVec 32 := Scf.iv c0_i32_776 c1_i32_778 k0_t6
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off29 (k0_t6 : Fin k0_t6_loop.trips) : Fin 5 → Nat :=
  let c1_1563 : Index := 1#32
  let c0_i32_776 : BitVec 32 := 0#32
  let c1_i32_778 : BitVec 32 := 1#32
  let arg12 : BitVec 32 := Scf.iv c0_i32_776 c1_i32_778 k0_t6
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![1, v929.toNat, v930.toNat, 0, 0]
def k0_off30 (k0_t6 : Fin k0_t6_loop.trips) : Fin 5 → Nat :=
  let c1_1566 : Index := 1#32
  let c0_i32_776 : BitVec 32 := 0#32
  let c1_i32_778 : BitVec 32 := 1#32
  let arg12 : BitVec 32 := Scf.iv c0_i32_776 c1_i32_778 k0_t6
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![1, v933.toNat, v934.toNat, 0, 1]
def k0_dev23 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_788 : BitVec 32 := 1#32
  let v406 : BitVec 32 := Scalar.muli v7 c1_i32_788
  let v407 : BitVec 32 := Scalar.addi c0_i32_789 v406
  v407.toNat
def k0_dev24 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_804 : BitVec 32 := 1#32
  let v416 : BitVec 32 := Scalar.muli v7 c1_i32_804
  let v417 : BitVec 32 := Scalar.addi c0_i32_805 v416
  v417.toNat
def k0_dev25 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_820 : BitVec 32 := 1#32
  let v426 : BitVec 32 := Scalar.muli v7 c1_i32_820
  let v427 : BitVec 32 := Scalar.addi c0_i32_821 v426
  v427.toNat
@[reducible] def k0_t7_loop : Scf.Loop 32 :=
  let c0_i32_923 : BitVec 32 := 0#32
  let c32_i32_924 : BitVec 32 := 32#32
  let v478 : BitVec 32 := Scalar.addi c0_i32_923 c32_i32_924
  let c1_i32_925 : BitVec 32 := 1#32
  ⟨c0_i32_923, v478, c1_i32_925⟩
def k0_off31 (k0_t7 : Fin k0_t7_loop.trips) : Fin 5 → Nat :=
  let c2_1554 : Index := 2#32
  let c0_i32_923 : BitVec 32 := 0#32
  let c1_i32_925 : BitVec 32 := 1#32
  let arg12 : BitVec 32 := Scf.iv c0_i32_923 c1_i32_925 k0_t7
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![2, v914.toNat, v915.toNat, 0, 0]
def k0_off32 (k0_t7 : Fin k0_t7_loop.trips) : Fin 4 → Nat :=
  let c0_i32_923 : BitVec 32 := 0#32
  let c1_i32_925 : BitVec 32 := 1#32
  let arg12 : BitVec 32 := Scf.iv c0_i32_923 c1_i32_925 k0_t7
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off33 (k0_t7 : Fin k0_t7_loop.trips) : Fin 4 → Nat :=
  let c0_i32_923 : BitVec 32 := 0#32
  let c1_i32_925 : BitVec 32 := 1#32
  let arg12 : BitVec 32 := Scf.iv c0_i32_923 c1_i32_925 k0_t7
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off34 (k0_t7 : Fin k0_t7_loop.trips) : Fin 5 → Nat :=
  let c2_1563 : Index := 2#32
  let c0_i32_923 : BitVec 32 := 0#32
  let c1_i32_925 : BitVec 32 := 1#32
  let arg12 : BitVec 32 := Scf.iv c0_i32_923 c1_i32_925 k0_t7
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![2, v929.toNat, v930.toNat, 0, 0]
def k0_off35 (k0_t7 : Fin k0_t7_loop.trips) : Fin 5 → Nat :=
  let c2_1566 : Index := 2#32
  let c0_i32_923 : BitVec 32 := 0#32
  let c1_i32_925 : BitVec 32 := 1#32
  let arg12 : BitVec 32 := Scf.iv c0_i32_923 c1_i32_925 k0_t7
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![2, v933.toNat, v934.toNat, 0, 1]
def k0_dev26 (d0 : Dev nD) : Nat :=
  let c0_i32_936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_935 : BitVec 32 := 1#32
  let v479 : BitVec 32 := Scalar.muli v7 c1_i32_935
  let v480 : BitVec 32 := Scalar.addi c0_i32_936 v479
  v480.toNat
def k0_dev27 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_951 : BitVec 32 := 1#32
  let v489 : BitVec 32 := Scalar.muli v7 c1_i32_951
  let v490 : BitVec 32 := Scalar.addi c0_i32_952 v489
  v490.toNat
def k0_dev28 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_967 : BitVec 32 := 1#32
  let v499 : BitVec 32 := Scalar.muli v7 c1_i32_967
  let v500 : BitVec 32 := Scalar.addi c0_i32_968 v499
  v500.toNat
@[reducible] def k0_t8_loop : Scf.Loop 32 :=
  let c0_i32_1070 : BitVec 32 := 0#32
  let c32_i32_1071 : BitVec 32 := 32#32
  let v551 : BitVec 32 := Scalar.addi c0_i32_1070 c32_i32_1071
  let c1_i32_1072 : BitVec 32 := 1#32
  ⟨c0_i32_1070, v551, c1_i32_1072⟩
def k0_off36 (k0_t8 : Fin k0_t8_loop.trips) : Fin 5 → Nat :=
  let c3_1554 : Index := 3#32
  let c0_i32_1070 : BitVec 32 := 0#32
  let c1_i32_1072 : BitVec 32 := 1#32
  let arg12 : BitVec 32 := Scf.iv c0_i32_1070 c1_i32_1072 k0_t8
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v914 : Index := Scalar.indexCast v911
  let c4_i32_1553 : BitVec 32 := 4#32
  let v912 : BitVec 32 := Scalar.muli v911 c4_i32_1553
  let v913 : BitVec 32 := Scalar.subi arg12 v912
  let v915 : Index := Scalar.indexCast v913
  let c0_1555 : Index := 0#32
  let c0_1556 : Index := 0#32
  ![3, v914.toNat, v915.toNat, 0, 0]
def k0_off37 (k0_t8 : Fin k0_t8_loop.trips) : Fin 4 → Nat :=
  let c0_i32_1070 : BitVec 32 := 0#32
  let c1_i32_1072 : BitVec 32 := 1#32
  let arg12 : BitVec 32 := Scf.iv c0_i32_1070 c1_i32_1072 k0_t8
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v918 : Index := Scalar.indexCast v911
  let c4_i32_1553 : BitVec 32 := 4#32
  let v912 : BitVec 32 := Scalar.muli v911 c4_i32_1553
  let v913 : BitVec 32 := Scalar.subi arg12 v912
  let v919 : Index := Scalar.indexCast v913
  let c0_1557 : Index := 0#32
  let c0_1558 : Index := 0#32
  ![v918.toNat, v919.toNat, 0, 0]
def k0_off38 (k0_t8 : Fin k0_t8_loop.trips) : Fin 4 → Nat :=
  let c0_i32_1070 : BitVec 32 := 0#32
  let c1_i32_1072 : BitVec 32 := 1#32
  let arg12 : BitVec 32 := Scf.iv c0_i32_1070 c1_i32_1072 k0_t8
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v922 : Index := Scalar.indexCast v911
  let c4_i32_1553 : BitVec 32 := 4#32
  let v912 : BitVec 32 := Scalar.muli v911 c4_i32_1553
  let v913 : BitVec 32 := Scalar.subi arg12 v912
  let v923 : Index := Scalar.indexCast v913
  let c0_1559 : Index := 0#32
  let c0_1560 : Index := 0#32
  ![v922.toNat, v923.toNat, 0, 0]
def k0_off39 (k0_t8 : Fin k0_t8_loop.trips) : Fin 5 → Nat :=
  let c3_1563 : Index := 3#32
  let c0_i32_1070 : BitVec 32 := 0#32
  let c1_i32_1072 : BitVec 32 := 1#32
  let arg12 : BitVec 32 := Scf.iv c0_i32_1070 c1_i32_1072 k0_t8
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v929 : Index := Scalar.indexCast v911
  let c4_i32_1553 : BitVec 32 := 4#32
  let v912 : BitVec 32 := Scalar.muli v911 c4_i32_1553
  let v913 : BitVec 32 := Scalar.subi arg12 v912
  let v930 : Index := Scalar.indexCast v913
  let c0_1564 : Index := 0#32
  let c0_1565 : Index := 0#32
  ![3, v929.toNat, v930.toNat, 0, 0]
def k0_off40 (k0_t8 : Fin k0_t8_loop.trips) : Fin 5 → Nat :=
  let c3_1566 : Index := 3#32
  let c0_i32_1070 : BitVec 32 := 0#32
  let c1_i32_1072 : BitVec 32 := 1#32
  let arg12 : BitVec 32 := Scf.iv c0_i32_1070 c1_i32_1072 k0_t8
  let c0_i32_1547 : BitVec 32 := 0#32
  let v896 : BitVec 1 := Scalar.cmpi .sgt arg12 c0_i32_1547
  let v897 : BitVec 32 := Scalar.extui v896
  let c0_i32_1548 : BitVec 32 := 0#32
  let v898 : BitVec 1 := Scalar.cmpi .slt arg12 c0_i32_1548
  let v899 : BitVec 32 := Scalar.extui v898
  let v900 : BitVec 32 := Scalar.subi v897 v899
  let c4_i32 : BitVec 32 := 4#32
  let c0_i32_1549 : BitVec 32 := 0#32
  let v901 : BitVec 1 := Scalar.cmpi .sgt c4_i32 c0_i32_1549
  let v902 : BitVec 32 := Scalar.extui v901
  let c0_i32_1550 : BitVec 32 := 0#32
  let v903 : BitVec 1 := Scalar.cmpi .slt c4_i32 c0_i32_1550
  let v904 : BitVec 32 := Scalar.extui v903
  let v905 : BitVec 32 := Scalar.subi v902 v904
  let v906 : BitVec 1 := Scalar.cmpi .ne v900 v905
  let v907 : BitVec 32 := Scalar.remsi arg12 c4_i32
  let c0_i32_1551 : BitVec 32 := 0#32
  let v908 : BitVec 1 := Scalar.cmpi .ne v907 c0_i32_1551
  let v909 : BitVec 1 := Scalar.andi v906 v908
  let v895 : BitVec 32 := Scalar.divsi arg12 c4_i32
  let c1_i32_1552 : BitVec 32 := 1#32
  let v910 : BitVec 32 := Scalar.subi v895 c1_i32_1552
  let v911 : BitVec 32 := Scalar.select v909 v910 v895
  let v933 : Index := Scalar.indexCast v911
  let c4_i32_1553 : BitVec 32 := 4#32
  let v912 : BitVec 32 := Scalar.muli v911 c4_i32_1553
  let v913 : BitVec 32 := Scalar.subi arg12 v912
  let v934 : Index := Scalar.indexCast v913
  let c0_1567 : Index := 0#32
  let c1_1568 : Index := 1#32
  ![3, v933.toNat, v934.toNat, 0, 1]
def k0_dev29 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1082 : BitVec 32 := 1#32
  let v552 : BitVec 32 := Scalar.muli v7 c1_i32_1082
  let v553 : BitVec 32 := Scalar.addi c0_i32_1083 v552
  v553.toNat
def k0_dev30 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1098 : BitVec 32 := 1#32
  let v562 : BitVec 32 := Scalar.muli v7 c1_i32_1098
  let v563 : BitVec 32 := Scalar.addi c0_i32_1099 v562
  v563.toNat
abbrev stage0_0 : Fin 1 → Memref sig .tc .vmem S8x4x64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S32768 : Shape := ⟨1, ![32768]⟩
abbrev S1x32768 : Shape := ⟨2, ![1, 32768]⟩
abbrev S2048x32768 : Shape := ⟨2, ![2048, 32768]⟩
abbrev S1x8x2048x32768 : Shape := ⟨4, ![1, 8, 2048, 32768]⟩
abbrev S1x1x2048x32768 : Shape := ⟨4, ![1, 1, 2048, 32768]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1024x1024, .f32⟩
  | 2 => ⟨S1x32768x8x128, .f32⟩
  | 3 => ⟨S1x32768x8x128, .f32⟩
  | 4 => ⟨S1024x1024, .f32⟩
  | 5 => ⟨S1x2048x1024, .f32⟩
  | 6 => ⟨S1x2048x8x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S32768, .i32⟩
  | 28 => ⟨S_, .i32⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S32768, .i32⟩
  | 37 => ⟨S32768, .i32⟩
  | 38 => ⟨S_, .i32⟩
  | 39 => ⟨S32768, .i32⟩
  | 40 => ⟨S32768, .i1⟩
  | 41 => ⟨S32768, .i1⟩
  | 42 => ⟨S_, .i32⟩
  | 43 => ⟨S32768, .i32⟩
  | 44 => ⟨S32768, .i32⟩
  | 45 => ⟨S32768, .i32⟩
  | 46 => ⟨S1x32768, .i32⟩
  | 47 => ⟨S2048x32768, .i32⟩
  | 48 => ⟨S2048x32768, .i32⟩
  | 49 => ⟨S2048x32768, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x32768, .i32⟩
  | 57 => ⟨S1x32768, .i32⟩
  | 58 => ⟨S_, .i32⟩
  | 59 => ⟨S1x32768, .i32⟩
  | 60 => ⟨S1x32768, .i1⟩
  | 61 => ⟨S_, .i32⟩
  | 62 => ⟨S1x32768, .i32⟩
  | 63 => ⟨S1x32768, .i1⟩
  | 64 => ⟨S_, .i32⟩
  | 65 => ⟨S_, .i1⟩
  | 66 => ⟨S1x32768, .i1⟩
  | 67 => ⟨S1x32768, .i1⟩
  | 68 => ⟨S1x32768, .i1⟩
  | 69 => ⟨S1x32768, .i32⟩
  | 70 => ⟨S1x32768, .i32⟩
  | 71 => ⟨S1x32768, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x32768, .i32⟩
  | 95 => ⟨S2048x32768, .i32⟩
  | 96 => ⟨S2048x32768, .i1⟩
  | 97 => ⟨S2048x32768, .i1⟩
  | 98 => ⟨S1x8x2048x32768, .f32⟩
  | 99 => ⟨S_, .f32⟩
  | 100 => ⟨S1x8x2048x32768, .f32⟩
  | 101 => ⟨S1x8x2048x32768, .f32⟩
  | 102 => ⟨S1x1x2048x32768, .i1⟩
  | 103 => ⟨S_, .f32⟩
  | 104 => ⟨S_, .f32⟩
  | 105 => ⟨S1x8x2048x32768, .i1⟩
  | 106 => ⟨S1x8x2048x32768, .f32⟩
  | 107 => ⟨S1x8x2048x32768, .f32⟩
  | 108 => ⟨S_, .f32⟩
  | 109 => ⟨S1x8x2048, .f32⟩
  | 110 => ⟨S1x8x2048x1, .f32⟩
  | 111 => ⟨S1x8x2048x32768, .f32⟩
  | 112 => ⟨S1x8x2048x32768, .f32⟩
  | 113 => ⟨S1x8x2048x32768, .f32⟩
  | 114 => ⟨S_, .i1⟩
  | 115 => ⟨S2048, .i1⟩
  | 116 => ⟨S1x1x2048x1, .i1⟩
  | 117 => ⟨S_, .f32⟩
  | 118 => ⟨S1x8x2048, .f32⟩
  | 119 => ⟨S1x8x2048x1, .f32⟩
  | 120 => ⟨S_, .f32⟩
  | 121 => ⟨S_, .f32⟩
  | 122 => ⟨S1x8x2048x1, .i1⟩
  | 123 => ⟨S1x8x2048x1, .f32⟩
  | 124 => ⟨S1x8x2048x1, .f32⟩
  | 125 => ⟨S1x8x2048x32768, .f32⟩
  | 126 => ⟨S1x8x2048x32768, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x8x2048x32768, .i1⟩
  | 3 => ⟨S1x8x2048x32768, .f32⟩
  | 4 => ⟨S1x8x2048x32768, .f32⟩
  | 5 => ⟨S1x8x128x2048, .f32⟩
  | 6 => ⟨S1x2048x8x128, .f32⟩
  | 7 => ⟨S1x2048x1024, .f32⟩
  | 8 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Mem.lean ====
/-
  A scratch buffer of slots: the shape's leading axis counts the slots. The copies name a slot by the squeezed slice, the
  loop's loads and stores go through the whole buffer at boxes inside one slot. Holding a slot at contents `x` (a function of
  the slot's own indices), a load of a box of it reads that box of `x`, and a store of a box leaves `x` with the box put over it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.RegionTalk
public import Idealize.ShloMosaic.Lib.Pipeline.Regions
public import Idealize.ShloMosaic.Lib.Pipeline.Kit
public import Idealize.ShloMosaic.Lib.Pipeline.Value
public import Idealize.ShloMosaic.Lib.Rounds
public import Idealize.ShloMosaic.Lib.Release
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Slots

variable {n K : ℕ} {d : Fin n → ℕ} {e : EltTy}

/-- The slot's rectangle is within the buffer. -/
theorem slot_inb (s : Fin K) :
    ∀ a, (Matrix.vecCons s.val (fun _ => 0) : Fin (n + 1) → ℕ) a + (Matrix.vecCons 1 d : Fin (n + 1) → ℕ) a ≤ (Matrix.vecCons K d : Fin (n + 1) → ℕ) a :=
  Fin.cases s.isLt (fun a => by simp)

/-- Slot `s` of the buffer, as the copies name it. -/
abbrev slotM (M : Memref sig .tc .vmem (⟨n + 1, Matrix.vecCons K d⟩ : Shape) e)
    (hq : (⟨n + 1, Matrix.vecCons 1 d⟩ : Shape).Squeezes ⟨n, d⟩) (s : Fin K) : Memref sig .tc .vmem (⟨n, d⟩ : Shape) e :=
  (M.slice (Rect.unit (s := ⟨n + 1, Matrix.vecCons K d⟩) (Matrix.vecCons s.val fun _ => 0) (Matrix.vecCons 1 d) (slot_inb s)) (fun _ => rfl)).squeeze
    ⟨n, d⟩ hq

/-- The box of the slot's contents at offsets `o`, behind a leading unit axis. -/
def getBox {α : Type} {sz : Fin n → ℕ} (o : Fin n → ℕ) (ho : ∀ a, o a + sz a ≤ d a) (x : (⟨n, d⟩ : Shape).Idx → α) :
    (⟨n + 1, Matrix.vecCons 1 sz⟩ : Shape).Idx → α :=
  fun i => x fun a => ⟨o a + (i a.succ).val, lt_of_lt_of_le (Nat.add_lt_add_left (i a.succ).isLt _) (ho a)⟩

/-- The slot's contents with a box put over them at offsets `o`. -/
def putBox {α : Type} {sz : Fin n → ℕ} (o : Fin n → ℕ) (w : (⟨n + 1, Matrix.vecCons 1 sz⟩ : Shape).Idx → α)
    (x : (⟨n, d⟩ : Shape).Idx → α) : (⟨n, d⟩ : Shape).Idx → α :=
  fun y => if h : ∀ a, o a ≤ (y a).val ∧ (y a).val < o a + sz a then
      w (Fin.cons (⟨0, Nat.one_pos⟩ : Fin 1) fun a => (⟨(y a).val - o a, by have := h a; omega⟩ : Fin (sz a)))
    else x y

variable (M : Memref sig .tc .vmem (⟨n + 1, Matrix.vecCons K d⟩ : Shape) e)
  (hq : (⟨n + 1, Matrix.vecCons 1 d⟩ : Shape).Squeezes ⟨n, d⟩)

theorem slot_emb (s : Fin K) (y : (⟨n, d⟩ : Shape).Idx) :
    (slotM M hq s).view.emb y = M.view.emb (Fin.cons s y) := by
  show M.view.emb ((Rect.unit (s := ⟨n + 1, Matrix.vecCons K d⟩) (Matrix.vecCons s.val fun _ => 0) (Matrix.vecCons 1 d) (slot_inb s)).emb
    (Shape.reshapeEquiv hq.numel_eq y)) = _
  rw [Shape.reshapeEquiv_cons_one]
  refine congrArg _ (funext fun a => Fin.ext ?_)
  induction a using Fin.cases with
  | zero => show s.val + 1 * 0 = s.val; omega
  | succ a => show 0 + 1 * (y a).val = (y a).val; omega

variable {sz : Fin n → ℕ}

theorem box_emb (s : Fin K) (o : Fin n → ℕ) (ho : ∀ a, o a + sz a ≤ d a)
    (inb : ∀ a, (Matrix.vecCons s.val o : Fin (n + 1) → ℕ) a + (Matrix.vecCons 1 sz : Fin (n + 1) → ℕ) a ≤ (Matrix.vecCons K d : Fin (n + 1) → ℕ) a)
    (i : (⟨n + 1, Matrix.vecCons 1 sz⟩ : Shape).Idx) :
    (Rect.unit (s := ⟨n + 1, Matrix.vecCons K d⟩) (Matrix.vecCons s.val o) (Matrix.vecCons 1 sz) inb).emb i
      = Fin.cons s (fun a => (⟨o a + (i a.succ).val, lt_of_lt_of_le (Nat.add_lt_add_left (i a.succ).isLt _) (ho a)⟩ : Fin (d a))) := by
  refine funext fun a => Fin.ext ?_
  induction a using Fin.cases with
  | zero =>
    show s.val + 1 * (i 0).val = s.val
    have : (i 0).val < 1 := (i 0).isLt
    omega
  | succ a => show o a + 1 * (i a.succ).val = o a + (i a.succ).val; omega

theorem box_of_inb {s : Fin K} {o : Fin n → ℕ}
    (inb : ∀ a, (Matrix.vecCons s.val o : Fin (n + 1) → ℕ) a + (Matrix.vecCons 1 sz : Fin (n + 1) → ℕ) a ≤ (Matrix.vecCons K d : Fin (n + 1) → ℕ) a) :
    ∀ a, o a + sz a ≤ d a := fun a => inb a.succ

theorem box_set (s : Fin K) (o : Fin n → ℕ)
    (inb : ∀ a, (Matrix.vecCons s.val o : Fin (n + 1) → ℕ) a + (Matrix.vecCons 1 sz : Fin (n + 1) → ℕ) a ≤ (Matrix.vecCons K d : Fin (n + 1) → ℕ) a) :
    (M.access (Rect.unit (s := ⟨n + 1, Matrix.vecCons K d⟩) (Matrix.vecCons s.val o) (Matrix.vecCons 1 sz) inb)).set ⊆ (slotM M hq s).view.set := by
  intro z hz
  obtain ⟨i, -, rfl⟩ := Finset.mem_map.mp hz
  show M.view.emb (Rect.emb _ i) ∈ _
  rw [box_emb s o (box_of_inb inb) inb i, ← slot_emb M hq]
  exact View.emb_mem_set _ _

theorem box_read {Val : EltTy → Type} (s : Fin K) (o : Fin n → ℕ)
    (inb : ∀ a, (Matrix.vecCons s.val o : Fin (n + 1) → ℕ) a + (Matrix.vecCons 1 sz : Fin (n + 1) → ℕ) a ≤ (Matrix.vecCons K d : Fin (n + 1) → ℕ) a)
    (f : M.view.ty.Contents Val) :
    (M.access (Rect.unit (s := ⟨n + 1, Matrix.vecCons K d⟩) (Matrix.vecCons s.val o) (Matrix.vecCons 1 sz) inb)).read Val f
      = getBox o (box_of_inb inb) ((slotM M hq s).view.read Val f) := by
  funext i
  show cast _ (f (M.view.emb (Rect.emb _ i))) = cast _ (f ((slotM M hq s).view.emb _))
  rw [slot_emb]
  congr 2
  exact congrArg _ (box_emb s o (box_of_inb inb) inb i)

theorem box_write {Val : EltTy → Type} (s : Fin K) (o : Fin n → ℕ)
    (inb : ∀ a, (Matrix.vecCons s.val o : Fin (n + 1) → ℕ) a + (Matrix.vecCons 1 sz : Fin (n + 1) → ℕ) a ≤ (Matrix.vecCons K d : Fin (n + 1) → ℕ) a)
    (f : M.view.ty.Contents Val) (w : (⟨n + 1, Matrix.vecCons 1 sz⟩ : Shape).Idx → Val e) :
    (slotM M hq s).view.read Val
        ((M.access (Rect.unit (s := ⟨n + 1, Matrix.vecCons K d⟩) (Matrix.vecCons s.val o) (Matrix.vecCons 1 sz) inb)).write Val f w Finset.univ)
      = putBox o w ((slotM M hq s).view.read Val f) := by
  funext y
  unfold putBox
  by_cases h : ∀ a, o a ≤ (y a).val ∧ (y a).val < o a + sz a
  · rw [dif_pos h]
    have he : (slotM M hq s).view.emb y
        = (M.access (Rect.unit (s := ⟨n + 1, Matrix.vecCons K d⟩) (Matrix.vecCons s.val o) (Matrix.vecCons 1 sz) inb)).emb
          (Fin.cons (⟨0, Nat.one_pos⟩ : Fin 1) fun a => (⟨(y a).val - o a, by have := h a; omega⟩ : Fin (sz a))) := by
      rw [slot_emb]
      show M.view.emb _ = M.view.emb (Rect.emb _ _)
      rw [box_emb s o (box_of_inb inb) inb]
      refine congrArg _ (congrArg _ (funext fun a => Fin.ext ?_))
      show (y a).val = o a + ((y a).val - o a)
      have := h a
      omega
    rw [View.read_apply, he, View.write_emb_of_mem _ _ (Finset.mem_univ _), cast_cast, cast_eq]
  · rw [dif_neg h]
    refine congrArg (cast _) (View.write_of_not_mem _ _ _ fun hm => h ?_)
    obtain ⟨i, -, hi⟩ := Finset.mem_map.mp hm
    have hi' : M.view.emb (Rect.emb _ i) = (slotM M hq s).view.emb y := hi
    rw [slot_emb] at hi'
    have h2 := M.view.emb.injective hi'
    rw [box_emb s o (box_of_inb inb) inb] at h2
    intro a
    have h3 : o a + (i a.succ).val = (y a).val := congrArg Fin.val (congrFun h2 a.succ)
    have h4 : (i a.succ).val < sz a := (i a.succ).isLt
    omega

theorem slot_disjoint {s t : Fin K} (h : s ≠ t) : Disjoint (slotM M hq s).view.set (slotM M hq t).view.set := by
  rw [Finset.disjoint_left]
  intro z hz hz'
  obtain ⟨y, -, rfl⟩ := Finset.mem_map.mp hz
  obtain ⟨y', -, h'⟩ := Finset.mem_map.mp hz'
  rw [slot_emb, slot_emb] at h'
  exact h (congrFun (M.view.emb.injective h') 0).symm

theorem slot_union : (Finset.univ : Finset (Fin K)).biUnion (fun s => (slotM M hq s).view.set) = M.view.set := by
  ext z
  constructor
  · intro hz
    obtain ⟨s, -, hz⟩ := Finset.mem_biUnion.mp hz
    obtain ⟨y, -, rfl⟩ := Finset.mem_map.mp hz
    rw [slot_emb]
    exact View.emb_mem_set _ _
  · intro hz
    obtain ⟨y, -, rfl⟩ := Finset.mem_map.mp hz
    refine Finset.mem_biUnion.mpr ⟨y 0, Finset.mem_univ _, ?_⟩
    exact Eq.subst (motive := fun z => z ∈ (slotM M hq (y 0)).view.set)
      ((slot_emb M hq (y 0) (Fin.tail y)).trans (congrArg M.view.emb (Fin.cons_self_tail y))) (View.emb_mem_set _ _)

end Slots

/-! ## Holding a memref's own elements -/

section Hold

variable {Ix : Type} [DecidableEq Ix] {Name : Type} [DecidableEq Name] {U : Type} [URA U] {Lvl : Type}

local notation "𝕄" => MT nD τ sig Ix (Elt F) Name U Lvl

/-- Device `c` holds the memref's elements, which read `x`. -/
def hold {s : Shape} {e : EltTy} (m : Memref sig .tc .vmem s e) (c : Dev nD) (x : s.Idx → Elt F e) : sProp 𝕄 :=
  iprop(∃ f : Buf (Elt F) (m.view.loc (c : Thread nD τ)), (m.view.loc (c : Thread nD τ) ↦[m.view.set]{fullShare} f) ∗ ⌜m.view.read (Elt F) f = x⌝)

/-- Device `c` holds the memref's elements, at contents not chosen. -/
def holdAny {s : Shape} {e : EltTy} (m : Memref sig .tc .vmem s e) (c : Dev nD) : sProp 𝕄 :=
  iprop(∃ f : Buf (Elt F) (m.view.loc (c : Thread nD τ)), m.view.loc (c : Thread nD τ) ↦[m.view.set]{fullShare} f)

theorem hold_any {s : Shape} {e : EltTy} (m : Memref sig .tc .vmem s e) (c : Dev nD) (x : s.Idx → Elt F e) :
    (hold m c x : sProp 𝕄) ⊢ holdAny m c := by
  unfold hold holdAny
  iintro ⟨%f, H, -⟩
  iexists f
  iexact H

theorem any_hold {s : Shape} {e : EltTy} (m : Memref sig .tc .vmem s e) (c : Dev nD) :
    (holdAny m c : sProp 𝕄) ⊢ iprop(∃ x : s.Idx → Elt F e, hold m c x) := by
  unfold hold holdAny
  iintro ⟨%f, H⟩
  iexists (m.view.read (Elt F) f)
  iexists f
  isplitl [H]
  · iexact H
  · ipureintro; rfl

variable [Preorder Lvl]

variable {Λ : Labels} {defs : Defs nD τ sig (Elt F) Λ} (𝒱 : Variants) (c : Dev nD) (bd : Option 𝒱.V) {Γ : PendingWaitsCtx sig Ix}
  {α : Type}
variable {n K : ℕ} {d sz : Fin n → ℕ} {e : EltTy}
variable (M : Memref sig .tc .vmem (⟨n + 1, Matrix.vecCons K d⟩ : Shape) e) (hq : (⟨n + 1, Matrix.vecCons 1 d⟩ : Shape).Squeezes ⟨n, d⟩)

/-- A load of a box of a held slot reads that box of its contents. -/
theorem load_box (s : Fin K) (o : Fin n → ℕ)
    (inb : ∀ a, (Matrix.vecCons s.val o : Fin (n + 1) → ℕ) a + (Matrix.vecCons 1 sz : Fin (n + 1) → ℕ) a ≤ (Matrix.vecCons K d : Fin (n + 1) → ℕ) a)
    {hl} {k : _ → Prog (TpuEff nD τ sig (Elt F) Λ .tc) α} (x : (⟨n, d⟩ : Shape).Idx → Elt F e) {Q : α → sProp 𝕄} :
    (hold (slotM M hq s) c x : sProp 𝕄)
      ⊢ iprop((hold (slotM M hq s) c x -∗ wp frame (wpE' defs 𝒱 (c : Thread nD τ) bd Γ) Set.univ (k (getBox o (box_of_inb inb) x)) Q)
        -∗ wp frame (wpE' defs 𝒱 (c : Thread nD τ) bd Γ) Set.univ
          (.op (.load M (Rect.unit (s := ⟨n + 1, Matrix.vecCons K d⟩) (Matrix.vecCons s.val o) (Matrix.vecCons 1 sz) inb).toLoadRect hl) k) Q) := by
  unfold hold
  iintro ⟨%f, Hf, %hf⟩ Hk
  have h := wp_load_rect (defs := defs) (Γ := Γ) 𝒱 (c : Thread nD τ) bd Set.univ (m := M) (Q := Q) (hl := hl) (k := k) (q := fullShare) (f := f)
    (box_set M hq s o inb)
  rw [box_read M hq s o inb, hf] at h
  iapply h $$ Hf
  iintro Hf
  iapply Hk
  iexists f
  isplitl [Hf]
  · iexact Hf
  · ipureintro; exact hf

/-- A store of a box of a held slot puts the box over its contents. -/
theorem store_box (s : Fin K) (o : Fin n → ℕ)
    (inb : ∀ a, (Matrix.vecCons s.val o : Fin (n + 1) → ℕ) a + (Matrix.vecCons 1 sz : Fin (n + 1) → ℕ) a ≤ (Matrix.vecCons K d : Fin (n + 1) → ℕ) a)
    {hx hm} {k : PUnit → Prog (TpuEff nD τ sig (Elt F) Λ .tc) α} (w : (⟨n + 1, Matrix.vecCons 1 sz⟩ : Shape).Idx → Elt F e)
    (x : (⟨n, d⟩ : Shape).Idx → Elt F e) {Q : α → sProp 𝕄} :
    (hold (slotM M hq s) c x : sProp 𝕄)
      ⊢ iprop((hold (slotM M hq s) c (putBox o w x) -∗ wp frame (wpE' defs 𝒱 (c : Thread nD τ) bd Γ) Set.univ (k ⟨⟩) Q)
        -∗ wp frame (wpE' defs 𝒱 (c : Thread nD τ) bd Γ) Set.univ
          (.op (.store M (Rect.unit (s := ⟨n + 1, Matrix.vecCons K d⟩) (Matrix.vecCons s.val o) (Matrix.vecCons 1 sz) inb) w Finset.univ hx hm) k) Q) := by
  unfold hold
  iintro ⟨%f, Hf, %hf⟩ Hk
  iapply (wp_store (defs := defs) (Γ := Γ) 𝒱 (c : Thread nD τ) bd Set.univ (m := M) (Q := Q) (hx := hx) (hm := hm) (k := k) (f := f) (w := w)
    (box_set M hq s o inb)) $$ Hf
  iintro Hf
  iapply Hk
  iexists _
  isplitl [Hf]
  · iexact Hf
  · ipureintro
    rw [← hf]
    exact box_write M hq s o inb f w

end Hold

end Cert.RingProof

end
-- ==== Proof.Loop.lean ====
/-
  The compute loop of one hop: thirty-two trips, trip `t` at head `t / 4` and query block `t % 4`, each reading the slot's
  query tile, the device's own key and value tiles and the tile's running maximum, sum and context, and writing the three
  back. `hop` is what the thirty-two trips make of a slot.
-/
module

public import proofs.«01_k».proof.Proof.Mem

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers -/

abbrev qM : Memref sig .tc .vmem S4x8x4x64x128 .bf16 := Memref.whole cc0_scratch0
abbrev cM : Memref sig .tc .vmem S4x8x4x64x128 .f32 := Memref.whole cc0_scratch1
abbrev sM : Memref sig .tc .vmem S4x8x4x64x2 .f32 := Memref.whole cc0_scratch2
abbrev wM : Memref sig .tc .vmem S256x1024 .f32 := Memref.whole cc0_scratch3
abbrev q0M : Memref sig .tc .vmem S8x4x64x128 .bf16 := Memref.whole cc0_stg0_0
abbrev ktM : Memref sig .tc .vmem S8x4x128x1024 .bf16 := Memref.whole cc0_stg1_0
abbrev vM : Memref sig .tc .vmem S8x4x1024x128 .bf16 := Memref.whole cc0_stg2_0
abbrev woM : Memref sig .tc .vmem S1024x1024 .f32 := Memref.whole cc0_stg3_0
abbrev outM : Memref sig .tc .vmem S1x256x1024 .f32 := Memref.whole cc0_stg4_0

/-- Slot `s` of the query, context and (maximum, sum) buffers. -/
abbrev qS (s : Fin 4) : Memref sig .tc .vmem S8x4x64x128 .bf16 := slotM qM squeezes_S1x8x4x64x128_S8x4x64x128 s
abbrev cS (s : Fin 4) : Memref sig .tc .vmem S8x4x64x128 .f32 := slotM cM squeezes_S1x8x4x64x128_S8x4x64x128 s
abbrev sS (s : Fin 4) : Memref sig .tc .vmem S8x4x64x2 .f32 := slotM sM squeezes_S1x8x4x64x2_S8x4x64x2 s

variable (F) in
/-- The contents of a query slot, of a context slot, of a (maximum, sum) slot, of the device's keys and values. -/
abbrev QV : Type := S8x4x64x128.Idx → Elt F .bf16
variable (F) in abbrev CV : Type := S8x4x64x128.Idx → Elt F .f32
variable (F) in abbrev SV : Type := S8x4x64x2.Idx → Elt F .f32
variable (F) in abbrev KV : Type := S8x4x128x1024.Idx → Elt F .bf16
variable (F) in abbrev VV : Type := S8x4x1024x128.Idx → Elt F .bf16

/-! ## One trip -/

theorem oC_le (h : Fin 8) (j : Fin 4) : ∀ a, (![h.val, j.val, 0, 0] : Fin 4 → ℕ) a + (![1, 1, 64, 128] : Fin 4 → ℕ) a ≤ (![8, 4, 64, 128] : Fin 4 → ℕ) a := by
  revert h j; decide
theorem oM_le (h : Fin 8) (j : Fin 4) : ∀ a, (![h.val, j.val, 0, 0] : Fin 4 → ℕ) a + (![1, 1, 64, 1] : Fin 4 → ℕ) a ≤ (![8, 4, 64, 2] : Fin 4 → ℕ) a := by
  revert h j; decide
theorem oL_le (h : Fin 8) (j : Fin 4) : ∀ a, (![h.val, j.val, 0, 1] : Fin 4 → ℕ) a + (![1, 1, 64, 1] : Fin 4 → ℕ) a ≤ (![8, 4, 64, 2] : Fin 4 → ℕ) a := by
  revert h j; decide
theorem oK_le (h : Fin 8) (j : Fin 4) : ∀ a, (![h.val, j.val, 0, 0] : Fin 4 → ℕ) a + S1x1x128x1024.size a ≤ S8x4x128x1024.size a := by
  revert h j; decide
theorem oV_le (h : Fin 8) (j : Fin 4) : ∀ a, (![h.val, j.val, 0, 0] : Fin 4 → ℕ) a + S1x1x1024x128.size a ≤ S8x4x1024x128.size a := by
  revert h j; decide

/-- The tiles a trip at head `h` and query block `j` reads. -/
def qTile (q : QV F) (h : Fin 8) (j : Fin 4) : Vec F S1x1x1x64x128 .bf16 := getBox (d := ![8, 4, 64, 128]) (sz := ![1, 1, 64, 128]) ![h.val, j.val, 0, 0] (oC_le h j) q
def cTile (C : CV F) (h : Fin 8) (j : Fin 4) : Vec F S1x1x1x64x128 .f32 := getBox (d := ![8, 4, 64, 128]) (sz := ![1, 1, 64, 128]) ![h.val, j.val, 0, 0] (oC_le h j) C
def mTile (S : SV F) (h : Fin 8) (j : Fin 4) : Vec F S1x1x1x64x1 .f32 := getBox (d := ![8, 4, 64, 2]) (sz := ![1, 1, 64, 1]) ![h.val, j.val, 0, 0] (oM_le h j) S
def lTile (S : SV F) (h : Fin 8) (j : Fin 4) : Vec F S1x1x1x64x1 .f32 := getBox (d := ![8, 4, 64, 2]) (sz := ![1, 1, 64, 1]) ![h.val, j.val, 0, 1] (oL_le h j) S
def ktTile (kt : KV F) (h : Fin 8) (j : Fin 4) : Vec F S1x1x128x1024 .bf16 :=
  fun i => kt ((Rect.unit (s := S8x4x128x1024) ![h.val, j.val, 0, 0] S1x1x128x1024.size (oK_le h j)).emb i)
def vTile (v : VV F) (h : Fin 8) (j : Fin 4) : Vec F S1x1x1024x128 .bf16 :=
  fun i => v ((Rect.unit (s := S8x4x1024x128) ![h.val, j.val, 0, 0] S1x1x1024x128.size (oV_le h j)).emb i)

/-- The tile's new context, maximum and sum. -/
def cNew (q : QV F) (kt : KV F) (v : VV F) (C : CV F) (S : SV F) (h : Fin 8) (j : Fin 4) : FVec F S1x1x1x64x128 .f32 :=
  k0_pay8 (k0_pay2 (vTile v h j)) (k0_pay3 (qTile q h j) (ktTile kt h j)) (k0_pay4 (mTile S h j)) (cTile C h j)
def mNew (q : QV F) (kt : KV F) (S : SV F) (h : Fin 8) (j : Fin 4) : FVec F S1x1x1x64x1 .f32 :=
  k0_pay9 (k0_pay3 (qTile q h j) (ktTile kt h j)) (k0_pay4 (mTile S h j))
def lNew (q : QV F) (kt : KV F) (S : SV F) (h : Fin 8) (j : Fin 4) : FVec F S1x1x1x64x1 .f32 :=
  k0_pay10 (k0_pay3 (qTile q h j) (ktTile kt h j)) (k0_pay4 (mTile S h j)) (lTile S h j)

/-- The head and the query block of trip `t`. -/
def tH (t : ℕ) : Fin 8 := ⟨t / 4 % 8, Nat.mod_lt _ (by decide)⟩
def tJ (t : ℕ) : Fin 4 := ⟨t % 4, Nat.mod_lt _ (by decide)⟩

/-- One trip's effect on a slot's context and (maximum, sum). -/
def trip (q : QV F) (kt : KV F) (v : VV F) (t : ℕ) (p : CV F × SV F) : CV F × SV F :=
  (putBox (sz := ![1, 1, 64, 128]) ![(tH t).val, (tJ t).val, 0, 0] (cNew q kt v p.1 p.2 (tH t) (tJ t)) p.1,
   putBox (sz := ![1, 1, 64, 1]) ![(tH t).val, (tJ t).val, 0, 1] (lNew q kt p.2 (tH t) (tJ t))
    (putBox (sz := ![1, 1, 64, 1]) ![(tH t).val, (tJ t).val, 0, 0] (mNew q kt p.2 (tH t) (tJ t)) p.2))

/-- The slot after the first `n` trips. -/
def trips (q : QV F) (kt : KV F) (v : VV F) (p : CV F × SV F) : ℕ → CV F × SV F
  | 0 => p
  | n + 1 => trip q kt v n (trips q kt v p n)

/-- The slot after a hop's loop. -/
def hop (q : QV F) (kt : KV F) (v : VV F) (p : CV F × SV F) : CV F × SV F := trips q kt v p 32

/-! ## The trip as a program -/

/-- A trip's loads and stores, at given offsets. -/
def tripProg (o1 : Fin 5 → ℕ) (h1 : ∀ a, o1 a + S1x1x1x64x128.size a ≤ S4x8x4x64x128.size a)
    (o2 : Fin 4 → ℕ) (h2 : ∀ a, o2 a + S1x1x128x1024.size a ≤ S8x4x128x1024.size a)
    (o3 : Fin 4 → ℕ) (h3 : ∀ a, o3 a + S1x1x1024x128.size a ≤ S8x4x1024x128.size a)
    (o4 : Fin 5 → ℕ) (h4 : ∀ a, o4 a + S1x1x1x64x1.size a ≤ S4x8x4x64x2.size a)
    (o5 : Fin 5 → ℕ) (h5 : ∀ a, o5 a + S1x1x1x64x1.size a ≤ S4x8x4x64x2.size a) :
    Prog (TpuEff nD τ sig (Elt F) Λ₀ .tc) Unit :=
  .op (.load qM (Rect.unit (s := S4x8x4x64x128) o1 S1x1x1x64x128.size h1).toLoadRect (View.loadsAt_vmem h_S1x1x1x64x128)) fun (xq : Vec F S1x1x1x64x128 .bf16) =>
  .op (.load ktM (Rect.unit (s := S8x4x128x1024) o2 S1x1x128x1024.size h2).toLoadRect (View.loadsAt_vmem h_S1x1x128x1024)) fun (xk : Vec F S1x1x128x1024 .bf16) =>
  .op (.load vM (Rect.unit (s := S8x4x1024x128) o3 S1x1x1024x128.size h3).toLoadRect (View.loadsAt_vmem h_S1x1x1024x128)) fun (xv : Vec F S1x1x1024x128 .bf16) =>
  .op (.load sM (Rect.unit (s := S4x8x4x64x2) o4 S1x1x1x64x1.size h4).toLoadRect (View.loadsAt_vmem h_S1x1x1x64x1)) fun (xm : Vec F S1x1x1x64x1 .f32) =>
  .op (.load sM (Rect.unit (s := S4x8x4x64x2) o5 S1x1x1x64x1.size h5).toLoadRect (View.loadsAt_vmem h_S1x1x1x64x1)) fun (xl : Vec F S1x1x1x64x1 .f32) =>
  .op (.load cM (Rect.unit (s := S4x8x4x64x128) o1 S1x1x1x64x128.size h1).toLoadRect (View.loadsAt_vmem h_S1x1x1x64x128)) fun (xc : Vec F S1x1x1x64x128 .f32) =>
  .op (.load cM (Rect.unit (s := S4x8x4x64x128) o1 S1x1x1x64x128.size h1).toLoadRect (View.loadsAt_vmem h_S1x1x1x64x128)) fun (_ : Vec F S1x1x1x64x128 .f32) =>
  .op (.store cM (Rect.unit (s := S4x8x4x64x128) o1 S1x1x1x64x128.size h1) (k0_pay8 (k0_pay2 xv) (k0_pay3 xq xk) (k0_pay4 xm) xc) Finset.univ
    (View.stores_vmem_bits_univ h_S1x1x1x64x128 rfl) (.inl rfl)) fun _ =>
  .op (.load sM (Rect.unit (s := S4x8x4x64x2) o4 S1x1x1x64x1.size h4).toLoadRect (View.loadsAt_vmem h_S1x1x1x64x1)) fun (_ : Vec F S1x1x1x64x1 .f32) =>
  .op (.store sM (Rect.unit (s := S4x8x4x64x2) o4 S1x1x1x64x1.size h4) (k0_pay9 (k0_pay3 xq xk) (k0_pay4 xm)) Finset.univ
    (View.stores_vmem_bits_univ h_S1x1x1x64x1 rfl) (.inl rfl)) fun _ =>
  .op (.load sM (Rect.unit (s := S4x8x4x64x2) o5 S1x1x1x64x1.size h5).toLoadRect (View.loadsAt_vmem h_S1x1x1x64x1)) fun (_ : Vec F S1x1x1x64x1 .f32) =>
  .op (.store sM (Rect.unit (s := S4x8x4x64x2) o5 S1x1x1x64x1.size h5) (k0_pay10 (k0_pay3 xq xk) (k0_pay4 xm) xl) Finset.univ
    (View.stores_vmem_bits_univ h_S1x1x1x64x1 rfl) (.inl rfl)) fun _ => .ret ⟨⟩

/-- The trip at the closed offsets of slot `s`, head `h`, query block `j`. -/
def tripAt (s : Fin 4) (h : Fin 8) (j : Fin 4) : Prog (TpuEff nD τ sig (Elt F) Λ₀ .tc) Unit :=
  tripProg ![s.val, h.val, j.val, 0, 0] (by revert s h j; decide) ![h.val, j.val, 0, 0] (oK_le h j) ![h.val, j.val, 0, 0] (oV_le h j)
    ![s.val, h.val, j.val, 0, 0] (by revert s h j; decide) ![s.val, h.val, j.val, 0, 1] (by revert s h j; decide)

theorem tripProg_eq {s : Fin 4} {h : Fin 8} {j : Fin 4} {o1 h1 o2 h2 o3 h3 o4 h4 o5 h5}
    (e1 : o1 = ![s.val, h.val, j.val, 0, 0]) (e2 : o2 = ![h.val, j.val, 0, 0]) (e3 : o3 = ![h.val, j.val, 0, 0])
    (e4 : o4 = ![s.val, h.val, j.val, 0, 0]) (e5 : o5 = ![s.val, h.val, j.val, 0, 1]) :
    tripProg (F := F) o1 h1 o2 h2 o3 h3 o4 h4 o5 h5 = tripAt s h j := by
  subst e1 e2 e3 e4 e5; rfl

/-- What a loop of the program runs at each trip. -/
abbrev L32 : Scf.Loop 32 := ⟨0#32, 32#32, 1#32⟩

/-- Every trip of a loop over slot `s`. -/
def IsHop (s : Fin 4) (body : Fin L32.trips → Unit → Prog (TpuEff nD τ sig (Elt F) Λ₀ .tc) Unit) : Prop :=
  ∀ t, body t () = tripAt s (tH t.val) (tJ t.val)

theorem offs1 : ∀ t, k0_off1 t = ![0, (tH t.val).val, (tJ t.val).val, 0, 0] ∧ k0_off2 t = ![(tH t.val).val, (tJ t.val).val, 0, 0]
    ∧ k0_off3 t = ![(tH t.val).val, (tJ t.val).val, 0, 0] ∧ k0_off4 t = ![0, (tH t.val).val, (tJ t.val).val, 0, 0]
    ∧ k0_off5 t = ![0, (tH t.val).val, (tJ t.val).val, 0, 1] := by decide +kernel
theorem isHop1 (arg0 harg0 harg1 harg2 arg3 harg3 arg4 harg4 harg5 harg6 harg7 arg8 harg8 arg9 arg10 arg11 d0 v7 v22) :
    IsHop (F := F) 0 (k0_t1_body arg0 harg0 ktM harg1 vM harg2 arg3 harg3 arg4 harg4 qM harg5 cM harg6 sM harg7 arg8 harg8 arg9 arg10 arg11 d0 v7 v22) := fun t =>
  Eq.trans rfl (tripProg_eq (offs1 t).1 (offs1 t).2.1 (offs1 t).2.2.1 (offs1 t).2.2.2.1 (offs1 t).2.2.2.2)
theorem offs2 : ∀ t, k0_off6 t = ![1, (tH t.val).val, (tJ t.val).val, 0, 0] ∧ k0_off7 t = ![(tH t.val).val, (tJ t.val).val, 0, 0]
    ∧ k0_off8 t = ![(tH t.val).val, (tJ t.val).val, 0, 0] ∧ k0_off9 t = ![1, (tH t.val).val, (tJ t.val).val, 0, 0]
    ∧ k0_off10 t = ![1, (tH t.val).val, (tJ t.val).val, 0, 1] := by decide +kernel
theorem isHop2 (arg0 harg0 harg1 harg2 arg3 harg3 arg4 harg4 harg5 harg6 harg7 arg8 harg8 arg9 arg10 arg11 d0 v5 v7) :
    IsHop (F := F) 1 (k0_t2_body arg0 harg0 ktM harg1 vM harg2 arg3 harg3 arg4 harg4 qM harg5 cM harg6 sM harg7 arg8 harg8 arg9 arg10 arg11 d0 v5 v7) := fun t =>
  Eq.trans rfl (tripProg_eq (offs2 t).1 (offs2 t).2.1 (offs2 t).2.2.1 (offs2 t).2.2.2.1 (offs2 t).2.2.2.2)
theorem offs3 : ∀ t, k0_off11 t = ![2, (tH t.val).val, (tJ t.val).val, 0, 0] ∧ k0_off12 t = ![(tH t.val).val, (tJ t.val).val, 0, 0]
    ∧ k0_off13 t = ![(tH t.val).val, (tJ t.val).val, 0, 0] ∧ k0_off14 t = ![2, (tH t.val).val, (tJ t.val).val, 0, 0]
    ∧ k0_off15 t = ![2, (tH t.val).val, (tJ t.val).val, 0, 1] := by decide +kernel
theorem isHop3 (arg0 harg0 harg1 harg2 arg3 harg3 arg4 harg4 harg5 harg6 harg7 arg8 harg8 arg9 arg10 arg11 d0 v5 v7) :
    IsHop (F := F) 2 (k0_t3_body arg0 harg0 ktM harg1 vM harg2 arg3 harg3 arg4 harg4 qM harg5 cM harg6 sM harg7 arg8 harg8 arg9 arg10 arg11 d0 v5 v7) := fun t =>
  Eq.trans rfl (tripProg_eq (offs3 t).1 (offs3 t).2.1 (offs3 t).2.2.1 (offs3 t).2.2.2.1 (offs3 t).2.2.2.2)
theorem offs4 : ∀ t, k0_off16 t = ![3, (tH t.val).val, (tJ t.val).val, 0, 0] ∧ k0_off17 t = ![(tH t.val).val, (tJ t.val).val, 0, 0]
    ∧ k0_off18 t = ![(tH t.val).val, (tJ t.val).val, 0, 0] ∧ k0_off19 t = ![3, (tH t.val).val, (tJ t.val).val, 0, 0]
    ∧ k0_off20 t = ![3, (tH t.val).val, (tJ t.val).val, 0, 1] := by decide +kernel
theorem isHop4 (arg0 harg0 harg1 harg2 arg3 harg3 arg4 harg4 harg5 harg6 harg7 arg8 harg8 arg9 arg10 arg11 d0 v7 v253 w0) :
    IsHop (F := F) 3 (k0_t4_body arg0 harg0 ktM harg1 vM harg2 arg3 harg3 arg4 harg4 qM harg5 cM harg6 sM harg7 arg8 harg8 arg9 arg10 arg11 d0 v7 v253 w0) := fun t =>
  Eq.trans rfl (tripProg_eq (offs4 t).1 (offs4 t).2.1 (offs4 t).2.2.1 (offs4 t).2.2.2.1 (offs4 t).2.2.2.2)
theorem offs5 : ∀ t, k0_off21 t = ![0, (tH t.val).val, (tJ t.val).val, 0, 0] ∧ k0_off22 t = ![(tH t.val).val, (tJ t.val).val, 0, 0]
    ∧ k0_off23 t = ![(tH t.val).val, (tJ t.val).val, 0, 0] ∧ k0_off24 t = ![0, (tH t.val).val, (tJ t.val).val, 0, 0]
    ∧ k0_off25 t = ![0, (tH t.val).val, (tJ t.val).val, 0, 1] := by decide +kernel
theorem isHop5 (arg0 harg0 harg1 harg2 arg3 harg3 arg4 harg4 harg5 harg6 harg7 arg8 harg8 arg9 arg10 arg11 d0 v7 w0) :
    IsHop (F := F) 0 (k0_t5_body arg0 harg0 ktM harg1 vM harg2 arg3 harg3 arg4 harg4 qM harg5 cM harg6 sM harg7 arg8 harg8 arg9 arg10 arg11 d0 v7 w0) := fun t =>
  Eq.trans rfl (tripProg_eq (offs5 t).1 (offs5 t).2.1 (offs5 t).2.2.1 (offs5 t).2.2.2.1 (offs5 t).2.2.2.2)
theorem offs6 : ∀ t, k0_off26 t = ![1, (tH t.val).val, (tJ t.val).val, 0, 0] ∧ k0_off27 t = ![(tH t.val).val, (tJ t.val).val, 0, 0]
    ∧ k0_off28 t = ![(tH t.val).val, (tJ t.val).val, 0, 0] ∧ k0_off29 t = ![1, (tH t.val).val, (tJ t.val).val, 0, 0]
    ∧ k0_off30 t = ![1, (tH t.val).val, (tJ t.val).val, 0, 1] := by decide +kernel
theorem isHop6 (arg0 harg0 harg1 harg2 arg3 harg3 arg4 harg4 harg5 harg6 harg7 arg8 harg8 arg9 arg10 arg11 d0 v7 w0 w1) :
    IsHop (F := F) 1 (k0_t6_body arg0 harg0 ktM harg1 vM harg2 arg3 harg3 arg4 harg4 qM harg5 cM harg6 sM harg7 arg8 harg8 arg9 arg10 arg11 d0 v7 w0 w1) := fun t =>
  Eq.trans rfl (tripProg_eq (offs6 t).1 (offs6 t).2.1 (offs6 t).2.2.1 (offs6 t).2.2.2.1 (offs6 t).2.2.2.2)
theorem offs7 : ∀ t, k0_off31 t = ![2, (tH t.val).val, (tJ t.val).val, 0, 0] ∧ k0_off32 t = ![(tH t.val).val, (tJ t.val).val, 0, 0]
    ∧ k0_off33 t = ![(tH t.val).val, (tJ t.val).val, 0, 0] ∧ k0_off34 t = ![2, (tH t.val).val, (tJ t.val).val, 0, 0]
    ∧ k0_off35 t = ![2, (tH t.val).val, (tJ t.val).val, 0, 1] := by decide +kernel
theorem isHop7 (arg0 harg0 harg1 harg2 arg3 harg3 arg4 harg4 harg5 harg6 harg7 arg8 harg8 arg9 arg10 arg11 v7) :
    IsHop (F := F) 2 (k0_t7_body arg0 harg0 ktM harg1 vM harg2 arg3 harg3 arg4 harg4 qM harg5 cM harg6 sM harg7 arg8 harg8 arg9 arg10 arg11 v7) := fun t =>
  Eq.trans rfl (tripProg_eq (offs7 t).1 (offs7 t).2.1 (offs7 t).2.2.1 (offs7 t).2.2.2.1 (offs7 t).2.2.2.2)
theorem offs8 : ∀ t, k0_off36 t = ![3, (tH t.val).val, (tJ t.val).val, 0, 0] ∧ k0_off37 t = ![(tH t.val).val, (tJ t.val).val, 0, 0]
    ∧ k0_off38 t = ![(tH t.val).val, (tJ t.val).val, 0, 0] ∧ k0_off39 t = ![3, (tH t.val).val, (tJ t.val).val, 0, 0]
    ∧ k0_off40 t = ![3, (tH t.val).val, (tJ t.val).val, 0, 1] := by decide +kernel
theorem isHop8 (arg0 harg0 harg1 harg2 arg3 harg3 arg4 harg4 harg5 harg6 harg7 arg8 harg8 arg9 arg10 arg11 v7) :
    IsHop (F := F) 3 (k0_t8_body arg0 harg0 ktM harg1 vM harg2 arg3 harg3 arg4 harg4 qM harg5 cM harg6 sM harg7 arg8 harg8 arg9 arg10 arg11 v7) := fun t =>
  Eq.trans rfl (tripProg_eq (offs8 t).1 (offs8 t).2.1 (offs8 t).2.2.1 (offs8 t).2.2.2.1 (offs8 t).2.2.2.2)

/-! ## The loop's run -/

section Run

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (c : Dev nD) (bd : Option 𝒱.V) {Γ : PendingWaitsCtx sig Ix} {α : Type}

/-- A load of a rectangle of a held memref reads its contents there. -/
theorem load_at {s : Shape} {e : EltTy} (M : Memref sig .tc .vmem s e) (r : Rect s) {hl} {k : _ → Prog (TpuEff nD τ sig (Elt F) Λ₀ .tc) α}
    (x : s.Idx → Elt F e) {Q : α → sProp 𝕄} :
    (hold M c x : sProp 𝕄)
      ⊢ iprop((hold M c x -∗ wp frame (wpE' defs 𝒱 (c : Thread nD τ) bd Γ) Set.univ (k (fun i => x (r.emb i))) Q)
        -∗ wp frame (wpE' defs 𝒱 (c : Thread nD τ) bd Γ) Set.univ (.op (.load M r.toLoadRect hl) k) Q) := by
  unfold hold
  iintro ⟨%f, Hf, %hf⟩ Hk
  have h := wp_load_rect (defs := defs) (Γ := Γ) 𝒱 (c : Thread nD τ) bd Set.univ (m := M) (r := r) (Q := Q) (hl := hl) (k := k) (q := fullShare) (f := f)
    (S := M.view.set) (by rw [View.set_slice]; exact View.setOn_subset_set _ _)
  have e : (M.access r).read (Elt F) f = fun i => x (r.emb i) := by subst hf; rfl
  rw [e] at h
  iapply h $$ Hf
  iintro Hf
  iapply Hk
  iexists f
  isplitl [Hf]
  · iexact Hf
  · ipureintro; exact hf

/-- A slot at given contents, with the device's keys and values. -/
def slotAt (s : Fin 4) (q : QV F) (p : CV F × SV F) : sProp 𝕄 := iprop(hold (qS s) c q ∗ hold (cS s) c p.1 ∗ hold (sS s) c p.2)

/-- One trip. -/
theorem trip_run (s : Fin 4) (q : QV F) (kt : KV F) (v : VV F) (p : CV F × SV F) (t : ℕ) (Q : Unit → sProp 𝕄) :
    iprop(slotAt c s q p ∗ hold ktM c kt ∗ hold vM c v)
      ⊢ iprop(((slotAt c s q (trip q kt v t p) ∗ hold ktM c kt ∗ hold vM c v) -∗ Q ())
        -∗ wp frame (wpE' defs 𝒱 (c : Thread nD τ) bd Γ) Set.univ (tripAt s (tH t) (tJ t)) Q) := by
  unfold slotAt tripAt tripProg
  iintro ⟨⟨Hq, Hc, Hs⟩, Hk, Hv⟩ HQ
  iapply (load_box 𝒱 c bd qM squeezes_S1x8x4x64x128_S8x4x64x128 s ![(tH t).val, (tJ t).val, 0, 0] _ q) $$ Hq; iintro Hq
  iapply (load_at 𝒱 c bd ktM _ kt) $$ Hk; iintro Hk
  iapply (load_at 𝒱 c bd vM _ v) $$ Hv; iintro Hv
  iapply (load_box 𝒱 c bd sM squeezes_S1x8x4x64x2_S8x4x64x2 s ![(tH t).val, (tJ t).val, 0, 0] _ p.2) $$ Hs; iintro Hs
  iapply (load_box 𝒱 c bd sM squeezes_S1x8x4x64x2_S8x4x64x2 s ![(tH t).val, (tJ t).val, 0, 1] _ p.2) $$ Hs; iintro Hs
  iapply (load_box 𝒱 c bd cM squeezes_S1x8x4x64x128_S8x4x64x128 s ![(tH t).val, (tJ t).val, 0, 0] _ p.1) $$ Hc; iintro Hc
  iapply (load_box 𝒱 c bd cM squeezes_S1x8x4x64x128_S8x4x64x128 s ![(tH t).val, (tJ t).val, 0, 0] _ p.1) $$ Hc; iintro Hc
  iapply (store_box 𝒱 c bd cM squeezes_S1x8x4x64x128_S8x4x64x128 s ![(tH t).val, (tJ t).val, 0, 0] _ _ p.1) $$ Hc; iintro Hc
  iapply (load_box 𝒱 c bd sM squeezes_S1x8x4x64x2_S8x4x64x2 s ![(tH t).val, (tJ t).val, 0, 0] _ p.2) $$ Hs; iintro Hs
  iapply (store_box 𝒱 c bd sM squeezes_S1x8x4x64x2_S8x4x64x2 s ![(tH t).val, (tJ t).val, 0, 0] _ _ p.2) $$ Hs; iintro Hs
  iapply (load_box 𝒱 c bd sM squeezes_S1x8x4x64x2_S8x4x64x2 s ![(tH t).val, (tJ t).val, 0, 1] _ _) $$ Hs; iintro Hs
  iapply (store_box 𝒱 c bd sM squeezes_S1x8x4x64x2_S8x4x64x2 s ![(tH t).val, (tJ t).val, 0, 1] _ _ _) $$ Hs; iintro Hs
  rw [wp_ret]
  imodintro
  iapply HQ
  isplitl [Hq Hc Hs]
  · isplitl [Hq]
    · iexact Hq
    · isplitl [Hc]
      · iexact Hc
      · iexact Hs
  · isplitl [Hk]
    · iexact Hk
    · iexact Hv

/-- A hop's loop. -/
theorem hop_run (s : Fin 4) {ok : L32.OK} {body : Fin L32.trips → Unit → Prog (TpuEff nD τ sig (Elt F) Λ₀ .tc) Unit} (hb : IsHop s body)
    (q : QV F) (kt : KV F) (v : VV F) (p : CV F × SV F) {kk : Unit → Prog (TpuEff nD τ sig (Elt F) Λ₀ .tc) α} {Q : α → sProp 𝕄} :
    iprop(slotAt c s q p ∗ hold ktM c kt ∗ hold vM c v)
      ⊢ iprop(((slotAt c s q (hop q kt v p) ∗ hold ktM c kt ∗ hold vM c v) -∗ wp frame (wpE' defs 𝒱 (c : Thread nD τ) bd Γ) Set.univ (kk ()) Q)
        -∗ wp frame (wpE' defs 𝒱 (c : Thread nD τ) bd Γ) Set.univ (Scf.Loop.for L32 ok ⟨⟩ body >>= kk) Q) := by
  have h := Scf.wp_for_bind frame (wpE' defs 𝒱 (c : Thread nD τ) bd Γ) Set.univ (0#32) (32#32) (1#32) ok () body
    (I := fun n _ => (iprop(slotAt c s q (trips q kt v p n) ∗ hold ktM c kt ∗ hold vM c v) : sProp 𝕄))
    (fun t acc => by
      rw [show body t acc = tripAt s (tH t.val) (tJ t.val) from hb t]
      iintro H
      iapply (trip_run 𝒱 c bd s q kt v _ t.val _) $$ H
      iintro H
      iexact H)
    (kk := kk) (Q := Q)
  dsimp only [trips] at h
  iintro H HK
  iapply h $$ H
  iintro %acc H
  iapply HK
  iexact H

end Run

end Cert.RingProof

end
-- ==== Proof.Sched.lean ====
/-
  The exchange's schedule. Every device sends, at each hop `k`, the three rows (query, context, maximum-and-sum) of its slot
  `k mod 4` to slot `(k + 1) mod 4` of the next device. The entry barrier hands slots 1, 2, 3 to the previous device; after
  hops 0 to 4 a device hands its slot `k mod 4` back through an invariant and tells the previous device by one credit.
-/
module

public import proofs.«01_k».proof.Proof.Loop

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

def nxt (c : Dev nD) : Dev nD := ⟨(c.val + 1) % 8, Nat.mod_lt _ (by decide)⟩
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩
theorem nxt_ne_prv (c : Dev nD) : nxt c ≠ prv c := by revert c; decide

/-! ## The state the hops pass on -/

/-- What the exchange starts from on every device: the queries, the keys, the values; and the cleared context and
    (maximum, sum). -/
structure Args (F : FTy → Type) where
  q0 : Dev nD → QV F
  p0 : CV F × SV F
  kt : Dev nD → KV F
  v : Dev nD → VV F

/-- What a slot holds: queries, context, (maximum, sum). -/
abbrev Slot (F : FTy → Type) : Type := QV F × CV F × SV F

/-- The slot after the loop on device `c`. -/
def step (A : Args F) (c : Dev nD) (x : Slot F) : Slot F := (x.1, hop x.1 (A.kt c) (A.v c) x.2)

/-- The slot device `c` works on at hop `k`, before its loop. -/
def st (A : Args F) : ℕ → Dev nD → Slot F
  | 0, c => (A.q0 c, A.p0)
  | k + 1, c => step A (prv c) (st A k (prv c))

/-! ## The resource algebra -/

abbrev UK : Type := URounds (GSem nD τ sig) ℕ × Release.USlots (Dev nD × ℕ)
abbrev UU : Type := UR sig nD τ × UK

local notation "𝕄" => MT nD τ sig ℕ (Elt F) ℕ UU ℕ

variable (F) in abbrev EP : Emb (UR sig nD τ) (MT nD τ sig ℕ (Elt F) ℕ UU ℕ) := embL
variable (F) in abbrev EK : Emb UK (MT nD τ sig ℕ (Elt F) ℕ UU ℕ) := embR
variable (F) in abbrev ER : Emb (URounds (GSem nD τ sig) ℕ) (MT nD τ sig ℕ (Elt F) ℕ UU ℕ) := (Emb.inl : Emb _ UK).trans (EK F)
variable (F) in abbrev ES : Emb (Release.USlots (Dev nD × ℕ)) (MT nD τ sig ℕ (Elt F) ℕ UU ℕ) := (Emb.inr : Emb _ UK).trans (EK F)

/-! ## The cells -/

def sendSem (r : Fin 3) (s : Fin 4) : DmaSem sig := ⟨5 + 4 * r.val + s.val, by show _ < 29; omega⟩
def recvSem (r : Fin 3) (s : Fin 4) : DmaSem sig := ⟨17 + 4 * r.val + s.val, by show _ < 29; omega⟩
abbrev barS : Sem sig := barrier0
abbrev crS : Sem sig := 0

abbrev barC (c : Dev nD) : GSem nD τ sig := ((c : Thread nD τ), .reg barS)
abbrev crC (c : Dev nD) : GSem nD τ sig := ((c : Thread nD τ), .reg crS)
abbrev sendC (c : Dev nD) (r : Fin 3) (s : Fin 4) : GSem nD τ sig := ((c : Thread nD τ), .dma (sendSem r s))
abbrev recvC (c : Dev nD) (r : Fin 3) (s : Fin 4) : GSem nD τ sig := ((c : Thread nD τ), .dma (recvSem r s))

/-- What a semaphore is to the exchange. -/
inductive Kind
  | bar
  | credit
  | send (r : Fin 3) (s : Fin 4)
  | recv (r : Fin 3) (s : Fin 4)
  | other
  deriving DecidableEq

def kind : SemLoc sig → Kind
  | .reg i => if i.val = 1 then .bar else .credit
  | .dma i => if i.val < 5 then .other
    else if i.val < 17 then .send ⟨(i.val - 5) / 4 % 3, Nat.mod_lt _ (by decide)⟩ ⟨(i.val - 5) % 4, Nat.mod_lt _ (by decide)⟩
    else .recv ⟨(i.val - 17) / 4 % 3, Nat.mod_lt _ (by decide)⟩ ⟨(i.val - 17) % 4, Nat.mod_lt _ (by decide)⟩

theorem kind_bar : kind (.reg barS) = .bar := rfl
theorem kind_cr : kind (.reg crS) = .credit := rfl
theorem kind_send (r : Fin 3) (s : Fin 4) : kind (.dma (sendSem r s)) = .send r s := by revert r s; decide
theorem kind_recv (r : Fin 3) (s : Fin 4) : kind (.dma (recvSem r s)) = .recv r s := by revert r s; decide

/-- The credit one row's copy gives. -/
def Nr : Fin 3 → ℕ
  | 0 => (qS 0).view.dmaCredit
  | 1 => (cS 0).view.dmaCredit
  | 2 => (sS 0).view.dmaCredit
theorem Nr_pos (r : Fin 3) : 0 < Nr r := by
  match r with
  | 0 => exact View.dmaCredit_pos _ (by decide)
  | 1 => exact View.dmaCredit_pos _ (by decide)
  | 2 => exact View.dmaCredit_pos _ (by decide)

/-! ## Rows of slots -/

/-- Row `r` of slot `s` on device `c`, at the contents `x`; at any contents. -/
def rowAt (c : Dev nD) (r : Fin 3) (s : Fin 4) (x : Slot F) : sProp 𝕄 :=
  match r with
  | 0 => hold (qS s) c x.1
  | 1 => hold (cS s) c x.2.1
  | 2 => hold (sS s) c x.2.2
def rowAny (c : Dev nD) (r : Fin 3) (s : Fin 4) : sProp 𝕄 :=
  match r with
  | 0 => holdAny (qS s) c
  | 1 => holdAny (cS s) c
  | 2 => holdAny (sS s) c

def slotN (k : ℕ) : Fin 4 := ⟨k % 4, Nat.mod_lt _ (by decide)⟩

/-- What the invariant of the `j`-th hand-back on device `c` keeps: slot `j mod 4`, the last without the queries. -/
def backRes (c : Dev nD) (j : ℕ) : sProp 𝕄 :=
  iprop((if j < 4 then rowAny c 0 (slotN j) else emp) ∗ rowAny c 1 (slotN j) ∗ rowAny c 2 (slotN j))

instance hold_storable {s : Shape} {e : EltTy} (m : Memref sig .tc .vmem s e) (c : Dev nD) (x : s.Idx → Elt F e) :
    BI.Storable (upEmb : UEmb _ 𝕄) (hold m c x) := by unfold hold; infer_instance
instance holdAny_storable {s : Shape} {e : EltTy} (m : Memref sig .tc .vmem s e) (c : Dev nD) :
    BI.Storable (upEmb : UEmb _ 𝕄) (holdAny (F := F) m c) := by unfold holdAny; infer_instance
instance rowAt_storable (c : Dev nD) (r : Fin 3) (s : Fin 4) (x : Slot F) : BI.Storable (upEmb : UEmb _ 𝕄) (rowAt c r s x) := by
  unfold rowAt; split <;> infer_instance
instance rowAny_storable (c : Dev nD) (r : Fin 3) (s : Fin 4) : BI.Storable (upEmb : UEmb _ 𝕄) (rowAny (F := F) c r s) := by
  unfold rowAny; split <;> infer_instance
instance backRes_storable (c : Dev nD) (j : ℕ) : BI.Storable (upEmb : UEmb _ 𝕄) (backRes (F := F) c j) := by
  unfold backRes; split <;> infer_instance

/-! ## The schedule -/

/-- What one credit of device `c` says: hop `j`'s slot is handed back, and the cells hop `j` received on are at round 1. -/
def said (c : Dev nD) (j : ℕ) : sProp 𝕄 :=
  iprop(Release.released (ES F) (c, j) 1 ∗ (if j < 4 then bigSep Finset.univ (fun r => reached (ER F) (recvC c r (slotN (j + 1))) 1) else emp))
instance said_storable (c : Dev nD) (j : ℕ) : BI.Storable (upEmb : UEmb _ 𝕄) (said (F := F) c j) := by
  unfold said; split <;> infer_instance
instance said_persistent (c : Dev nD) (j : ℕ) : BI.Persistent (said (F := F) c j) := by
  unfold said; split <;> infer_instance

/-- What device `c`'s barrier gets: from the previous device, that its credit cell is open; from the next one, its slots 1, 2, 3
    and that its receive cells are open. -/
def barPay (c : Dev nD) (d : ℕ) : sProp 𝕄 :=
  if d = 0 then reached (ER F) (crC (prv c)) 0
  else iprop(bigSep Finset.univ (fun r => iprop(rowAny (nxt c) r 1 ∗ rowAny (nxt c) r 2 ∗ rowAny (nxt c) r 3))
    ∗ bigSep Finset.univ (fun r => bigSep Finset.univ (fun s => reached (ER F) (recvC (nxt c) r s) 0)))
instance barPay_storable (c : Dev nD) (d : ℕ) : BI.Storable (upEmb : UEmb _ 𝕄) (barPay (F := F) c d) := by
  unfold barPay; split <;> infer_instance

/-- What a credit `j` carries: everything said up to hop `j`. -/
def crPay (c : Dev nD) (j : ℕ) : sProp 𝕄 := bigSep (Finset.range (j + 1)) (fun i => said (F := F) (nxt c) i)
instance crPay_storable (c : Dev nD) (j : ℕ) : BI.Storable (upEmb : UEmb _ 𝕄) (crPay (F := F) c j) := by
  unfold crPay; infer_instance
instance crPay_persistent (c : Dev nD) (j : ℕ) : BI.Persistent (crPay (F := F) c j) := by
  unfold crPay; infer_instance

/-- The hop whose copy lands in slot `s` at round `ρ`. -/
def hopOf (s : Fin 4) (ρ : ℕ) : ℕ := 4 * ρ + (s.val + 3) % 4

def dutiesK (k : Kind) (ρ : ℕ) : Finset ℕ :=
  match k with
  | .bar => if ρ = 0 then {0, 1} else ∅
  | .credit => if ρ = 0 then Finset.range 5 else ∅
  | .send r s => if ρ = 0 ∨ (ρ = 1 ∧ ¬(r = 0 ∧ s = 3)) then {0} else ∅
  | .recv r s => if ρ = 0 ∨ (ρ = 1 ∧ ¬(r = 0 ∧ s = 0)) then {0} else ∅
  | .other => ∅

def amountK (k : Kind) : ℕ :=
  match k with
  | .bar => 1
  | .credit => 1
  | .send r _ => Nr r
  | .recv r _ => Nr r
  | .other => 1

def payK (A : Args F) (c : Dev nD) (k : Kind) (ρ d : ℕ) : sProp 𝕄 :=
  match k with
  | .bar => barPay c d
  | .credit => crPay c d
  | .send r s => rowAny c r s
  | .recv r s => rowAt c r s (st A (hopOf s ρ + 1) c)
  | .other => iprop(emp)

def Rd (A : Args F) : Schedule (GSem nD τ sig) ℕ 𝕄 where
  duties g ρ := if g.1.2 = .tc then dutiesK (kind g.2) ρ else ∅
  amount g _ _ := amountK (kind g.2)
  payload g ρ d := payK A g.1.1 (kind g.2) ρ d
  amount_pos g _ _ _ := by
    cases h : kind g.2 with
    | bar => exact Nat.one_pos
    | credit => exact Nat.one_pos
    | send r s => exact Nr_pos r
    | recv r s => exact Nr_pos r
    | other => exact Nat.one_pos

instance Rd_storable (A : Args F) (g : GSem nD τ sig) (ρ d : ℕ) : BI.Storable (upEmb : UEmb _ 𝕄) ((Rd A).payload g ρ d) := by
  show BI.Storable upEmb (payK A g.1.1 (kind g.2) ρ d)
  unfold payK; split <;> infer_instance

section Facts

variable (A : Args F) (c : Dev nD)

theorem duties_tc (sm : SemLoc sig) (ρ : ℕ) : (Rd A).duties ((c : Thread nD τ), sm) ρ = dutiesK (kind sm) ρ := by
  dsimp only [Rd]; exact if_pos rfl

theorem duties_bar : (Rd A).duties (barC c) 0 = {0, 1} := rfl
theorem duties_cr : (Rd A).duties (crC c) 0 = Finset.range 5 := rfl
theorem duties_send (r : Fin 3) (k : ℕ) (hk : k < 8) (hr : ¬(r = 0 ∧ k = 7)) : (Rd A).duties (sendC c r (slotN k)) (k / 4) = {0} := by
  rw [duties_tc, kind_send]
  refine if_pos ?_
  have h : ∀ (k : Fin 8) (r : Fin 3), ¬(r = 0 ∧ k.val = 7) → k.val / 4 = 0 ∨ k.val / 4 = 1 ∧ ¬(r = 0 ∧ slotN k.val = 3) := by decide
  exact h ⟨k, hk⟩ r hr
theorem duties_recv (r : Fin 3) (k : ℕ) (hk : k < 8) (hr : ¬(r = 0 ∧ k = 7)) : (Rd A).duties (recvC c r (slotN (k + 1))) (k / 4) = {0} := by
  rw [duties_tc, kind_recv]
  refine if_pos ?_
  have h : ∀ (k : Fin 8) (r : Fin 3), ¬(r = 0 ∧ k.val = 7) → k.val / 4 = 0 ∨ k.val / 4 = 1 ∧ ¬(r = 0 ∧ slotN (k.val + 1) = 0) := by decide
  exact h ⟨k, hk⟩ r hr

theorem amount_bar (ρ d : ℕ) : (Rd A).amount (barC c) ρ d = 1 := rfl
theorem amount_cr (ρ d : ℕ) : (Rd A).amount (crC c) ρ d = 1 := rfl
theorem amount_send (r : Fin 3) (s : Fin 4) (ρ d : ℕ) : (Rd A).amount (sendC c r s) ρ d = Nr r := by
  show amountK (kind (.dma (sendSem r s))) = _; rw [kind_send]; rfl
theorem amount_recv (r : Fin 3) (s : Fin 4) (ρ d : ℕ) : (Rd A).amount (recvC c r s) ρ d = Nr r := by
  show amountK (kind (.dma (recvSem r s))) = _; rw [kind_recv]; rfl

theorem pay_bar (ρ d : ℕ) : (Rd A).payload (barC c) ρ d = barPay c d := rfl
theorem pay_cr (ρ d : ℕ) : (Rd A).payload (crC c) ρ d = crPay c d := rfl
theorem pay_send (r : Fin 3) (s : Fin 4) (ρ d : ℕ) : (Rd A).payload (sendC c r s) ρ d = rowAny c r s := by
  show payK A c (kind (.dma (sendSem r s))) ρ d = _; rw [kind_send]; rfl
theorem hopOf_eq (k : ℕ) : hopOf (slotN (k + 1)) (k / 4) = k := by
  unfold hopOf slotN; show 4 * (k / 4) + ((k + 1) % 4 + 3) % 4 = k; omega
theorem pay_recv (r : Fin 3) (k d : ℕ) :
    (Rd A).payload (recvC c r (slotN (k + 1))) (k / 4) d = rowAt c r (slotN (k + 1)) (st A (k + 1) c) := by
  show payK A c (kind (.dma (recvSem r (slotN (k + 1))))) (k / 4) d = _
  rw [kind_recv]; show rowAt c r (slotN (k + 1)) (st A (hopOf (slotN (k + 1)) (k / 4) + 1) c) = _; rw [hopOf_eq]

theorem expect_bar : (Rd A).expect (barC c) 0 = 2 := rfl
theorem expect_cr : (Rd A).expect (crC c) 0 = 5 := rfl
theorem expect_send (r : Fin 3) (k : ℕ) (hk : k < 8) (hr : ¬(r = 0 ∧ k = 7)) : (Rd A).expect (sendC c r (slotN k)) (k / 4) = Nr r := by
  unfold Schedule.expect Schedule.amountOf; rw [duties_send A c r k hk hr, Finset.sum_singleton, amount_send]
theorem expect_recv (r : Fin 3) (k : ℕ) (hk : k < 8) (hr : ¬(r = 0 ∧ k = 7)) : (Rd A).expect (recvC c r (slotN (k + 1))) (k / 4) = Nr r := by
  unfold Schedule.expect Schedule.amountOf; rw [duties_recv A c r k hk hr, Finset.sum_singleton, amount_recv]

theorem rest_send (r : Fin 3) (k : ℕ) (hk : k < 8) (hr : ¬(r = 0 ∧ k = 7)) :
    bigSep ((Rd A).duties (sendC c r (slotN k)) (k / 4) \ ∅) (fun u => (Rd A).payload (sendC c r (slotN k)) (k / 4) u) = rowAny c r (slotN k) := by
  rw [Finset.sdiff_empty, duties_send A c r k hk hr, bigSep_singleton, pay_send]
theorem rest_recv (r : Fin 3) (k : ℕ) (hk : k < 8) (hr : ¬(r = 0 ∧ k = 7)) :
    bigSep ((Rd A).duties (recvC c r (slotN (k + 1))) (k / 4) \ ∅) (fun u => (Rd A).payload (recvC c r (slotN (k + 1))) (k / 4) u)
      = rowAt c r (slotN (k + 1)) (st A (k + 1) c) := by
  rw [Finset.sdiff_empty, duties_recv A c r k hk hr, bigSep_singleton, pay_recv]

end Facts

/-! ## What a device owes, and the levels of the credits -/

/-- What step `n` of device `c` pays another device: the copies of rows 0, 1, 2 and the credit of hop `n / 4`. -/
def debt (c : Dev nD) (n : ℕ) : CellTallies nD τ sig ℕ :=
  if n % 4 = 3 then (if n < 20 then tallyAt (crC (prv c)) n 1 else 0)
  else if n = 28 then 0 else tallyAt (recvC (nxt c) ⟨n % 4 % 3, Nat.mod_lt _ (by decide)⟩ (slotN (n / 4 + 1))) n (Nr ⟨n % 4 % 3, Nat.mod_lt _ (by decide)⟩)

/-- What is still owed from step `n` on. -/
def owed (c : Dev nD) (n : ℕ) : CellTallies nD τ sig ℕ := ∑ m ∈ Finset.Ico n 32, debt c m

theorem owed_succ (c : Dev nD) (n : ℕ) (h : n < 32) : owed c n = owed c (n + 1) + debt c n := by
  unfold owed
  have e : Finset.Ico n 32 = insert n (Finset.Ico (n + 1) 32) := by ext m; simp only [Finset.mem_Ico, Finset.mem_insert]; omega
  rw [e, Finset.sum_insert (by simp only [Finset.mem_Ico]; omega), add_comm]
theorem owed_end (c : Dev nD) : owed c 32 = 0 := by unfold owed; rw [Finset.Ico_self, Finset.sum_empty]

def O₀ (c : Dev nD) : CellTallies nD τ sig ℕ := owed c 0 + tallyAt (barC (nxt c)) 0 1 + tallyAt (barC (prv c)) 0 1

def L (g : GSem nD τ sig) : Finset ℕ := if g.1.2 = .tc then Finset.range 40 else ∅
/-- Barrier cells at 1; receive and credit cells by the step that pays; the rest at 0. -/
def lv (g : GSem nD τ sig) (u : ℕ) : ℕ :=
  match kind g.2 with
  | .bar => 1
  | .credit => u + 2
  | .recv _ _ => u + 2
  | _ => 0

theorem L_of_ne (g : GSem nD τ sig) (h : g.1.2 ≠ .tc) : L g = ∅ := if_neg h
theorem L_tc (c : Dev nD) (sm : SemLoc sig) : L ((c : Thread nD τ), sm) = Finset.range 40 := if_pos rfl

theorem debt_pos {c : Dev nD} {n : ℕ} (hn : n < 32) {g : GSem nD τ sig} {u : ℕ} (h : 0 < debt c n g u) : u ∈ L g ∧ u = n ∧ lv g u = n + 2 := by
  have key : ∀ (g' : GSem nD τ sig) (N : ℕ), g'.1.2 = .tc → lv g' n = n + 2 → 0 < tallyAt g' n N g u → u ∈ L g ∧ u = n ∧ lv g u = n + 2 := by
    intro g' N h1 h2 h
    rw [tallyAt_apply] at h
    split at h
    · next hg =>
      obtain ⟨rfl, rfl⟩ := hg
      exact ⟨by unfold L; rw [if_pos h1]; exact Finset.mem_range.mpr (by omega), rfl, h2⟩
    · exact absurd h (Nat.lt_irrefl 0)
  unfold debt at h
  split at h
  · split at h
    · exact key _ _ rfl rfl h
    · exact absurd h (Nat.lt_irrefl 0)
  · split at h
    · exact absurd h (Nat.lt_irrefl 0)
    · refine key _ _ rfl ?_ h
      unfold lv; dsimp only; rw [kind_recv]

theorem owed_pos {c : Dev nD} {n : ℕ} {g : GSem nD τ sig} {u : ℕ} (h : 0 < owed c n g u) : u ∈ L g ∧ n + 2 ≤ lv g u := by
  have hs : owed c n g u = ∑ m ∈ Finset.Ico n 32, debt c m g u := by
    unfold owed
    rw [Finset.sum_apply, Finsupp.finset_sum_apply]
  rw [hs] at h
  obtain ⟨m, hm, hp⟩ := Finset.exists_ne_zero_of_sum_ne_zero (Nat.pos_iff_ne_zero.mp h)
  have := debt_pos (Finset.mem_Ico.mp hm).2 (Nat.pos_of_ne_zero hp)
  exact ⟨this.1, by rw [this.2.2]; have := (Finset.mem_Ico.mp hm).1; omega⟩

/-- A wait below everything still owed from step `n` on. -/
theorem mayWait (c : Dev nD) (n : ℕ) (sm : SemLoc sig) (u : ℕ) (hu : u < 40) (hl : lv ((c : Thread nD τ), sm) u < n + 2) :
    (levAts L lv : sProp 𝕄) ⊢ MayWait (c : Thread nD τ) sm u (owed c n) :=
  MayOwe.of_cut (L := L) (lev := lv) (n + 1)
    (fun p hp => by rw [Finset.mem_singleton.mp hp, L_tc]; exact Finset.mem_range.mpr hu)
    (fun g u hg => (owed_pos hg).1)
    (fun p hp => by rw [Finset.mem_singleton.mp hp]; exact Nat.le_of_lt_succ hl)
    (fun g u hg => (owed_pos hg).2)

end Cert.RingProof

end
-- ==== Proof.Steps.lean ====
/-
  One step at a time: a row's copy, the waits for it to have left and for its like to have arrived, the credit that hands a
  slot back, the wait for one, and the entry barrier.
-/
module

public import proofs.«01_k».proof.Proof.Sched

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## What every step may use again and again -/

/-- The kernel's own semaphores: the credit, the send ones, the receive ones. -/
abbrev KI : Type := Unit ⊕ (Fin 3 × Fin 4) ⊕ (Fin 3 × Fin 4)
def osem : KI → SemLoc sig
  | .inl _ => .reg crS
  | .inr (.inl x) => .dma (sendSem x.1 x.2)
  | .inr (.inr x) => .dma (recvSem x.1 x.2)

def barEmb : Dev nD ↪ GSem nD τ sig := ⟨fun c => barC c, fun a b h => by
  have := congrArg (fun g : GSem nD τ sig => g.1.1) h; exact this⟩
theorem osem_inj : Function.Injective osem := by decide
def scEmb : Dev nD × KI ↪ GSem nD τ sig := ⟨fun x => ((x.1 : Thread nD τ), osem x.2), fun a b h => by
  have h1 := congrArg (fun g : GSem nD τ sig => g.1.1) h
  have h2 := congrArg (fun g : GSem nD τ sig => g.2) h
  exact Prod.ext h1 (osem_inj h2)⟩
def barCells : Finset (GSem nD τ sig) := Finset.univ.map barEmb
def scCells : Finset (GSem nD τ sig) := Finset.univ.map scEmb
def keys : Finset (Dev nD × ℕ) := Finset.univ ×ˢ Finset.range 5

theorem mem_bar (c : Dev nD) : barC c ∈ barCells ∪ scCells :=
  Finset.mem_union_left _ (Finset.mem_map.mpr ⟨c, Finset.mem_univ _, rfl⟩)
theorem mem_sc (c : Dev nD) (k : KI) : ((c : Thread nD τ), osem k) ∈ barCells ∪ scCells :=
  Finset.mem_union_right _ (Finset.mem_map.mpr ⟨(c, k), Finset.mem_univ _, rfl⟩)
theorem mem_cr (c : Dev nD) : crC c ∈ barCells ∪ scCells := mem_sc c (.inl ())
theorem mem_send (c : Dev nD) (r : Fin 3) (s : Fin 4) : sendC c r s ∈ barCells ∪ scCells := mem_sc c (.inr (.inl (r, s)))
theorem mem_recv (c : Dev nD) (r : Fin 3) (s : Fin 4) : recvC c r s ∈ barCells ∪ scCells := mem_sc c (.inr (.inr (r, s)))

variable (A : Args F)

/-- The invariants of all cells and of all hand-backs, and that the barriers are open. -/
def recs (κ : GSem nD τ sig → ℕ) (ι : Dev nD × ℕ → ℕ) : sProp 𝕄 :=
  iprop(bigSep (barCells ∪ scCells) (fun g => cellInv (ER F) (Rd A) (κ g) g)
    ∗ bigSep barCells (fun g => reached (ER F) g 0)
    ∗ bigSep keys (fun x => slotInv (ES F) (ι x) x (backRes (F := F) x.1 x.2)))
instance recs_persistent (κ : GSem nD τ sig → ℕ) (ι : Dev nD × ℕ → ℕ) : BI.Persistent (recs A κ ι) := by
  unfold recs; infer_instance

section Records
variable (κ : GSem nD τ sig → ℕ) (ι : Dev nD × ℕ → ℕ)

theorem recs_cell {g : GSem nD τ sig} (h : g ∈ barCells ∪ scCells) : recs A κ ι ⊢ cellInv (ER F) (Rd A) (κ g) g := by
  unfold recs
  exact (BI.sep_and.trans and_elimL).trans (bigSep_elim h)
theorem recs_bar (c : Dev nD) : recs A κ ι ⊢ reached (ER F) (barC c) 0 := by
  unfold recs
  exact (BI.sep_and.trans and_elimR).trans ((BI.sep_and.trans and_elimL).trans
    (bigSep_elim (i := barC c) (Finset.mem_map.mpr ⟨c, Finset.mem_univ _, rfl⟩)))
theorem recs_slot (c : Dev nD) (j : ℕ) (hj : j < 5) : recs A κ ι ⊢ slotInv (ES F) (ι (c, j)) (c, j) (backRes (F := F) c j) := by
  unfold recs
  exact (BI.sep_and.trans and_elimR).trans ((BI.sep_and.trans and_elimR).trans
    (bigSep_elim (i := (c, j)) (Finset.mem_product.mpr ⟨Finset.mem_univ _, Finset.mem_range.mpr hj⟩)))
end Records

/-- A device owes `O`, whatever it has waited for. -/
def owesE (c : Dev nD) (O : CellTallies nD τ sig ℕ) : sProp 𝕄 := iprop(∃ W, owes (c : Thread nD τ) O W)

/-! ## A row's copy -/

variable (c : Dev nD) (k : ℕ) (r : Fin 3)

/-- The tokens and positions one row's copy of hop `k` uses. -/
def rowRes : sProp 𝕄 :=
  iprop(dutyTok (ER F) (sendC c r (slotN k)) (k / 4) 0 ∗ dutyTok (ER F) (recvC (nxt c) r (slotN (k + 1))) (k / 4) 0
    ∗ cred (tallyAt (recvC c r (slotN (k + 1))) (4 * k + r.val) (Nr r)))
def rowPos : sProp 𝕄 :=
  iprop(atPos (ER F) (sendC c r (slotN k)) (k / 4) ∅ 0 ∗ reached (ER F) (sendC c r (slotN k)) (k / 4)
    ∗ atPos (ER F) (recvC c r (slotN (k + 1))) (k / 4) ∅ 0)
def rowReady : sProp 𝕄 :=
  iprop(rowAt c r (slotN k) (step A c (st A k c)) ∗ rowAny (nxt c) r (slotN (k + 1))
    ∗ reached (ER F) (recvC (nxt c) r (slotN (k + 1))) (k / 4) ∗ rowRes (F := F) c k r ∗ rowPos (F := F) c k r)
def rowSent : sProp 𝕄 :=
  iprop(cred (tallyAt (sendC c r (slotN k)) 0 (Nr r)) ∗ cred (tallyAt (recvC c r (slotN (k + 1))) (4 * k + r.val) (Nr r))
    ∗ atPos (ER F) (sendC c r (slotN k)) (k / 4) ∅ 0 ∗ atPos (ER F) (recvC c r (slotN (k + 1))) (k / 4) ∅ 0)
def rowHalf : sProp 𝕄 :=
  iprop(rowAny (F := F) c r (slotN k) ∗ cred (tallyAt (recvC c r (slotN (k + 1))) (4 * k + r.val) (Nr r))
    ∗ atPos (ER F) (sendC c r (slotN k)) (k / 4 + 1) ∅ 0 ∗ reached (ER F) (sendC c r (slotN k)) (k / 4 + 1)
    ∗ atPos (ER F) (recvC c r (slotN (k + 1))) (k / 4) ∅ 0)
def rowDone : sProp 𝕄 :=
  iprop(rowAny (F := F) c r (slotN k) ∗ rowAt c r (slotN (k + 1)) (st A (k + 1) c)
    ∗ atPos (ER F) (sendC c r (slotN k)) (k / 4 + 1) ∅ 0 ∗ reached (ER F) (sendC c r (slotN k)) (k / 4 + 1)
    ∗ atPos (ER F) (recvC c r (slotN (k + 1))) (k / 4 + 1) ∅ 0 ∗ reached (ER F) (recvC c r (slotN (k + 1))) (k / 4 + 1))

theorem debt_copy (hr : ¬(r = 0 ∧ k = 7)) : debt c (4 * k + r.val) = tallyAt (recvC (nxt c) r (slotN (k + 1))) (4 * k + r.val) (Nr r) := by
  have h3 := r.isLt
  have e : (⟨(4 * k + r.val) % 4 % 3, Nat.mod_lt _ (by decide)⟩ : Fin 3) = r := Fin.ext (by show (4 * k + r.val) % 4 % 3 = r.val; omega)
  have e2 : (4 * k + r.val) / 4 = k := by omega
  have hn : ¬(4 * k + r.val = 28) := fun h => hr ⟨Fin.ext (by show r.val = 0; omega), by omega⟩
  unfold debt
  rw [if_neg (by omega), if_neg hn, e, e2]
theorem debt_none : debt c 28 = 0 := by unfold debt; rw [if_neg (by decide), if_pos rfl]
theorem debt_credit (hk : k < 5) : debt c (4 * k + 3) = tallyAt (crC (prv c)) (4 * k + 3) 1 := by
  unfold debt; rw [if_pos (by omega), if_pos (by omega)]
theorem debt_nocredit (hk : 5 ≤ k) : debt c (4 * k + 3) = 0 := by
  unfold debt; rw [if_pos (by omega), if_neg (by omega)]

section Rows

variable {defs : Defs nD τ sig (Elt F) Λ₀} (𝒱 : Variants) (bd : Option 𝒱.V) {α : Type}
variable (κ : GSem nD τ sig → ℕ) (ι : Dev nD × ℕ → ℕ)

/-- Row `r` of a slot is the memref `X` of it, at `pr` of the slot's contents. -/
structure IsRow (r : Fin 3) {s : Shape} {e : EltTy} (X : Fin 4 → Memref sig .tc .vmem s e) (pr : Slot F → s.Idx → Elt F e) : Prop where
  at_ : ∀ c t x, (rowAt c r t x : sProp 𝕄) = hold (X t) c (pr x)
  any : ∀ c t, (rowAny c r t : sProp 𝕄) = holdAny (X t) c
  credit : ∀ t, (X t).view.dmaCredit = Nr r
  step : ∀ k, pr (st A (k + 1) (nxt c)) = pr (step A c (st A k c))

theorem isRow0 : IsRow A c 0 qS (fun x => x.1) where
  at_ _ _ _ := rfl
  any _ _ := rfl
  credit _ := rfl
  step k := by show (step A (prv (nxt c)) (st A k (prv (nxt c)))).1 = _; rw [prv_nxt]
theorem isRow1 : IsRow A c 1 cS (fun x => x.2.1) where
  at_ _ _ _ := rfl
  any _ _ := rfl
  credit _ := rfl
  step k := by show (step A (prv (nxt c)) (st A k (prv (nxt c)))).2.1 = _; rw [prv_nxt]
theorem isRow2 : IsRow A c 2 sS (fun x => x.2.2) where
  at_ _ _ _ := rfl
  any _ _ := rfl
  credit _ := rfl
  step k := by show (step A (prv (nxt c)) (st A k (prv (nxt c)))).2.2 = _; rw [prv_nxt]

variable {s : Shape} {e : EltTy} {X : Fin 4 → Memref sig .tc .vmem s e} {pr : Slot F → s.Idx → Elt F e}

set_option maxHeartbeats 800000 in
theorem send_step (hX : IsRow A c r X pr) (hk : k < 8) (hr : ¬(r = 0 ∧ k = 7))
    {src dst : Memref sig .tc .vmem s e} {dev : Dev nD} {snd rcv : DmaSem sig}
    (h1 : src = X (slotN k)) (h2 : dst = X (slotN (k + 1))) (h3 : dev = nxt c) (h4 : snd = sendSem r (slotN k)) (h5 : rcv = recvSem r (slotN (k + 1)))
    {hsc : dst.view.ref.isScScratch = false} {hsrc : src.view.WordExact} {hdst : dst.view.WordExact}
    {hsem : DmaTarget.Typed .vmem (.dma rcv) (.remote (Dev.tc dev : Thread nD τ) dst (.dma snd) hsc)}
    {kk : PUnit → Prog (TpuEff nD τ sig (Elt F) Λ₀ .tc) α} {Q : α → sProp 𝕄} :
    iprop(recs A κ ι ∗ rowReady A c k r ∗ owesE c (owed c (4 * k + r.val)))
      ⊢ iprop(((rowSent c k r ∗ owesE c (owed c (4 * k + r.val + 1))) -∗ wp frame (wpE defs 𝒱 (c : Thread nD τ) bd) Set.univ (kk ⟨⟩) Q)
        -∗ wp frame (wpE defs 𝒱 (c : Thread nD τ) bd) Set.univ
          (.op (.enqueueDma src (.remote (Dev.tc dev : Thread nD τ) dst (.dma snd) hsc) (.dma rcv) hsrc hdst hsem) kk) Q) := by
  subst h1 h2 h3 h4 h5
  unfold rowReady rowRes rowPos rowSent owesE
  rw [hX.at_, hX.any]
  unfold hold holdAny
  iintro ⟨#HI, ⟨⟨%f, Hf, %hf⟩, ⟨%fd, Hd⟩, Hrv, ⟨Ht1, Ht2, Hcr⟩, Hp1, Hr1, Hp2⟩, ⟨%W, HO⟩⟩ Hk
  iapply (Rounds.wp_send_pointsTo 𝒱 (ER F) (Rd A) (c : Thread nD τ) bd (c' := (nxt c : Thread nD τ)) (src := X (slotN k)) (dst := X (slotN (k + 1)))
      (sS := .dma (sendSem r (slotN k))) (sem := .dma (recvSem r (slotN (k + 1)))) (q := fullShare) (fs := f) (fd := fd)
      (κ₁ := κ (sendC c r (slotN k))) (κ₂ := κ (recvC (nxt c) r (slotN (k + 1))))
      (r₁ := k / 4) (r₂ := k / 4) (d₁ := 0) (d₂ := 0)
      (by rw [duties_send A c r k hk hr]; exact Finset.mem_singleton_self _) (by rw [duties_recv A (nxt c) r k hk hr]; exact Finset.mem_singleton_self _)
      (4 * k + r.val) 0 (Nr r) (hX.credit _) (amount_send A c r _ _ _) (amount_recv A (nxt c) r _ _ _)
      (O₀ := owed c (4 * k + r.val)) (owed c (4 * k + r.val + 1)) (by have := r.isLt; rw [owed_succ c _ (by omega), debt_copy c k r hr]) (W := W)
      (by rw [pay_send, hX.any]; unfold holdAny; iintro H; iexists f; iexact H)
      (by
        rw [pay_recv, hX.at_, hX.step]; unfold hold
        iintro H
        iexists _
        isplitl [H]; · iexact H
        ipureintro
        rw [View.read_write_univ, hf])) $$ [Hf Hd HO Ht1 Hr1 Ht2 Hrv]
  · isplitr; · iapply (recs_cell A κ ι (mem_send c r _)); iexact HI
    isplitr; · iapply (recs_cell A κ ι (mem_recv (nxt c) r _)); iexact HI
    isplitl [Hf]; · iexact Hf
    isplitl [Hd]; · iexact Hd
    isplitl [HO]; · iexact HO
    isplitl [Ht1]; · iexact Ht1
    isplitl [Hr1]; · iexact Hr1
    isplitl [Ht2]; · iexact Ht2
    iexact Hrv
  iintro ⟨Hc, HO⟩
  iapply Hk
  isplitl [Hc Hcr Hp1 Hp2]
  · isplitl [Hc]; · iexact Hc
    isplitl [Hcr]; · iexact Hcr
    isplitl [Hp1]; · iexact Hp1
    iexact Hp2
  iexists W; iexact HO

theorem wait_send_step (hk : k < 8) (hr : ¬(r = 0 ∧ k = 7)) (n : ℕ)
    {sp sp' : Space} {s' : Shape} {e' : EltTy} {s e} {src : Memref sig .tc sp' s' e'} {dst : Memref sig .tc sp s e} {snd : DmaSem sig}
    {hsrc : src.view.WordExact} {hdst : dst.view.WordExact}
    (h4 : snd = sendSem r (slotN k)) (hN : dst.view.dmaCredit = Nr r)
    {kk : PUnit → Prog (TpuEff nD τ sig (Elt F) Λ₀ .tc) α} {Q : α → sProp 𝕄} :
    iprop(recs A κ ι ∗ levAts L lv ∗ rowSent c k r ∗ owesE c (owed c n))
      ⊢ iprop(((rowHalf c k r ∗ owesE c (owed c n)) -∗ wp frame (wpE defs 𝒱 (c : Thread nD τ) bd) Set.univ (kk ⟨⟩) Q)
        -∗ wp frame (wpE defs 𝒱 (c : Thread nD τ) bd) Set.univ (.op (.waitDma2 snd src dst hsrc hdst) kk) Q) := by
  subst h4
  unfold rowSent rowHalf owesE
  iintro ⟨#HI, #Hlev, ⟨Hc, Hcr, Hp1, Hp2⟩, ⟨%W, HO⟩⟩ Hk
  iapply (Rounds.wp_wait_rest_token 𝒱 (ER F) (Rd A) (c : Thread nD τ) bd (κ := κ (sendC c r (slotN k)))
      (wpE_waitDma2_eq 𝒱 (c : Thread nD τ) bd Set.univ) (Set.mem_univ _) 0 (O := owed c n) (W := W) (R := k / 4) (m := 0) (T := ∅)
      (by rw [Nat.zero_add, expect_send A c r k hk hr, hN])) $$ [Hc HO Hp1]
  · isplitr; · iapply (recs_cell A κ ι (mem_send c r _)); iexact HI
    isplitl [Hc]; · rw [hN]; iexact Hc
    isplitl [HO]; · iexact HO
    isplitr
    · iapply (mayWait c n _ 0 (by omega) (by unfold lv; dsimp only; rw [kind_send]; dsimp only; omega)); iexact Hlev
    iexact Hp1
  iintro ⟨HO, Hp1, Hr1, Hpay⟩
  ihave Hx := (Entails.of_eq (rest_send A c r k hk hr)) $$ Hpay
  iapply Hk
  isplitl [Hx Hcr Hp1 Hr1 Hp2]
  · isplitl [Hx]; · iexact Hx
    isplitl [Hcr]; · iexact Hcr
    isplitl [Hp1]; · iexact Hp1
    isplitl [Hr1]; · iexact Hr1
    iexact Hp2
  iexists _; iexact HO

theorem wait_recv_step (hk : k < 8) (hr : ¬(r = 0 ∧ k = 7)) (n : ℕ) (hn : 4 * k + r.val < n)
    {sp sp' : Space} {s' : Shape} {e' : EltTy} {s e} {src : Memref sig .tc sp' s' e'} {dst : Memref sig .tc sp s e} {rcv : DmaSem sig}
    {hsrc : src.view.WordExact} {hdst : dst.view.WordExact}
    (h5 : rcv = recvSem r (slotN (k + 1))) (hN : dst.view.dmaCredit = Nr r)
    {kk : PUnit → Prog (TpuEff nD τ sig (Elt F) Λ₀ .tc) α} {Q : α → sProp 𝕄} :
    iprop(recs A κ ι ∗ levAts L lv ∗ rowHalf c k r ∗ owesE c (owed c n))
      ⊢ iprop(((rowDone A c k r ∗ owesE c (owed c n)) -∗ wp frame (wpE defs 𝒱 (c : Thread nD τ) bd) Set.univ (kk ⟨⟩) Q)
        -∗ wp frame (wpE defs 𝒱 (c : Thread nD τ) bd) Set.univ (.op (.waitDma2 rcv src dst hsrc hdst) kk) Q) := by
  subst h5
  unfold rowHalf rowDone owesE
  iintro ⟨#HI, #Hlev, ⟨Hx, Hcr, Hp1, Hr1, Hp2⟩, ⟨%W, HO⟩⟩ Hk
  iapply (Rounds.wp_wait_rest_token 𝒱 (ER F) (Rd A) (c : Thread nD τ) bd (κ := κ (recvC c r (slotN (k + 1))))
      (wpE_waitDma2_eq 𝒱 (c : Thread nD τ) bd Set.univ) (Set.mem_univ _) (4 * k + r.val) (O := owed c n) (W := W) (R := k / 4) (m := 0) (T := ∅)
      (by rw [Nat.zero_add, expect_recv A c r k hk hr, hN])) $$ [Hcr HO Hp2]
  · isplitr; · iapply (recs_cell A κ ι (mem_recv c r _)); iexact HI
    isplitl [Hcr]; · rw [hN]; iexact Hcr
    isplitl [HO]; · iexact HO
    isplitr
    · iapply (mayWait c n _ _ (by have := r.isLt; omega) (by unfold lv; dsimp only; rw [kind_recv]; dsimp only; omega)); iexact Hlev
    iexact Hp2
  iintro ⟨HO, Hp2, Hr2, Hpay⟩
  ihave Hy := (Entails.of_eq (rest_recv A c r k hk hr)) $$ Hpay
  iapply Hk
  isplitl [Hx Hy Hp1 Hr1 Hp2 Hr2]
  · isplitl [Hx]; · iexact Hx
    isplitl [Hy]; · iexact Hy
    isplitl [Hp1]; · iexact Hp1
    isplitl [Hr1]; · iexact Hr1
    isplitl [Hp2]; · iexact Hp2
    iexact Hr2
  iexists _; iexact HO

end Rows

/-! ## The credits -/

theorem holdAny_false {s : Shape} {e : EltTy} (m : Memref sig .tc .vmem s e) (c : Dev nD) (h : m.view.set.Nonempty) :
    iprop(holdAny (F := F) m c ∗ holdAny m c) ⊢ (False : sProp 𝕄) := by
  unfold holdAny
  obtain ⟨i, hi⟩ := h
  iintro ⟨⟨%f, H1⟩, ⟨%g, H2⟩⟩
  iapply (pointsTo_overlap_false (ℓ := m.view.loc (c : Thread nD τ)) (I := m.view.set) (J := m.view.set) (q := fullShare) (f := f) (g := g) hi hi)
  isplitl [H1] <;> iassumption

theorem back_false (j : ℕ) : iprop(backRes (F := F) c j ∗ backRes c j) ⊢ (False : sProp 𝕄) := by
  unfold backRes
  iintro ⟨⟨-, H1, -⟩, ⟨-, H2, -⟩⟩
  have h := holdAny_false (F := F) (cS (slotN j)) c ⟨_, View.emb_mem_set _ (fun a => ⟨0, by revert a; decide⟩)⟩
  unfold rowAny
  iapply h
  isplitl [H1]
  · iexact H1
  · iexact H2

/-- A conjunction over the three rows. -/
def rows3 (Φ : Fin 3 → sProp 𝕄) : sProp 𝕄 := iprop(Φ 0 ∗ Φ 1 ∗ Φ 2)
theorem bigSep_fin3 (Φ : Fin 3 → sProp 𝕄) : bigSep Finset.univ Φ = rows3 Φ :=
  bigSep_univ_eq_bigSepL [0, 1, 2] (by decide) (by decide) Φ
instance rows3_persistent (Φ : Fin 3 → sProp 𝕄) [∀ r, BI.Persistent (Φ r)] : BI.Persistent (rows3 Φ) := by unfold rows3; infer_instance

/-- What device `c` has said before hop `k`. -/
def saids : sProp 𝕄 := bigSep (Finset.range (min k 5)) (fun i => said (F := F) c i)
instance saids_persistent : BI.Persistent (saids (F := F) c k) := by unfold saids; infer_instance

theorem saids_succ (hk : k < 5) : iprop(said (F := F) c k ∗ saids c k) ⊢ saids c (k + 1) :=
  Entails.of_eq (by
    unfold saids
    rw [show min (k + 1) 5 = k + 1 by omega, show min k 5 = k by omega, Finset.range_add_one, bigSep_insert Finset.notMem_range_self]
    rfl)

/-- Device `c`'s credit cell after `m` waits. -/
def crSt (m : ℕ) : sProp 𝕄 :=
  if m = 5 then atPos (ER F) (crC c) 1 ∅ 0
  else iprop(∃ S : Finset ℕ, ⌜S ⊆ Finset.range 5 ∧ m + (Finset.range 5 \ S).card ≤ 5⌝ ∗ atPos (ER F) (crC c) 0 S m ∗ bigSep S (fun d => crPay (F := F) c d))

theorem crPay_mono {d m : ℕ} (h : m ≤ d) : crPay (F := F) c d ⊢ crPay c m :=
  bigSep_subset (Finset.range_subset_range.mpr (Nat.succ_le_succ h))

theorem big_elim {I : Type} [DecidableEq I] {s : Finset I} {i : I} (Φ : I → sProp 𝕄) (h : i ∈ s) : bigSep s Φ ⊢ Φ i := bigSep_elim h
theorem big_join {I : Type} [DecidableEq I] {s t : Finset I} (Φ : I → sProp 𝕄) (h : t ⊆ s) : iprop(bigSep t Φ ∗ bigSep (s \ t) Φ) ⊢ bigSep s Φ :=
  Entails.of_eq (by conv_rhs => rw [← Finset.union_sdiff_of_subset h, bigSep_union Finset.disjoint_sdiff]
                    rfl)
theorem pay_crs (T : Finset ℕ) : bigSep T (fun d => (Rd A).payload (crC c) 0 d) ⊢ bigSep T (fun d => crPay (F := F) c d) := BI.Entails.refl _
theorem crPay_pick {S : Finset ℕ} {d m : ℕ} (hd : d ∈ S) (h : m ≤ d) : bigSep S (fun d => crPay (F := F) c d) ⊢ crPay (F := F) c m :=
  (bigSep_elim hd).trans (crPay_mono c h)

/-- Among the credits that came with `m + 1` waits one is at least the `m`-th. -/
theorem credit_pick {S : Finset ℕ} {m : ℕ} (hS : S ⊆ Finset.range 5) (h : m + 1 + (Finset.range 5 \ S).card ≤ 5) : ∃ d ∈ S, m ≤ d := by
  by_contra hc
  push Not at hc
  have h1 : S ⊆ Finset.range m := fun d hd => Finset.mem_range.mpr (hc d hd)
  have h2 := Finset.card_le_card h1
  rw [Finset.card_range] at h2
  have h3 := Finset.card_sdiff_add_card_eq_card hS
  rw [Finset.card_range] at h3
  omega

/-- The cells hop `k` received on are at round 1. -/
def opened : sProp 𝕄 := if k < 4 then bigSep Finset.univ (fun r => reached (ER F) (recvC c r (slotN (k + 1))) 1) else iprop(emp)
instance opened_persistent : BI.Persistent (opened (F := F) c k) := by unfold opened; split <;> infer_instance

section Credit

variable {defs : Defs nD τ sig (Elt F) Λ₀} (𝒱 : Variants) (bd : Option 𝒱.V) {α : Type}
variable (κ : GSem nD τ sig → ℕ) (ι : Dev nD × ℕ → ℕ)

theorem credit_wait_step (m : ℕ) (hm : m < 5) {a : ℤ} (ha : a = 1) {sem : Sem sig} (hs : sem = crS)
    {kk : PUnit → Prog (TpuEff nD τ sig (Elt F) Λ₀ .tc) α} {Q : α → sProp 𝕄} :
    iprop(recs A κ ι ∗ levAts L lv ∗ crSt (F := F) c m ∗ cred (tallyAt (crC c) (4 * m + 3) 1) ∗ owesE c (owed c (4 * (m + 3))))
      ⊢ iprop(((crSt (F := F) c (m + 1) ∗ crPay (F := F) c m ∗ owesE c (owed c (4 * (m + 3)))) -∗ wp frame (wpE defs 𝒱 (c : Thread nD τ) bd) Set.univ (kk ⟨⟩) Q)
        -∗ wp frame (wpE defs 𝒱 (c : Thread nD τ) bd) Set.univ (.op (.semWait sem a) kk) Q) := by
  subst ha hs
  unfold crSt owesE
  rw [if_neg (by omega)]
  by_cases h4 : m = 4
  · subst h4
    rw [if_pos rfl]
    iintro ⟨#HI, #Hlev, ⟨%S, %hS, Hp, #Hpay⟩, Hc, ⟨%W, HO⟩⟩ Hk
    iapply (Rounds.wp_wait_rest_token 𝒱 (ER F) (Rd A) (c : Thread nD τ) bd (κ := κ (crC c))
        (wpE_semWait_eq 𝒱 (c : Thread nD τ) bd Set.univ) (Set.mem_univ _) (4 * 4 + 3) (k' := 1) (O := owed c (4 * (4 + 3))) (W := W) (R := 0) (m := 4) (T := S)
        (by rw [expect_cr])) $$ [Hc HO Hp]
    · isplitr; · iapply (recs_cell A κ ι (mem_cr c)); iexact HI
      isplitl [Hc]; · iexact Hc
      isplitl [HO]; · iexact HO
      isplitr
      · iapply (mayWait c _ _ _ (by omega) (by unfold lv; dsimp only; rw [kind_cr]; dsimp only; omega)); iexact Hlev
      iexact Hp
    iintro ⟨HO, Hp, -, Hrest⟩
    iapply Hk
    isplitl [Hp]; · iexact Hp
    isplitl [Hrest]
    · by_cases h : 4 ∈ S
      · iapply (crPay_pick c h (le_refl 4)); iexact Hpay
      · ihave Hrest := (pay_crs A c _) $$ Hrest
        iapply (big_elim (s := (Rd A).duties (crC c) 0 \ S) (i := 4) (fun d => crPay (F := F) c d)
          (Finset.mem_sdiff.mpr ⟨by rw [duties_cr]; decide, h⟩)); iexact Hrest
    iexists _; iexact HO
  · rw [if_neg (by omega)]
    iintro ⟨#HI, #Hlev, ⟨%S, %hS, Hp, #Hpay⟩, Hc, ⟨%W, HO⟩⟩ Hk
    iapply (Rounds.wp_wait 𝒱 (ER F) (Rd A) (c : Thread nD τ) bd (κ := κ (crC c))
        (wpE_semWait_eq 𝒱 (c : Thread nD τ) bd Set.univ) (Set.mem_univ _) (cr := Finsupp.single (4 * m + 3) 1) (k' := 1) (O := owed c (4 * (m + 3))) (W := W)
        {(SemLoc.reg crS, 4 * m + 3)} (R := 0) (m := m) (T := S) (by rw [Util.total_single]) (image_single_subset _ _ _)) $$ [Hc HO Hp]
    · isplitr; · iapply (recs_cell A κ ι (mem_cr c)); iexact HI
      isplitl [Hc]; · iexact Hc
      isplitl [HO]; · iexact HO
      isplitr
      · iapply (mayWait c _ _ _ (by omega) (by unfold lv; dsimp only; rw [kind_cr]; dsimp only; omega)); iexact Hlev
      iexact Hp
    iintro %S' ⟨%hS', HO, Hp, Hnew⟩
    ihave #Hnew := (pay_crs A c _) $$ Hnew
    obtain ⟨hTS, hSd, hcard⟩ := hS'
    rw [duties_cr] at hSd hcard
    rw [expect_cr] at hcard
    ihave #Hall : (bigSep S' (fun d => crPay (F := F) c d)) $$ []
    · iapply (big_join (fun d => crPay (F := F) c d) hTS)
      isplitr
      · iexact Hpay
      · iexact Hnew
    iapply Hk
    isplitl [Hp]
    · iexists S'
      isplitr; · ipureintro; exact ⟨hSd, hcard⟩
      isplitl [Hp]; · iexact Hp
      iexact Hall
    isplitr
    · obtain ⟨d, hd, hmd⟩ := credit_pick hSd hcard
      iapply (crPay_pick c hd hmd); iexact Hall
    iexists _; iexact HO

theorem credit_signal_step (hk : k < 5) {a : ℤ} (ha : a = 1) {sem : Sem sig} (hs : sem = crS) {dev : Dev nD} (hd : dev = prv c)
    {kk : PUnit → Prog (TpuEff nD τ sig (Elt F) Λ₀ .tc) α} {Q : α → sProp 𝕄} :
    iprop(recs A κ ι ∗ reached (ER F) (crC (prv c)) 0 ∗ saids (F := F) c k ∗ dutyTok (ER F) (crC (prv c)) 0 k ∗ readerAt (ES F) (c, k) 0 ∗ backRes (F := F) c k
        ∗ opened (F := F) c k ∗ owesE c (owed c (4 * k + 3)))
      ⊢ iprop(((saids (F := F) c (k + 1) ∗ owesE c (owed c (4 * (k + 1)))) -∗ wp frame (wpE defs 𝒱 (c : Thread nD τ) bd) Set.univ (kk ⟨⟩) Q)
        -∗ wp frame (wpE defs 𝒱 (c : Thread nD τ) bd) Set.univ (.op (.semSignal (dev, .tc) sem a) kk) Q) := by
  subst ha hs hd
  unfold owesE
  iintro ⟨#HI, #Hr, #Hsd, Ht, Hrd, Hb, #Hrv, ⟨%W, HO⟩⟩ Hk
  ihave Hinv := (recs_slot A κ ι c k hk) $$ HI
  imod (slot_release (ES F) (Set.mem_univ (ι (c, k))) (back_false c k) 0) $$ [Hinv Hrd Hb] with ⟨-, #Hw⟩
  · isplitl [Hinv]; · iexact Hinv
    isplitl [Hrd]; · iexact Hrd
    iexact Hb
  ihave #Hall : (saids (F := F) c (k + 1)) $$ []
  · iapply (saids_succ c k hk)
    isplitr
    · unfold said
      isplitr
      · iexact Hw
      · unfold opened; iexact Hrv
    · iexact Hsd
  iapply (Rounds.wp_signal 𝒱 (ER F) (Rd A) (c : Thread nD τ) bd (dst := (prv c : Thread nD τ)) (sem := crS) (r := 0) (d := k) (k' := 1) (κ := κ (crC (prv c)))
      (by rw [duties_cr]; exact Finset.mem_range.mpr hk) (amount_cr A (prv c) 0 k) (4 * k + 3) (O₀ := owed c (4 * k + 3)) (owed c (4 * (k + 1)))
      (by rw [owed_succ c _ (by omega), debt_credit c k hk]; rfl)) $$ [HO Ht]
  · isplitr; · iapply (recs_cell A κ ι (mem_cr (prv c))); iexact HI
    isplitl [HO]; · iexact HO
    isplitl [Ht]; · iexact Ht
    isplitr
    · rw [pay_cr]; unfold crPay; rw [nxt_prv]
      unfold saids; rw [show min (k + 1) 5 = k + 1 by omega]
      iexact Hall
    · iexact Hr
  iintro HO
  iapply Hk
  isplitr; · iexact Hall
  iexists _; iexact HO

end Credit

end Cert.RingProof

end
-- ==== Proof.Hop.lean ====
/-
  A hop: the loop over the slot, the credit for the slot ahead (from hop 3 on), the copies to the next device with their waits,
  and the credit that hands the slot back (up to hop 4). `Start` is what a device has before hop `k`; each of the four kinds of
  hop takes it to the next.
-/
module

public import proofs.«01_k».proof.Proof.Steps

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The slots as printed -/

theorem qslot (s : Fin 4) {o : Fin 5 → ℕ} {inb} (ho : o = Matrix.vecCons s.val fun _ => 0) :
    (qM.slice (Rect.unit (s := S4x8x4x64x128) o S1x8x4x64x128.size inb) (fun _ => rfl)).squeeze S8x4x64x128 squeezes_S1x8x4x64x128_S8x4x64x128 = qS s := by
  subst ho; rfl
theorem cslot (s : Fin 4) {o : Fin 5 → ℕ} {inb} (ho : o = Matrix.vecCons s.val fun _ => 0) :
    (cM.slice (Rect.unit (s := S4x8x4x64x128) o S1x8x4x64x128.size inb) (fun _ => rfl)).squeeze S8x4x64x128 squeezes_S1x8x4x64x128_S8x4x64x128 = cS s := by
  subst ho; rfl
theorem sslot (s : Fin 4) {o : Fin 5 → ℕ} {inb} (ho : o = Matrix.vecCons s.val fun _ => 0) :
    (sM.slice (Rect.unit (s := S4x8x4x64x2) o S1x8x4x64x2.size inb) (fun _ => rfl)).squeeze S8x4x64x2 squeezes_S1x8x4x64x2_S8x4x64x2 = sS s := by
  subst ho; rfl

/-! ## What a device has before hop `k` -/

variable (A : Args F) (c : Dev nD) (k : ℕ)

/-- The rows hop `k` copies: all, but the queries no more at hop 7. -/
def sends (Φ : Fin 3 → sProp 𝕄) : sProp 𝕄 := iprop((if k = 7 then emp else Φ 0) ∗ Φ 1 ∗ Φ 2)

/-- What hop `k` uses up. -/
def hopRes : sProp 𝕄 :=
  iprop(sends k (rowRes (F := F) c k)
    ∗ (if k < 5 then iprop(dutyTok (ER F) (crC (prv c)) 0 k ∗ readerAt (ES F) (c, k) 0) else emp)
    ∗ (if 3 ≤ k then iprop(cred (tallyAt (crC c) (4 * (k - 3) + 3) 1) ∗ writeTok (ES F) (nxt c, k - 3) 1) else emp))

/-- Slots of `c` that are back for good. -/
def backs : sProp 𝕄 :=
  iprop((if 5 ≤ k then rowAny (F := F) c 0 0 else emp) ∗ bigSep (Finset.Ico 5 k) (fun j => rows3 fun r => rowAny (F := F) c r (slotN j)))

/-- What stays true throughout. -/
def ctx (κ : GSem nD τ sig → ℕ) (ι : Dev nD × ℕ → ℕ) : sProp 𝕄 :=
  iprop(recs A κ ι ∗ levAts L lv ∗ reached (ER F) (crC (prv c)) 0
    ∗ bigSep Finset.univ (fun r => bigSep Finset.univ (fun s => reached (ER F) (recvC (nxt c) r s) 0)))
instance ctx_persistent (κ : GSem nD τ sig → ℕ) (ι : Dev nD × ℕ → ℕ) : BI.Persistent (ctx A c κ ι) := by unfold ctx; infer_instance

/-- The positions a device waits at next. -/
def poss : sProp 𝕄 := bigSep (Finset.Ico k (k + 4)) (fun j => rows3 (rowPos (F := F) c j))
/-- The next device's slots in hand from the start. -/
def aheads : sProp 𝕄 := bigSep (Finset.Ico (k + 1) 4) (fun t => rows3 fun r => rowAny (F := F) (nxt c) r (slotN t))

def Start : sProp 𝕄 :=
  iprop(slotAt c (slotN k) (st A k c).1 (st A k c).2 ∗ hold ktM c (A.kt c) ∗ hold vM c (A.v c) ∗ owesE c (owed c (4 * k))
    ∗ bigSep (Finset.Ico k 8) (hopRes (F := F) c) ∗ poss (F := F) c k ∗ aheads (F := F) c k ∗ crSt (F := F) c (k - 3) ∗ saids (F := F) c k ∗ backs (F := F) c k)

/-- What a device has after hop 7. -/
def Done : sProp 𝕄 :=
  iprop(rowAny (F := F) c 0 0 ∗ rowAt c 1 0 (st A 8 c) ∗ rowAt c 2 0 (st A 8 c) ∗ hold ktM c (A.kt c) ∗ hold vM c (A.v c) ∗ owesE c 0
    ∗ (bigSep (Finset.Ico 8 11) (fun j => rows3 (rowPos (F := F) c j)) ∗ rowPos (F := F) c 7 0 ∗ rowPos (F := F) c 11 1 ∗ rowPos (F := F) c 11 2)
    ∗ crSt (F := F) c 5 ∗ bigSep (Finset.Ico 5 8) (fun j => rows3 fun r => rowAny (F := F) c r (slotN j)))

/-! ## Taking the families apart -/

theorem ico_left {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) by ext m; simp only [Finset.mem_Ico, Finset.mem_insert]; omega,
    bigSep_insert (by simp only [Finset.mem_Ico]; omega)]
  rfl
theorem ico_right {a b : ℕ} (h : a ≤ b) (Φ : ℕ → sProp 𝕄) : bigSep (Finset.Ico a (b + 1)) Φ = iprop(Φ b ∗ bigSep (Finset.Ico a b) Φ) := by
  rw [show Finset.Ico a (b + 1) = insert b (Finset.Ico a b) by ext m; simp only [Finset.mem_Ico, Finset.mem_insert]; omega,
    bigSep_insert (by simp only [Finset.mem_Ico]; omega)]
  rfl

theorem slotN_add4 : slotN (k + 4) = slotN k := Fin.ext (by show (k + 4) % 4 = k % 4; omega)
theorem slotN_add5 : slotN (k + 4 + 1) = slotN (k + 1) := Fin.ext (by show (k + 4 + 1) % 4 = (k + 1) % 4; omega)

/-- The positions after a row's copy are those of four hops later. -/
theorem rowPos_next (r : Fin 3) :
    iprop(atPos (ER F) (sendC c r (slotN k)) (k / 4 + 1) ∅ 0 ∗ reached (ER F) (sendC c r (slotN k)) (k / 4 + 1)
      ∗ atPos (ER F) (recvC c r (slotN (k + 1))) (k / 4 + 1) ∅ 0) ⊢ rowPos (F := F) c (k + 4) r := by
  unfold rowPos
  rw [slotN_add4, slotN_add5, show (k + 4) / 4 = k / 4 + 1 by omega]

theorem poss_step : iprop(bigSep (Finset.Ico (k + 1) (k + 4)) (fun j => rows3 (rowPos (F := F) c j)) ∗ rows3 (rowPos (F := F) c (k + 4))) ⊢ poss (F := F) c (k + 1) := by
  unfold poss
  rw [show k + 1 + 4 = k + 4 + 1 by omega, ico_right (a := k + 1) (b := k + 4) (by omega)]
  iintro ⟨H1, H2⟩
  isplitl [H2] <;> iassumption

section Run

variable {defs : Defs nD τ sig (Elt F) Λ₀} (𝒱 : Variants) (bd : Option 𝒱.V) {α : Type}
variable (κ : GSem nD τ sig → ℕ) (ι : Dev nD × ℕ → ℕ)

/-- The three copies of a hop and their waits. -/
theorem copies3 (hk : k < 7)
    {q1 q2 : Memref sig .tc .vmem S8x4x64x128 .bf16} {c1 c2 : Memref sig .tc .vmem S8x4x64x128 .f32} {s1 s2 : Memref sig .tc .vmem S8x4x64x2 .f32}
    {dq dc ds : Dev nD} {sq sc ss rq rc rs sq' sc' ss' rq' rc' rs' : DmaSem sig}
    {q3 q4 q5 q6 : Memref sig .tc .vmem S8x4x64x128 .bf16} {c3 c4 c5 c6 : Memref sig .tc .vmem S8x4x64x128 .f32} {s3 s4 s5 s6 : Memref sig .tc .vmem S8x4x64x2 .f32}
    (hq1 : q1 = qS (slotN k)) (hq2 : q2 = qS (slotN (k + 1))) (hdq : dq = nxt c) (hsq : sq = sendSem 0 (slotN k)) (hrq : rq = recvSem 0 (slotN (k + 1)))
    (hc1 : c1 = cS (slotN k)) (hc2 : c2 = cS (slotN (k + 1))) (hdc : dc = nxt c) (hsc : sc = sendSem 1 (slotN k)) (hrc : rc = recvSem 1 (slotN (k + 1)))
    (hs1 : s1 = sS (slotN k)) (hs2 : s2 = sS (slotN (k + 1))) (hds : ds = nxt c) (hss : ss = sendSem 2 (slotN k)) (hrs : rs = recvSem 2 (slotN (k + 1)))
    (hsq' : sq' = sendSem 0 (slotN k)) (hrq' : rq' = recvSem 0 (slotN (k + 1))) (hq4 : q4.view.dmaCredit = Nr 0) (hq6 : q6.view.dmaCredit = Nr 0)
    (hsc' : sc' = sendSem 1 (slotN k)) (hrc' : rc' = recvSem 1 (slotN (k + 1))) (hc4 : c4.view.dmaCredit = Nr 1) (hc6 : c6.view.dmaCredit = Nr 1)
    (hss' : ss' = sendSem 2 (slotN k)) (hrs' : rs' = recvSem 2 (slotN (k + 1))) (hs4 : s4.view.dmaCredit = Nr 2) (hs6 : s6.view.dmaCredit = Nr 2)
    {a1 a2 a3 a4 b1 b2 b3 b4 e1 e2 e3 e4 f1 f2 f3 f4 g1 g2 g3 g4 h1 h2 h3 h4}
    {kk : PUnit → Prog (TpuEff nD τ sig (Elt F) Λ₀ .tc) α} {Q : α → sProp 𝕄} :
    iprop(recs A κ ι ∗ levAts L lv ∗ rowReady A c k 0 ∗ rowReady A c k 1 ∗ rowReady A c k 2 ∗ owesE c (owed c (4 * k)))
      ⊢ iprop(((rowDone A c k 0 ∗ rowDone A c k 1 ∗ rowDone A c k 2 ∗ owesE c (owed c (4 * k + 3)))
          -∗ wp frame (wpE defs 𝒱 (c : Thread nD τ) bd) Set.univ (kk ⟨⟩) Q)
        -∗ wp frame (wpE defs 𝒱 (c : Thread nD τ) bd) Set.univ
          (.op (.enqueueDma q1 (.remote (Dev.tc dq : Thread nD τ) q2 (.dma sq) a1) (.dma rq) a2 a3 a4) fun _ =>
            .op (.enqueueDma c1 (.remote (Dev.tc dc : Thread nD τ) c2 (.dma sc) b1) (.dma rc) b2 b3 b4) fun _ =>
            .op (.enqueueDma s1 (.remote (Dev.tc ds : Thread nD τ) s2 (.dma ss) e1) (.dma rs) e2 e3 e4) fun _ =>
            .op (.waitDma2 sq' q3 q4 f1 f2) fun _ => .op (.waitDma2 rq' q5 q6 f3 f4) fun _ =>
            .op (.waitDma2 sc' c3 c4 g1 g2) fun _ => .op (.waitDma2 rc' c5 c6 g3 g4) fun _ =>
            .op (.waitDma2 ss' s3 s4 h1 h2) fun _ => .op (.waitDma2 rs' s5 s6 h3 h4) kk) Q) := by
  have n0 : ¬((0 : Fin 3) = 0 ∧ k = 7) := by omega
  have n1 : ¬((1 : Fin 3) = 0 ∧ k = 7) := by omega
  have n2 : ¬((2 : Fin 3) = 0 ∧ k = 7) := by omega
  iintro ⟨#HI, #Hlev, R0, R1, R2, HO⟩ Hk
  iapply (send_step A c k 0 𝒱 bd κ ι (isRow0 A c) (by omega) n0 hq1 hq2 hdq hsq hrq) $$ [R0 HO]
  · isplitr; · iexact HI
    isplitl [R0]; · iexact R0
    iexact HO
  iintro ⟨R0, HO⟩
  iapply (send_step A c k 1 𝒱 bd κ ι (isRow1 A c) (by omega) n1 hc1 hc2 hdc hsc hrc) $$ [R1 HO]
  · isplitr; · iexact HI
    isplitl [R1]; · iexact R1
    iexact HO
  iintro ⟨R1, HO⟩
  iapply (send_step A c k 2 𝒱 bd κ ι (isRow2 A c) (by omega) n2 hs1 hs2 hds hss hrs) $$ [R2 HO]
  · isplitr; · iexact HI
    isplitl [R2]; · iexact R2
    iexact HO
  iintro ⟨R2, HO⟩
  iapply (wait_send_step A c k 0 𝒱 bd κ ι (by omega) n0 (4 * k + 3) hsq' hq4) $$ [R0 HO]
  · isplitr; · iexact HI
    isplitr; · iexact Hlev
    isplitl [R0]; · iexact R0
    iexact HO
  iintro ⟨R0, HO⟩
  iapply (wait_recv_step A c k 0 𝒱 bd κ ι (by omega) n0 (4 * k + 3) (Nat.add_lt_add_left (by decide) _) hrq' hq6) $$ [R0 HO]
  · isplitr; · iexact HI
    isplitr; · iexact Hlev
    isplitl [R0]; · iexact R0
    iexact HO
  iintro ⟨R0, HO⟩
  iapply (wait_send_step A c k 1 𝒱 bd κ ι (by omega) n1 (4 * k + 3) hsc' hc4) $$ [R1 HO]
  · isplitr; · iexact HI
    isplitr; · iexact Hlev
    isplitl [R1]; · iexact R1
    iexact HO
  iintro ⟨R1, HO⟩
  iapply (wait_recv_step A c k 1 𝒱 bd κ ι (by omega) n1 (4 * k + 3) (Nat.add_lt_add_left (by decide) _) hrc' hc6) $$ [R1 HO]
  · isplitr; · iexact HI
    isplitr; · iexact Hlev
    isplitl [R1]; · iexact R1
    iexact HO
  iintro ⟨R1, HO⟩
  iapply (wait_send_step A c k 2 𝒱 bd κ ι (by omega) n2 (4 * k + 3) hss' hs4) $$ [R2 HO]
  · isplitr; · iexact HI
    isplitr; · iexact Hlev
    isplitl [R2]; · iexact R2
    iexact HO
  iintro ⟨R2, HO⟩
  iapply (wait_recv_step A c k 2 𝒱 bd κ ι (by omega) n2 (4 * k + 3) (Nat.add_lt_add_left (by decide) _) hrs' hs6) $$ [R2 HO]
  · isplitr; · iexact HI
    isplitr; · iexact Hlev
    isplitl [R2]; · iexact R2
    iexact HO
  iintro ⟨R2, HO⟩
  iapply Hk
  isplitl [R0]; · iexact R0
  isplitl [R1]; · iexact R1
  isplitl [R2]; · iexact R2
  iexact HO

/-- The two copies of hop 7 and their waits. -/
theorem copies2
    {c1 c2 : Memref sig .tc .vmem S8x4x64x128 .f32} {s1 s2 : Memref sig .tc .vmem S8x4x64x2 .f32}
    {dc ds : Dev nD} {sc ss rc rs sc' ss' rc' rs' : DmaSem sig}
    {c3 c4 c5 c6 : Memref sig .tc .vmem S8x4x64x128 .f32} {s3 s4 s5 s6 : Memref sig .tc .vmem S8x4x64x2 .f32}
    (hc1 : c1 = cS (slotN 7)) (hc2 : c2 = cS (slotN (7 + 1))) (hdc : dc = nxt c) (hsc : sc = sendSem 1 (slotN 7)) (hrc : rc = recvSem 1 (slotN (7 + 1)))
    (hs1 : s1 = sS (slotN 7)) (hs2 : s2 = sS (slotN (7 + 1))) (hds : ds = nxt c) (hss : ss = sendSem 2 (slotN 7)) (hrs : rs = recvSem 2 (slotN (7 + 1)))
    (hsc' : sc' = sendSem 1 (slotN 7)) (hrc' : rc' = recvSem 1 (slotN (7 + 1))) (hc4 : c4.view.dmaCredit = Nr 1) (hc6 : c6.view.dmaCredit = Nr 1)
    (hss' : ss' = sendSem 2 (slotN 7)) (hrs' : rs' = recvSem 2 (slotN (7 + 1))) (hs4 : s4.view.dmaCredit = Nr 2) (hs6 : s6.view.dmaCredit = Nr 2)
    {b1 b2 b3 b4 e1 e2 e3 e4 g1 g2 g3 g4 h1 h2 h3 h4}
    {kk : PUnit → Prog (TpuEff nD τ sig (Elt F) Λ₀ .tc) α} {Q : α → sProp 𝕄} :
    iprop(recs A κ ι ∗ levAts L lv ∗ rowReady A c 7 1 ∗ rowReady A c 7 2 ∗ owesE c (owed c 28))
      ⊢ iprop(((rowDone A c 7 1 ∗ rowDone A c 7 2 ∗ owesE c 0)
          -∗ wp frame (wpE defs 𝒱 (c : Thread nD τ) bd) Set.univ (kk ⟨⟩) Q)
        -∗ wp frame (wpE defs 𝒱 (c : Thread nD τ) bd) Set.univ
          (.op (.enqueueDma c1 (.remote (Dev.tc dc : Thread nD τ) c2 (.dma sc) b1) (.dma rc) b2 b3 b4) fun _ =>
            .op (.enqueueDma s1 (.remote (Dev.tc ds : Thread nD τ) s2 (.dma ss) e1) (.dma rs) e2 e3 e4) fun _ =>
            .op (.waitDma2 sc' c3 c4 g1 g2) fun _ => .op (.waitDma2 rc' c5 c6 g3 g4) fun _ =>
            .op (.waitDma2 ss' s3 s4 h1 h2) fun _ => .op (.waitDma2 rs' s5 s6 h3 h4) kk) Q) := by
  have n1 : ¬((1 : Fin 3) = 0 ∧ 7 = 7) := by decide
  have n2 : ¬((2 : Fin 3) = 0 ∧ 7 = 7) := by decide
  have e0 : owed c 28 = owed c (4 * 7 + (1 : Fin 3).val) := by rw [owed_succ c 28 (by decide), debt_none, add_zero]; rfl
  have e3 : owed c (4 * 7 + 3) = 0 := by rw [owed_succ c (4 * 7 + 3) (by decide), debt_nocredit c 7 (by decide), owed_end, add_zero]
  rw [e0]
  iintro ⟨#HI, #Hlev, R1, R2, HO⟩ Hk
  iapply (send_step A c 7 1 𝒱 bd κ ι (isRow1 A c) (by omega) n1 hc1 hc2 hdc hsc hrc) $$ [R1 HO]
  · isplitr; · iexact HI
    isplitl [R1]; · iexact R1
    iexact HO
  iintro ⟨R1, HO⟩
  iapply (send_step A c 7 2 𝒱 bd κ ι (isRow2 A c) (by omega) n2 hs1 hs2 hds hss hrs) $$ [R2 HO]
  · isplitr; · iexact HI
    isplitl [R2]; · iexact R2
    iexact HO
  iintro ⟨R2, HO⟩
  iapply (wait_send_step A c 7 1 𝒱 bd κ ι (by omega) n1 (4 * 7 + 3) hsc' hc4) $$ [R1 HO]
  · isplitr; · iexact HI
    isplitr; · iexact Hlev
    isplitl [R1]; · iexact R1
    iexact HO
  iintro ⟨R1, HO⟩
  iapply (wait_recv_step A c 7 1 𝒱 bd κ ι (by omega) n1 (4 * 7 + 3) (Nat.add_lt_add_left (by decide) _) hrc' hc6) $$ [R1 HO]
  · isplitr; · iexact HI
    isplitr; · iexact Hlev
    isplitl [R1]; · iexact R1
    iexact HO
  iintro ⟨R1, HO⟩
  iapply (wait_send_step A c 7 2 𝒱 bd κ ι (by omega) n2 (4 * 7 + 3) hss' hs4) $$ [R2 HO]
  · isplitr; · iexact HI
    isplitr; · iexact Hlev
    isplitl [R2]; · iexact R2
    iexact HO
  iintro ⟨R2, HO⟩
  iapply (wait_recv_step A c 7 2 𝒱 bd κ ι (by omega) n2 (4 * 7 + 3) (Nat.add_lt_add_left (by decide) _) hrs' hs6) $$ [R2 HO]
  · isplitr; · iexact HI
    isplitr; · iexact Hlev
    isplitl [R2]; · iexact R2
    iexact HO
  rw [e3]
  iintro ⟨R2, HO⟩
  iapply Hk
  isplitl [R1]; · iexact R1
  isplitl [R2]; · iexact R2
  iexact HO

/-! ## The rules of a hop -/

/-- The credit's part of what hop `k` uses up, after its wait. -/
def sigRes : sProp 𝕄 := if k < 5 then iprop(dutyTok (ER F) (crC (prv c)) 0 k ∗ readerAt (ES F) (c, k) 0) else iprop(emp)

/-- What hop `k` keeps unchanged. -/
def Keep : sProp 𝕄 :=
  iprop(hold ktM c (A.kt c) ∗ hold vM c (A.v c) ∗ bigSep (Finset.Ico (k + 1) 8) (hopRes (F := F) c) ∗ saids (F := F) c k ∗ backs (F := F) c k)

/-- After the loop. -/
def Mid : sProp 𝕄 :=
  iprop(slotAt c (slotN k) (step A c (st A k c)).1 (step A c (st A k c)).2 ∗ owesE c (owed c (4 * k)) ∗ hopRes (F := F) c k
    ∗ poss (F := F) c k ∗ aheads (F := F) c k ∗ crSt (F := F) c (k - 3) ∗ Keep A c k)

/-- The slot ahead and its cells. -/
def dests : sProp 𝕄 := sends k fun r => iprop(rowAny (F := F) (nxt c) r (slotN (k + 1)) ∗ reached (ER F) (recvC (nxt c) r (slotN (k + 1))) (k / 4))

/-- With the slot ahead in hand. -/
def Ahead : sProp 𝕄 :=
  iprop(slotAt c (slotN k) (step A c (st A k c)).1 (step A c (st A k c)).2 ∗ owesE c (owed c (4 * k)) ∗ sends k (rowRes (F := F) c k) ∗ sigRes (F := F) c k
    ∗ poss (F := F) c k ∗ dests (F := F) c k ∗ aheads (F := F) c (k + 1) ∗ crSt (F := F) c (k + 1 - 3) ∗ Keep A c k)

/-- After the copies. -/
def After : sProp 𝕄 :=
  iprop(slotAt c (slotN (k + 1)) (st A (k + 1) c).1 (st A (k + 1) c).2 ∗ rows3 (fun r => rowAny (F := F) c r (slotN k)) ∗ owesE c (owed c (4 * k + 3)) ∗ sigRes (F := F) c k
    ∗ opened (F := F) c k ∗ poss (F := F) c (k + 1) ∗ aheads (F := F) c (k + 1) ∗ crSt (F := F) c (k + 1 - 3) ∗ Keep A c k)

variable {R : sProp (MT nD τ sig ℕ (Elt F) ℕ UU ℕ)}

theorem loop_rule (hk : k < 8) {ok : L32.OK} {body : Fin L32.trips → Unit → Prog (TpuEff nD τ sig (Elt F) Λ₀ .tc) Unit} (hb : IsHop (slotN k) body)
    {kk : Unit → Prog (TpuEff nD τ sig (Elt F) Λ₀ .tc) α} {Q : α → sProp 𝕄}
    (H : iprop(ctx A c κ ι ∗ Mid A c k ∗ R) ⊢ wp frame (wpE defs 𝒱 (c : Thread nD τ) bd) Set.univ (kk ()) Q) :
    iprop(ctx A c κ ι ∗ Start A c k ∗ R) ⊢ wp frame (wpE defs 𝒱 (c : Thread nD τ) bd) Set.univ (Scf.Loop.for L32 ok ⟨⟩ body >>= kk) Q := by
  unfold Start
  rw [ico_left hk]
  iintro ⟨#HI, ⟨Hs, Hkt, Hv, HO, ⟨Hres, Hress⟩, Hpos, Hah, Hcr, Hsd, Hbk⟩, HR⟩
  iapply (hop_run 𝒱 c bd (slotN k) hb (st A k c).1 (A.kt c) (A.v c) (st A k c).2) $$ [Hs Hkt Hv]
  · isplitl [Hs]; · iexact Hs
    isplitl [Hkt]; · iexact Hkt
    iexact Hv
  iintro ⟨Hs, Hkt, Hv⟩
  iapply H
  isplitr; · iexact HI
  isplitr [HR]
  · unfold Mid Keep
    isplitl [Hs]; · iexact Hs
    isplitl [HO]; · iexact HO
    isplitl [Hres]; · iexact Hres
    isplitl [Hpos]; · iexact Hpos
    isplitl [Hah]; · iexact Hah
    isplitl [Hcr]; · iexact Hcr
    isplitl [Hkt]; · iexact Hkt
    isplitl [Hv]; · iexact Hv
    isplitl [Hress]; · iexact Hress
    isplitl [Hsd]; · iexact Hsd
    iexact Hbk
  · iexact HR

theorem recv_reached (r : Fin 3) (s : Fin 4) : ctx A c κ ι ⊢ reached (ER F) (recvC (nxt c) r s) 0 := by
  unfold ctx
  iintro ⟨-, -, -, H⟩
  ihave H := (big_elim (fun r => bigSep Finset.univ (fun s => reached (ER F) (recvC (nxt c) r s) 0)) (Finset.mem_univ r)) $$ H
  iapply (big_elim (fun s => reached (ER F) (recvC (nxt c) r s) 0) (Finset.mem_univ s)) $$ H

/-- Before hop 3 the slot ahead is in hand. -/
theorem ahead_first (hk : k < 3) : iprop(ctx A c κ ι ∗ Mid A c k) ⊢ Ahead A c k := by
  have h0 : k / 4 = 0 := by omega
  unfold Mid Ahead hopRes dests sends aheads sigRes
  rw [ico_left (a := k + 1) (b := 4) (by omega)]
  simp only [if_neg (show ¬3 ≤ k by omega), if_neg (show ¬k = 7 by omega), h0, show k - 3 = 0 by omega, show k + 1 - 3 = 0 by omega]
  unfold rows3
  iintro ⟨#HI, ⟨Hs, HO, ⟨Hrow, Hsig, -⟩, Hpos, ⟨⟨D0, D1, D2⟩, Hah⟩, Hcr, HK⟩⟩
  isplitl [Hs]; · iexact Hs
  isplitl [HO]; · iexact HO
  isplitl [Hrow]; · iexact Hrow
  isplitl [Hsig]; · iexact Hsig
  isplitl [Hpos]; · iexact Hpos
  isplitl [D0 D1 D2]
  · isplitl [D0]
    · isplitl [D0]; · iexact D0
      iapply (recv_reached A c κ ι 0 _); iexact HI
    isplitl [D1]
    · isplitl [D1]; · iexact D1
      iapply (recv_reached A c κ ι 1 _); iexact HI
    isplitl [D2]; · iexact D2
    iapply (recv_reached A c κ ι 2 _); iexact HI
  isplitl [Hah]; · iexact Hah
  isplitl [Hcr]; · iexact Hcr
  iexact HK

theorem said_pick {m i : ℕ} (h : i ≤ m) : crPay (F := F) c m ⊢ said (nxt c) i :=
  big_elim (fun i => said (F := F) (nxt c) i) (Finset.mem_range.mpr (Nat.lt_succ_of_le h))

/-- From hop 3 on the credits received say how far the cells ahead are. -/
theorem recv_ready (m : ℕ) (hm : m < 5) (r : Fin 3) :
    iprop(ctx A c κ ι ∗ crPay (F := F) c m) ⊢ reached (ER F) (recvC (nxt c) r (slotN (m + 3 + 1))) ((m + 3) / 4) := by
  rcases m with _ | m
  · iintro ⟨H, -⟩
    iapply (recv_reached A c κ ι r _) $$ H
  · rw [show (m + 1 + 3) / 4 = 1 by omega, show m + 1 + 3 + 1 = m + 1 + 4 by omega, slotN_add4]
    iintro ⟨-, H⟩
    ihave H := (said_pick (F := F) c (Nat.le_succ m)) $$ H
    unfold said
    rw [if_pos (by omega)]
    icases H with ⟨-, H⟩
    iapply (big_elim (fun r => reached (ER F) (recvC (nxt c) r (slotN (m + 1))) 1) (Finset.mem_univ r)) $$ H

theorem dest_q (m : ℕ) (hm : m < 5) :
    iprop(ctx A c κ ι ∗ crPay (F := F) c m ∗ (if m < 4 then rowAny (F := F) (nxt c) 0 (slotN m) else emp))
      ⊢ (if m + 3 = 7 then iprop(emp) else iprop(rowAny (F := F) (nxt c) 0 (slotN (m + 3 + 1)) ∗ reached (ER F) (recvC (nxt c) 0 (slotN (m + 3 + 1))) ((m + 3) / 4))) := by
  by_cases h : m = 4
  · rw [if_pos (show m + 3 = 7 by omega)]
    iintro H; iempintro
  · rw [if_neg (show ¬m + 3 = 7 by omega), if_pos (show m < 4 by omega)]
    iintro ⟨#HI, #Hpay, D0⟩
    isplitl [D0]
    · rw [show m + 3 + 1 = m + 4 by omega, slotN_add4]; iexact D0
    · iapply (recv_ready A c κ ι m hm 0); isplitr
      · iexact HI
      · iexact Hpay

theorem credit_rule (m : ℕ) (hm : m < 5) {a : ℤ} (ha : a = 1) {sem : Sem sig} (hs : sem = crS)
    {kk : PUnit → Prog (TpuEff nD τ sig (Elt F) Λ₀ .tc) α} {Q : α → sProp 𝕄}
    (H : iprop(ctx A c κ ι ∗ Ahead A c (m + 3) ∗ R) ⊢ wp frame (wpE defs 𝒱 (c : Thread nD τ) bd) Set.univ (kk ⟨⟩) Q) :
    iprop(ctx A c κ ι ∗ Mid A c (m + 3) ∗ R) ⊢ wp frame (wpE defs 𝒱 (c : Thread nD τ) bd) Set.univ (.op (.semWait sem a) kk) Q := by
  unfold Mid hopRes aheads
  rw [if_pos (show 3 ≤ m + 3 by omega), show m + 3 - 3 = m by omega]
  iintro ⟨#HI, ⟨Hs, HO, ⟨Hrow, Hsig, ⟨Hc, Hw⟩⟩, Hpos, -, Hcr, HK⟩, HR⟩
  ihave #HJ := (show ctx A c κ ι ⊢ iprop(recs A κ ι ∗ levAts L lv) by unfold ctx; iintro ⟨H1, H2, -⟩; isplitl [H1] <;> iassumption) $$ HI
  icases HJ with ⟨#Hrec, #Hlev⟩
  iapply (credit_wait_step A c 𝒱 bd κ ι m hm ha hs) $$ [Hcr Hc HO]
  · isplitr; · iexact Hrec
    isplitr; · iexact Hlev
    isplitl [Hcr]; · iexact Hcr
    isplitl [Hc]; · iexact Hc
    iexact HO
  iintro ⟨Hcr, #Hpay, HO⟩
  ihave #Hsd := (said_pick (F := F) c (le_refl m)) $$ Hpay
  ihave #Hinv := (recs_slot A κ ι (nxt c) m hm) $$ Hrec
  imod (slot_take (ES F) (Set.mem_univ (ι (nxt c, m))) 1) $$ [Hw] with Hb
  · isplitr; · iexact Hinv
    isplitr
    · unfold said; icases Hsd with ⟨H, -⟩; iexact H
    iexact Hw
  iapply H
  isplitr; · iexact HI
  isplitr [HR]
  · unfold Ahead dests sends sigRes aheads
    rw [show m + 3 + 1 - 3 = m + 1 by omega, show Finset.Ico (m + 3 + 1 + 1) 4 = ∅ from Finset.Ico_eq_empty (by omega), bigSep_empty]
    unfold backRes
    icases Hb with ⟨D0, D1, D2⟩
    isplitl [Hs]; · iexact Hs
    isplitl [HO]; · iexact HO
    isplitl [Hrow]; · iexact Hrow
    isplitl [Hsig]; · iexact Hsig
    isplitl [Hpos]; · iexact Hpos
    isplitl [D0 D1 D2]
    · isplitl [D0]
      · iapply (dest_q A c κ ι m hm)
        isplitr; · iexact HI
        isplitr; · iexact Hpay
        iexact D0
      isplitl [D1]
      · isplitl [D1]
        · rw [show m + 3 + 1 = m + 4 by omega, slotN_add4]; iexact D1
        · iapply (recv_ready A c κ ι m hm 1); isplitr
          · iexact HI
          · iexact Hpay
      isplitl [D2]
      · rw [show m + 3 + 1 = m + 4 by omega, slotN_add4]; iexact D2
      · iapply (recv_ready A c κ ι m hm 2); isplitr
        · iexact HI
        · iexact Hpay
    isplitr; · iempintro
    isplitl [Hcr]; · iexact Hcr
    iexact HK
  · iexact HR

/-- A row's copy, finished: the rows, and the positions it moved. -/
theorem rowDone_split (r : Fin 3) :
    rowDone A c k r ⊢ iprop(rowAny (F := F) c r (slotN k) ∗ rowAt c r (slotN (k + 1)) (st A (k + 1) c) ∗ rowPos (F := F) c (k + 4) r
      ∗ reached (ER F) (recvC c r (slotN (k + 1))) (k / 4 + 1)) := by
  unfold rowDone
  iintro ⟨H1, H2, H3, H4, H5, H6⟩
  isplitl [H1]; · iexact H1
  isplitl [H2]; · iexact H2
  isplitl [H3 H4 H5]
  · iapply (rowPos_next (F := F) c k r)
    isplitl [H3]; · iexact H3
    isplitl [H4]; · iexact H4
    iexact H5
  iexact H6

theorem copies_rule (hk : k < 7)
    {q1 q2 : Memref sig .tc .vmem S8x4x64x128 .bf16} {c1 c2 : Memref sig .tc .vmem S8x4x64x128 .f32} {s1 s2 : Memref sig .tc .vmem S8x4x64x2 .f32}
    {dq dc ds : Dev nD} {sq sc ss rq rc rs sq' sc' ss' rq' rc' rs' : DmaSem sig}
    {q3 q4 q5 q6 : Memref sig .tc .vmem S8x4x64x128 .bf16} {c3 c4 c5 c6 : Memref sig .tc .vmem S8x4x64x128 .f32} {s3 s4 s5 s6 : Memref sig .tc .vmem S8x4x64x2 .f32}
    {a1 a2 a3 a4 b1 b2 b3 b4 e1 e2 e3 e4 f1 f2 f3 f4 g1 g2 g3 g4 h1 h2 h3 h4}
    {kk : PUnit → Prog (TpuEff nD τ sig (Elt F) Λ₀ .tc) α} {Q : α → sProp 𝕄}
    (H : iprop(ctx A c κ ι ∗ After A c k ∗ R) ⊢ wp frame (wpE defs 𝒱 (c : Thread nD τ) bd) Set.univ (kk ⟨⟩) Q)
    (hq1 : q1 = qS (slotN k) := by exact qslot _ (by decide)) (hq2 : q2 = qS (slotN (k + 1)) := by exact qslot _ (by decide))
    (hc1 : c1 = cS (slotN k) := by exact cslot _ (by decide)) (hc2 : c2 = cS (slotN (k + 1)) := by exact cslot _ (by decide))
    (hs1 : s1 = sS (slotN k) := by exact sslot _ (by decide)) (hs2 : s2 = sS (slotN (k + 1)) := by exact sslot _ (by decide))
    (hdq : dq = nxt c := by assumption) (hdc : dc = nxt c := by assumption) (hds : ds = nxt c := by assumption)
    (hsq : sq = sendSem 0 (slotN k) := by rfl) (hrq : rq = recvSem 0 (slotN (k + 1)) := by rfl)
    (hsc : sc = sendSem 1 (slotN k) := by rfl) (hrc : rc = recvSem 1 (slotN (k + 1)) := by rfl)
    (hss : ss = sendSem 2 (slotN k) := by rfl) (hrs : rs = recvSem 2 (slotN (k + 1)) := by rfl)
    (hsq' : sq' = sendSem 0 (slotN k) := by rfl) (hrq' : rq' = recvSem 0 (slotN (k + 1)) := by rfl)
    (hsc' : sc' = sendSem 1 (slotN k) := by rfl) (hrc' : rc' = recvSem 1 (slotN (k + 1)) := by rfl)
    (hss' : ss' = sendSem 2 (slotN k) := by rfl) (hrs' : rs' = recvSem 2 (slotN (k + 1)) := by rfl)
    (hq4 : q4.view.dmaCredit = Nr 0 := by rfl) (hq6 : q6.view.dmaCredit = Nr 0 := by rfl)
    (hc4 : c4.view.dmaCredit = Nr 1 := by rfl) (hc6 : c6.view.dmaCredit = Nr 1 := by rfl)
    (hs4 : s4.view.dmaCredit = Nr 2 := by rfl) (hs6 : s6.view.dmaCredit = Nr 2 := by rfl) :
    iprop(ctx A c κ ι ∗ Ahead A c k ∗ R) ⊢ wp frame (wpE defs 𝒱 (c : Thread nD τ) bd) Set.univ
          (.op (.enqueueDma q1 (.remote (Dev.tc dq : Thread nD τ) q2 (.dma sq) a1) (.dma rq) a2 a3 a4) fun _ =>
            .op (.enqueueDma c1 (.remote (Dev.tc dc : Thread nD τ) c2 (.dma sc) b1) (.dma rc) b2 b3 b4) fun _ =>
            .op (.enqueueDma s1 (.remote (Dev.tc ds : Thread nD τ) s2 (.dma ss) e1) (.dma rs) e2 e3 e4) fun _ =>
            .op (.waitDma2 sq' q3 q4 f1 f2) fun _ => .op (.waitDma2 rq' q5 q6 f3 f4) fun _ =>
            .op (.waitDma2 sc' c3 c4 g1 g2) fun _ => .op (.waitDma2 rc' c5 c6 g3 g4) fun _ =>
            .op (.waitDma2 ss' s3 s4 h1 h2) fun _ => .op (.waitDma2 rs' s5 s6 h3 h4) kk) Q := by
  unfold Ahead slotAt poss dests sends
  rw [if_neg (show ¬k = 7 by omega), if_neg (show ¬k = 7 by omega), ico_left (show k < k + 4 by omega)]
  unfold rows3
  iintro ⟨#HI, ⟨⟨Hq, Hc, Hs⟩, HO, ⟨T0, T1, T2⟩, Hsig, ⟨⟨P0, P1, P2⟩, Hpos⟩, ⟨⟨D0, E0⟩, ⟨D1, E1⟩, ⟨D2, E2⟩⟩, Hah, Hcr, HK⟩, HR⟩
  ihave #HJ := (show ctx A c κ ι ⊢ iprop(recs A κ ι ∗ levAts L lv) by unfold ctx; iintro ⟨H1, H2, -⟩; isplitl [H1] <;> iassumption) $$ HI
  icases HJ with ⟨#Hrec, #Hlev⟩
  iapply (copies3 A c k 𝒱 bd κ ι hk hq1 hq2 hdq hsq hrq hc1 hc2 hdc hsc hrc hs1 hs2 hds hss hrs hsq' hrq' hq4 hq6 hsc' hrc' hc4 hc6 hss' hrs' hs4 hs6)
    $$ [Hq Hc Hs HO T0 T1 T2 P0 P1 P2 D0 D1 D2 E0 E1 E2]
  · isplitr; · iexact Hrec
    isplitr; · iexact Hlev
    unfold rowReady
    isplitl [Hq D0 E0 T0 P0]
    · isplitl [Hq]; · unfold rowAt; iexact Hq
      isplitl [D0]; · iexact D0
      isplitl [E0]; · iexact E0
      isplitl [T0]; · iexact T0
      iexact P0
    isplitl [Hc D1 E1 T1 P1]
    · isplitl [Hc]; · unfold rowAt; iexact Hc
      isplitl [D1]; · iexact D1
      isplitl [E1]; · iexact E1
      isplitl [T1]; · iexact T1
      iexact P1
    isplitl [Hs D2 E2 T2 P2]
    · isplitl [Hs]; · unfold rowAt; iexact Hs
      isplitl [D2]; · iexact D2
      isplitl [E2]; · iexact E2
      isplitl [T2]; · iexact T2
      iexact P2
    iexact HO
  iintro ⟨R0, R1, R2, HO⟩
  ihave R0 := (rowDone_split A c k 0) $$ R0
  ihave R1 := (rowDone_split A c k 1) $$ R1
  ihave R2 := (rowDone_split A c k 2) $$ R2
  icases R0 with ⟨B0, N0, P0, #E0⟩
  icases R1 with ⟨B1, N1, P1, #E1⟩
  icases R2 with ⟨B2, N2, P2, #E2⟩
  iapply H
  isplitr; · iexact HI
  isplitr [HR]
  · unfold After slotAt
    isplitl [N0 N1 N2]
    · unfold rowAt
      isplitl [N0]; · iexact N0
      isplitl [N1]; · iexact N1
      iexact N2
    isplitl [B0 B1 B2]
    · unfold rows3
      isplitl [B0]; · iexact B0
      isplitl [B1]; · iexact B1
      iexact B2
    isplitl [HO]; · iexact HO
    isplitl [Hsig]; · iexact Hsig
    isplitr
    · unfold opened
      by_cases h : k < 4
      · rw [if_pos h, bigSep_fin3, show k / 4 + 1 = 1 by omega]
        unfold rows3
        isplitr; · iexact E0
        isplitr; · iexact E1
        iexact E2
      · rw [if_neg h]; iempintro
    isplitl [Hpos P0 P1 P2]
    · iapply (poss_step (F := F) c k)
      isplitl [Hpos]; · unfold rows3; iexact Hpos
      unfold rows3
      isplitl [P0]; · iexact P0
      isplitl [P1]; · iexact P1
      iexact P2
    isplitl [Hah]; · iexact Hah
    isplitl [Hcr]; · iexact Hcr
    iexact HK
  · iexact HR

theorem saids_last (h : 5 ≤ k) : saids (F := F) c k = saids c (k + 1) := by
  unfold saids; rw [show min k 5 = 5 by omega, show min (k + 1) 5 = 5 by omega]

/-- Up to hop 4 the slot goes back by a credit. -/
theorem signal_rule (hk : k < 5) {a : ℤ} (ha : a = 1) {sem : Sem sig} (hs : sem = crS) {dev : Dev nD} (hd : dev = prv c)
    {kk : PUnit → Prog (TpuEff nD τ sig (Elt F) Λ₀ .tc) α} {Q : α → sProp 𝕄}
    (H : iprop(ctx A c κ ι ∗ Start A c (k + 1) ∗ R) ⊢ wp frame (wpE defs 𝒱 (c : Thread nD τ) bd) Set.univ (kk ⟨⟩) Q) :
    iprop(ctx A c κ ι ∗ After A c k ∗ R) ⊢ wp frame (wpE defs 𝒱 (c : Thread nD τ) bd) Set.univ (.op (.semSignal (dev, .tc) sem a) kk) Q := by
  have hq : iprop(rowAny (F := F) c 0 (slotN k)) ⊢ iprop((if k < 4 then rowAny (F := F) c 0 (slotN k) else emp) ∗ (if 5 ≤ k + 1 then rowAny (F := F) c 0 0 else emp)) := by
    by_cases h : k < 4
    · rw [if_pos h, if_neg (by omega)]
      iintro H; isplitl [H]; · iexact H
      iempintro
    · have e : k = 4 := by omega
      subst e
      rw [if_neg h, if_pos (by decide)]
      iintro H; isplitr; · iempintro
      iexact H
  unfold After sigRes Keep rows3
  rw [if_pos hk]
  iintro ⟨#HI, ⟨Hs, ⟨B0, B1, B2⟩, HO, ⟨Ht, Hrd⟩, #Hop, Hpos, Hah, Hcr, Hkt, Hv, Hress, Hsd, Hbk⟩, HR⟩
  ihave #HJ := (show ctx A c κ ι ⊢ iprop(recs A κ ι ∗ reached (ER F) (crC (prv c)) 0) by unfold ctx; iintro ⟨H1, -, H2, -⟩; isplitl [H1] <;> iassumption) $$ HI
  icases HJ with ⟨#Hrec, #Hrp⟩
  ihave B0 := hq $$ B0
  icases B0 with ⟨B0, B4⟩
  iapply (credit_signal_step A c k 𝒱 bd κ ι hk ha hs hd) $$ [HO Ht Hrd B0 B1 B2 Hsd]
  · isplitr; · iexact Hrec
    isplitr; · iexact Hrp
    isplitl [Hsd]; · iexact Hsd
    isplitl [Ht]; · iexact Ht
    isplitl [Hrd]; · iexact Hrd
    isplitl [B0 B1 B2]
    · unfold backRes
      isplitl [B0]; · iexact B0
      isplitl [B1]; · iexact B1
      iexact B2
    isplitr; · iexact Hop
    iexact HO
  iintro ⟨Hsd, HO⟩
  iapply H
  isplitr; · iexact HI
  isplitr [HR]
  · unfold Start
    isplitl [Hs]; · iexact Hs
    isplitl [Hkt]; · iexact Hkt
    isplitl [Hv]; · iexact Hv
    isplitl [HO]; · iexact HO
    isplitl [Hress]; · iexact Hress
    isplitl [Hpos]; · iexact Hpos
    isplitl [Hah]; · iexact Hah
    isplitl [Hcr]; · iexact Hcr
    isplitl [Hsd]; · iexact Hsd
    unfold backs
    rw [show Finset.Ico 5 (k + 1) = ∅ from Finset.Ico_eq_empty (by omega), bigSep_empty]
    isplitl [B4]; · iexact B4
    iempintro
  · iexact HR

/-- At hops 5 and 6 the slot stays. -/
theorem after_last (h5 : 5 ≤ k) (h7 : k < 7) : After A c k ⊢ Start A c (k + 1) := by
  unfold After Start Keep backs
  rw [if_pos h5, if_pos (show 5 ≤ k + 1 by omega), saids_last c k h5, ico_right (a := 5) (b := k) h5,
    show owed c (4 * k + 3) = owed c (4 * (k + 1)) by rw [owed_succ c _ (by omega), debt_nocredit c k h5, add_zero]; rfl]
  iintro ⟨Hs, HB, HO, -, -, Hpos, Hah, Hcr, Hkt, Hv, Hress, Hsd, ⟨B0, Hbk⟩⟩
  isplitl [Hs]; · iexact Hs
  isplitl [Hkt]; · iexact Hkt
  isplitl [Hv]; · iexact Hv
  isplitl [HO]; · iexact HO
  isplitl [Hress]; · iexact Hress
  isplitl [Hpos]; · iexact Hpos
  isplitl [Hah]; · iexact Hah
  isplitl [Hcr]; · iexact Hcr
  isplitl [Hsd]; · iexact Hsd
  isplitl [B0]; · iexact B0
  isplitl [HB]; · iexact HB
  iexact Hbk

theorem copies7_rule
    {c1 c2 : Memref sig .tc .vmem S8x4x64x128 .f32} {s1 s2 : Memref sig .tc .vmem S8x4x64x2 .f32}
    {dc ds : Dev nD} {sc ss rc rs sc' ss' rc' rs' : DmaSem sig}
    {c3 c4 c5 c6 : Memref sig .tc .vmem S8x4x64x128 .f32} {s3 s4 s5 s6 : Memref sig .tc .vmem S8x4x64x2 .f32}
    {b1 b2 b3 b4 e1 e2 e3 e4 g1 g2 g3 g4 h1 h2 h3 h4}
    {kk : PUnit → Prog (TpuEff nD τ sig (Elt F) Λ₀ .tc) α} {Q : α → sProp 𝕄}
    (H : iprop(ctx A c κ ι ∗ Done A c ∗ R) ⊢ wp frame (wpE defs 𝒱 (c : Thread nD τ) bd) Set.univ (kk ⟨⟩) Q)
    (hc1 : c1 = cS (slotN 7) := by exact cslot _ (by decide)) (hc2 : c2 = cS (slotN (7 + 1)) := by exact cslot _ (by decide))
    (hs1 : s1 = sS (slotN 7) := by exact sslot _ (by decide)) (hs2 : s2 = sS (slotN (7 + 1)) := by exact sslot _ (by decide))
    (hdc : dc = nxt c := by assumption) (hds : ds = nxt c := by assumption)
    (hsc : sc = sendSem 1 (slotN 7) := by rfl) (hrc : rc = recvSem 1 (slotN (7 + 1)) := by rfl)
    (hss : ss = sendSem 2 (slotN 7) := by rfl) (hrs : rs = recvSem 2 (slotN (7 + 1)) := by rfl)
    (hsc' : sc' = sendSem 1 (slotN 7) := by rfl) (hrc' : rc' = recvSem 1 (slotN (7 + 1)) := by rfl)
    (hss' : ss' = sendSem 2 (slotN 7) := by rfl) (hrs' : rs' = recvSem 2 (slotN (7 + 1)) := by rfl)
    (hc4 : c4.view.dmaCredit = Nr 1 := by rfl) (hc6 : c6.view.dmaCredit = Nr 1 := by rfl)
    (hs4 : s4.view.dmaCredit = Nr 2 := by rfl) (hs6 : s6.view.dmaCredit = Nr 2 := by rfl) :
    iprop(ctx A c κ ι ∗ Ahead A c 7 ∗ R) ⊢ wp frame (wpE defs 𝒱 (c : Thread nD τ) bd) Set.univ
          (.op (.enqueueDma c1 (.remote (Dev.tc dc : Thread nD τ) c2 (.dma sc) b1) (.dma rc) b2 b3 b4) fun _ =>
            .op (.enqueueDma s1 (.remote (Dev.tc ds : Thread nD τ) s2 (.dma ss) e1) (.dma rs) e2 e3 e4) fun _ =>
            .op (.waitDma2 sc' c3 c4 g1 g2) fun _ => .op (.waitDma2 rc' c5 c6 g3 g4) fun _ =>
            .op (.waitDma2 ss' s3 s4 h1 h2) fun _ => .op (.waitDma2 rs' s5 s6 h3 h4) kk) Q := by
  have hpos : poss (F := F) c 7 = iprop(rows3 (rowPos (F := F) c 7) ∗ bigSep (Finset.Ico 8 11) (fun j => rows3 (rowPos (F := F) c j))) :=
    ico_left (show 7 < 7 + 4 by decide) _
  have hbk : bigSep (Finset.Ico 5 8) (fun j => rows3 fun r => rowAny (F := F) c r (slotN j))
      = iprop((rows3 fun r => rowAny (F := F) c r (slotN 7)) ∗ bigSep (Finset.Ico 5 7) (fun j => rows3 fun r => rowAny (F := F) c r (slotN j))) :=
    ico_right (show 5 ≤ 7 by decide) _
  unfold Ahead Keep slotAt dests sends backs
  rw [if_pos rfl, if_pos rfl, if_pos (show 5 ≤ 7 by decide), hpos]
  unfold rows3
  iintro ⟨#HI, ⟨⟨Hq, Hc, Hs⟩, HO, ⟨-, T1, T2⟩, Hsig, ⟨⟨P0, P1, P2⟩, Hpos⟩, ⟨-, ⟨D1, E1⟩, ⟨D2, E2⟩⟩, Hah, Hcr, Hkt, Hv, Hress, Hsd, ⟨B0, Hbk⟩⟩, HR⟩
  ihave #HJ := (show ctx A c κ ι ⊢ iprop(recs A κ ι ∗ levAts L lv) by unfold ctx; iintro ⟨H1, H2, -⟩; isplitl [H1] <;> iassumption) $$ HI
  icases HJ with ⟨#Hrec, #Hlev⟩
  iapply (copies2 A c 𝒱 bd κ ι hc1 hc2 hdc hsc hrc hs1 hs2 hds hss hrs hsc' hrc' hc4 hc6 hss' hrs' hs4 hs6)
    $$ [Hc Hs HO T1 T2 P1 P2 D1 D2 E1 E2]
  · isplitr; · iexact Hrec
    isplitr; · iexact Hlev
    unfold rowReady
    isplitl [Hc D1 E1 T1 P1]
    · isplitl [Hc]; · unfold rowAt; iexact Hc
      isplitl [D1]; · iexact D1
      isplitl [E1]; · iexact E1
      isplitl [T1]; · iexact T1
      iexact P1
    isplitl [Hs D2 E2 T2 P2]
    · isplitl [Hs]; · unfold rowAt; iexact Hs
      isplitl [D2]; · iexact D2
      isplitl [E2]; · iexact E2
      isplitl [T2]; · iexact T2
      iexact P2
    iexact HO
  iintro ⟨R1, R2, HO⟩
  ihave R1 := (rowDone_split A c 7 1) $$ R1
  ihave R2 := (rowDone_split A c 7 2) $$ R2
  icases R1 with ⟨B1, N1, P1, -⟩
  icases R2 with ⟨B2, N2, P2, -⟩
  iapply H
  isplitr; · iexact HI
  isplitr [HR]
  · unfold Done
    rw [hbk]
    unfold rows3
    isplitl [B0]; · iexact B0
    isplitl [N1]; · iexact N1
    isplitl [N2]; · iexact N2
    isplitl [Hkt]; · iexact Hkt
    isplitl [Hv]; · iexact Hv
    isplitl [HO]; · iexact HO
    isplitl [P0 P1 P2 Hpos]
    · isplitl [Hpos]; · iexact Hpos
      isplitl [P0]; · iexact P0
      isplitl [P1]; · iexact P1
      iexact P2
    isplitl [Hcr]; · iexact Hcr
    isplitl [Hq B1 B2]
    · isplitl [Hq]
      · ihave Hq := (show hold (qS (slotN 7)) c (step A c (st A 7 c)).1 ⊢ rowAny (F := F) c 0 (slotN 7) from hold_any _ c _) $$ Hq
        iexact Hq
      isplitl [B1]; · iexact B1
      iexact B2
    iexact Hbk
  · iexact HR

end Run

end Cert.RingProof

end
-- ==== Proof.Out.lean ====
/-
  The ends of a device's run: the barrier that opens the ring, the first slot's contents, and the tiles of the normalised
  context that are written out after the last hop, one after another.
-/
module

public import proofs.«01_k».proof.Proof.Hop
public import Idealize.ShloMosaic.Lib.Pointwise.Index

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## A store into a whole buffer -/

section Store
variable {defs : Defs nD τ sig (Elt F) Λ₀} (𝒱 : Variants) (c : Dev nD) (bd : Option 𝒱.V) {Γ : PendingWaitsCtx sig ℕ} {α : Type}

theorem store_at {s : Shape} {e : EltTy} (M : Memref sig .tc .vmem s e) (r : Rect s) {hx hm} {k : PUnit → Prog (TpuEff nD τ sig (Elt F) Λ₀ .tc) α}
    (w : r.shape.Idx → Elt F e) (x y : s.Idx → Elt F e) (hin : ∀ i, y (r.emb i) = w i) (hout : ∀ z, (∀ i, r.emb i ≠ z) → y z = x z)
    {Q : α → sProp 𝕄} :
    (hold M c x : sProp 𝕄)
      ⊢ iprop((hold M c y -∗ wp frame (wpE' defs 𝒱 (c : Thread nD τ) bd Γ) Set.univ (k ⟨⟩) Q)
        -∗ wp frame (wpE' defs 𝒱 (c : Thread nD τ) bd Γ) Set.univ (.op (.store M r w Finset.univ hx hm) k) Q) := by
  unfold hold
  iintro ⟨%f, Hf, %hf⟩ Hk
  iapply (wp_store (defs := defs) (Γ := Γ) 𝒱 (c : Thread nD τ) bd Set.univ (m := M) (Q := Q) (hx := hx) (hm := hm) (k := k) (f := f) (w := w)
    (S := M.view.set) (by show (M.view.slice r).set ⊆ _; rw [View.set_slice]; exact View.setOn_subset_set _ _)) $$ Hf
  iintro Hf
  iapply Hk
  iexists _
  isplitl [Hf]
  · iexact Hf
  · ipureintro
    subst hf
    funext z
    by_cases h : ∃ i, r.emb i = z
    · obtain ⟨i, rfl⟩ := h
      have he : M.view.emb (r.emb i) = (M.access r).emb i := rfl
      rw [View.read_apply, he, View.write_emb_of_mem _ _ (Finset.mem_univ _), cast_cast, cast_eq, hin]
    · rw [hout z fun i hi => h ⟨i, hi⟩]
      refine congrArg (cast _) (View.write_of_not_mem _ _ _ fun hm => h ?_)
      obtain ⟨i, -, hi⟩ := Finset.mem_map.mp hm
      exact ⟨i, M.view.emb.injective hi⟩

end Store

/-! ## The barrier -/

section Barrier

variable (A : Args F) (c : Dev nD)
variable {defs : Defs nD τ sig (Elt F) Λ₀} (𝒱 : Variants) (bd : Option 𝒱.V) {α : Type}
variable (κ : GSem nD τ sig → ℕ) (ι : Dev nD × ℕ → ℕ)

/-- What the barrier takes. -/
def Enter : sProp 𝕄 :=
  iprop(dutyTok (ER F) (barC (nxt c)) 0 0 ∗ dutyTok (ER F) (barC (prv c)) 0 1 ∗ cred (tallyAt (barC c) 0 2) ∗ atPos (ER F) (barC c) 0 ∅ 0
    ∗ reached (ER F) (crC c) 0 ∗ bigSep Finset.univ (fun r => bigSep Finset.univ (fun s => reached (ER F) (recvC c r s) 0))
    ∗ bigSep Finset.univ (fun r => iprop(rowAny (F := F) c r 1 ∗ rowAny (F := F) c r 2 ∗ rowAny (F := F) c r 3)) ∗ owesE c (O₀ c))

theorem rest_bar : bigSep ((Rd A).duties (barC c) 0 \ ∅) (fun u => (Rd A).payload (barC c) 0 u) ⊢ iprop(barPay (F := F) c 0 ∗ barPay (F := F) c 1) := by
  rw [Finset.sdiff_empty, duties_bar, bigSep_insert (by decide), bigSep_singleton]
  exact Entails.of_eq rfl

theorem aheads_of : bigSep Finset.univ (fun r => iprop(rowAny (F := F) (nxt c) r 1 ∗ rowAny (F := F) (nxt c) r 2 ∗ rowAny (F := F) (nxt c) r 3)) ⊢ aheads (F := F) c 0 := by
  unfold aheads
  rw [bigSep_fin3, ico_left (a := 0 + 1) (b := 4) (by decide), ico_left (a := 0 + 1 + 1) (b := 4) (by decide), ico_left (a := 0 + 1 + 1 + 1) (b := 4) (by decide),
    show Finset.Ico (0 + 1 + 1 + 1 + 1) 4 = ∅ from rfl, bigSep_empty]
  unfold rows3
  iintro ⟨⟨A1, A2, A3⟩, ⟨B1, B2, B3⟩, ⟨C1, C2, C3⟩⟩
  isplitl [A1 B1 C1]
  · isplitl [A1]; · iexact A1
    isplitl [B1]; · iexact B1
    iexact C1
  isplitl [A2 B2 C2]
  · isplitl [A2]; · iexact A2
    isplitl [B2]; · iexact B2
    iexact C2
  isplitl [A3 B3 C3]
  · isplitl [A3]; · iexact A3
    isplitl [B3]; · iexact B3
    iexact C3
  iempintro

theorem barrier_step {a b e : ℤ} (ha : a = 1) (hb : b = 1) (he : e = 2) {s1 s2 s3 : Sem sig} (h1 : s1 = barS) (h2 : s2 = barS) (h3 : s3 = barS)
    {dp dn : Dev nD} (hp : dp = prv c) (hn : dn = nxt c) {kk : PUnit → Prog (TpuEff nD τ sig (Elt F) Λ₀ .tc) α} {Q : α → sProp 𝕄} :
    iprop(recs A κ ι ∗ levAts L lv ∗ Enter (F := F) c)
      ⊢ iprop(((ctx A c κ ι ∗ atPos (ER F) (barC c) 1 ∅ 0 ∗ aheads (F := F) c 0 ∗ owesE c (owed c 0)) -∗ wp frame (wpE defs 𝒱 (c : Thread nD τ) bd) Set.univ (kk ⟨⟩) Q)
        -∗ wp frame (wpE defs 𝒱 (c : Thread nD τ) bd) Set.univ
          (.op (.semSignal (dp, .tc) s1 a) fun _ => .op (.semSignal (dn, .tc) s2 b) fun _ => .op (.semWait s3 e) kk) Q) := by
  subst ha hb he h1 h2 h3 hp hn
  unfold Enter owesE
  iintro ⟨#HI, #Hlev, T1, T2, Hc, Hp, #Hcr, #Hrv, Hrows, ⟨%W, HO⟩⟩ Hk
  iapply (Rounds.wp_signal 𝒱 (ER F) (Rd A) (c : Thread nD τ) bd (dst := (prv c : Thread nD τ)) (sem := barS) (r := 0) (d := 1) (k' := 1) (κ := κ (barC (prv c)))
      (by rw [duties_bar]; decide) (amount_bar A (prv c) 0 1) 0 (O₀ := O₀ c) (owed c 0 + tallyAt (barC (nxt c)) 0 1) rfl) $$ [HO T2 Hrows]
  · isplitr; · iapply (recs_cell A κ ι (mem_bar (prv c))); iexact HI
    isplitl [HO]; · iexact HO
    isplitl [T2]; · iexact T2
    isplitl [Hrows]
    · rw [pay_bar]; unfold barPay; rw [if_neg (by decide), nxt_prv]
      isplitl [Hrows]; · iexact Hrows
      iexact Hrv
    · iapply (recs_bar A κ ι (prv c)); iexact HI
  iintro HO
  iapply (Rounds.wp_signal 𝒱 (ER F) (Rd A) (c : Thread nD τ) bd (dst := (nxt c : Thread nD τ)) (sem := barS) (r := 0) (d := 0) (k' := 1) (κ := κ (barC (nxt c)))
      (by rw [duties_bar]; decide) (amount_bar A (nxt c) 0 0) 0 (O₀ := owed c 0 + tallyAt (barC (nxt c)) 0 1) (owed c 0) rfl) $$ [HO T1]
  · isplitr; · iapply (recs_cell A κ ι (mem_bar (nxt c))); iexact HI
    isplitl [HO]; · iexact HO
    isplitl [T1]; · iexact T1
    isplitr
    · rw [pay_bar]; unfold barPay; rw [if_pos rfl, prv_nxt]
      iexact Hcr
    · iapply (recs_bar A κ ι (nxt c)); iexact HI
  iintro HO
  iapply (Rounds.wp_wait_rest_token 𝒱 (ER F) (Rd A) (c : Thread nD τ) bd (κ := κ (barC c))
      (wpE_semWait_eq 𝒱 (c : Thread nD τ) bd Set.univ) (Set.mem_univ _) 0 (k' := 2) (O := owed c 0) (W := W) (R := 0) (m := 0) (T := ∅)
      (by rw [expect_bar])) $$ [Hc HO Hp]
  · isplitr; · iapply (recs_cell A κ ι (mem_bar c)); iexact HI
    isplitl [Hc]; · iexact Hc
    isplitl [HO]; · iexact HO
    isplitr
    · iapply (mayWait c _ _ _ (by omega) (by unfold lv; dsimp only; rw [kind_bar]; dsimp only; omega)); iexact Hlev
    iexact Hp
  iintro ⟨HO, Hp, -, Hrest⟩
  ihave Hrest := (rest_bar A c) $$ Hrest
  unfold barPay
  rw [if_pos rfl, if_neg (by decide)]
  icases Hrest with ⟨#H0, Hah, #Hr⟩
  iapply Hk
  isplitr
  · unfold ctx
    isplitr; · iexact HI
    isplitr; · iexact Hlev
    isplitr; · iexact H0
    iexact Hr
  isplitl [Hp]; · iexact Hp
  isplitl [Hah]; · iapply (aheads_of c); iexact Hah
  iexists _; iexact HO

end Barrier

/-! ## The first slot -/

theorem full_put {n : ℕ} {d o : Fin n → ℕ} {α : Type} (ho : o = fun _ => 0) (w : (⟨n + 1, Matrix.vecCons 1 d⟩ : Shape).Idx → α) (x : (⟨n, d⟩ : Shape).Idx → α) :
    putBox (sz := d) o w x = fun y => w (Fin.cons (⟨0, Nat.one_pos⟩ : Fin 1) y) := by
  subst ho
  funext y
  unfold putBox
  rw [dif_pos fun a => ⟨Nat.zero_le _, by rw [Nat.zero_add]; exact (y a).isLt⟩]
  exact congrArg w (congrArg _ (funext fun a => Fin.ext rfl))

theorem full_emb {s : Shape} {o : Fin s.rank → ℕ} (ho : o = fun _ => 0) (inb : ∀ a, o a + s.size a ≤ s.size a) (i : s.Idx) :
    (Rect.unit (s := s) o s.size inb).emb i = i := by
  subst ho
  funext a
  apply Fin.ext
  rw [Rect.emb_apply]
  show 0 + 1 * (i a).val = (i a).val
  omega

/-- The first slot's queries, from the device's own; its context; its maxima and sums. -/
def initQ (q : QV F) : QV F := fun y => k0_pay74 q (Fin.cons (⟨0, Nat.one_pos⟩ : Fin 1) y)
variable (F) in
def initC : CV F := fun y => k0_pay75 (F := F) (Fin.cons (⟨0, Nat.one_pos⟩ : Fin 1) y)
variable (F) in
def initS : SV F := fun y =>
  if (y 3).val = 0 then k0_pay77 (F := F) (k0_pay76 (F := F)) (ix5 (0 : Fin 1) (y 0) (y 1) (y 2) (0 : Fin 1))
  else k0_pay78 (F := F) (ix5 (0 : Fin 1) (y 0) (y 1) (y 2) (0 : Fin 1))

theorem initS_eq (x : SV F) :
    putBox (d := ![8, 4, 64, 2]) (sz := ![8, 4, 64, 1]) ![0, 0, 0, 1] (k0_pay78 (F := F))
      (putBox (d := ![8, 4, 64, 2]) (sz := ![8, 4, 64, 1]) ![0, 0, 0, 0] (k0_pay77 (F := F) (k0_pay76 (F := F))) x) = initS F := by
  funext y
  have h3 : (y 3).val < 2 := (y 3).isLt
  have hx : ∀ (o : ℕ), (y 3).val = o → ∀ a, (![0, 0, 0, o] : Fin 4 → ℕ) a ≤ (y a).val ∧ (y a).val < (![0, 0, 0, o] : Fin 4 → ℕ) a + (![8, 4, 64, 1] : Fin 4 → ℕ) a := by
    intro o ho a
    match a with
    | 0 => exact ⟨Nat.zero_le _, by show (y 0).val < 0 + 8; have : (y 0).val < 8 := (y 0).isLt; omega⟩
    | 1 => exact ⟨Nat.zero_le _, by show (y 1).val < 0 + 4; have : (y 1).val < 4 := (y 1).isLt; omega⟩
    | 2 => exact ⟨Nat.zero_le _, by show (y 2).val < 0 + 64; have : (y 2).val < 64 := (y 2).isLt; omega⟩
    | 3 => exact ⟨by show o ≤ _; omega, by show (y 3).val < o + 1; omega⟩
  have hv : ∀ (o : ℕ) (h : (y 3).val = o) (w : S1x8x4x64x1.Idx → Elt F .f32),
      w (Fin.cons (⟨0, Nat.one_pos⟩ : Fin 1) fun a => (⟨(y a).val - (![0, 0, 0, o] : Fin 4 → ℕ) a, by have := hx o h a; omega⟩ : Fin ((![8, 4, 64, 1] : Fin 4 → ℕ) a)))
        = w (ix5 (0 : Fin 1) (y 0) (y 1) (y 2) (0 : Fin 1)) := by
    intro o h w
    refine congrArg w (funext fun a => Fin.ext ?_)
    match a with
    | 0 => rfl
    | 1 => rfl
    | 2 => rfl
    | 3 => rfl
    | 4 => show (y 3).val - o = 0; omega
  unfold initS putBox
  by_cases h : (y 3).val = 0
  · rw [dif_neg (fun hh => by have := (hh 3).1; change 1 ≤ (y 3).val at this; omega), dif_pos (hx 0 h), if_pos h]
    exact hv 0 h _
  · rw [dif_pos (hx 1 (by omega)), if_neg h]
    exact hv 1 (by omega) _

/-! ## The tiles of the output -/

abbrev WV (F : FTy → Type) : Type := S256x1024.Idx → Elt F .f32

/-- A slot's context over its sums, as rows of the device's own queries. -/
def outW (C : CV F) (S : SV F) : WV F := fun i =>
  k0_pay79 (cTile C ⟨(i 1).val / 128 % 8, Nat.mod_lt _ (by decide)⟩ ⟨(i 0).val / 64 % 4, Nat.mod_lt _ (by decide)⟩)
    (lTile S ⟨(i 1).val / 128 % 8, Nat.mod_lt _ (by decide)⟩ ⟨(i 0).val / 64 % 4, Nat.mod_lt _ (by decide)⟩)
    (ix2 (⟨(i 0).val % 64, Nat.mod_lt _ (by decide)⟩ : Fin 64) (⟨(i 1).val % 128, Nat.mod_lt _ (by decide)⟩ : Fin 128))

/-- The buffer after the first `n` tiles. -/
def outN (C : CV F) (S : SV F) (n : ℕ) (w : WV F) : WV F := fun i =>
  if 4 * ((i 1).val / 128) + (i 0).val / 64 < n then outW C S i else w i

theorem outN_zero (C : CV F) (S : SV F) (w : WV F) : outN C S 0 w = w := by
  funext i; unfold outN; rw [if_neg (by omega)]
theorem outN_full (C : CV F) (S : SV F) (w : WV F) : outN C S 32 w = outW C S := by
  funext i; unfold outN
  have h0 : (i 0).val < 256 := (i 0).isLt
  have h1 : (i 1).val < 1024 := (i 1).isLt
  rw [if_pos (by omega)]

theorem tile_in (C : CV F) (S : SV F) (n : ℕ) (hn : n < 32) (w : WV F) (z : S256x1024.Idx) (i : S64x128.Idx)
    (h0 : (z 0).val = 64 * (tJ n).val + (i 0).val) (h1 : (z 1).val = 128 * (tH n).val + (i 1).val) :
    outN C S (n + 1) w z = k0_pay79 (cTile C (tH n) (tJ n)) (lTile S (tH n) (tJ n)) i := by
  have i0 : (i 0).val < 64 := (i 0).isLt
  have i1 : (i 1).val < 128 := (i 1).isLt
  have hH : (tH n).val = n / 4 := by show n / 4 % 8 = n / 4; omega
  have hJ : (tJ n).val = n % 4 := rfl
  unfold outN outW
  rw [if_pos (by omega)]
  have eH : (⟨(z 1).val / 128 % 8, Nat.mod_lt _ (by decide)⟩ : Fin 8) = tH n := Fin.ext (by show (z 1).val / 128 % 8 = _; omega)
  have eJ : (⟨(z 0).val / 64 % 4, Nat.mod_lt _ (by decide)⟩ : Fin 4) = tJ n := Fin.ext (by show (z 0).val / 64 % 4 = _; omega)
  rw [eH, eJ]
  refine congrArg _ (funext fun a => Fin.ext ?_)
  match a with
  | 0 => show (z 0).val % 64 = (i 0).val; omega
  | 1 => show (z 1).val % 128 = (i 1).val; omega

theorem tile_out (C : CV F) (S : SV F) (n : ℕ) (hn : n < 32) (w : WV F) (z : S256x1024.Idx)
    (h : ¬((z 0).val / 64 = (tJ n).val ∧ (z 1).val / 128 = (tH n).val)) : outN C S (n + 1) w z = outN C S n w z := by
  have z0 : (z 0).val < 256 := (z 0).isLt
  have z1 : (z 1).val < 1024 := (z 1).isLt
  have hH : (tH n).val = n / 4 := by show n / 4 % 8 = n / 4; omega
  have hJ : (tJ n).val = n % 4 := rfl
  unfold outN
  by_cases hlt : 4 * ((z 1).val / 128) + (z 0).val / 64 < n
  · rw [if_pos hlt, if_pos (by omega)]
  · rw [if_neg hlt, if_neg (by omega)]

section Tiles

variable (c : Dev nD) {defs : Defs nD τ sig (Elt F) Λ₀} (𝒱 : Variants) (bd : Option 𝒱.V) {α : Type}
variable {R : sProp (MT nD τ sig ℕ (Elt F) ℕ UU ℕ)}

theorem out_rule (C : CV F) (S : SV F) (n : ℕ) (w : WV F) {o1 o2 : Fin 5 → ℕ} {o3 o4 : Fin 2 → ℕ} {h1 h2 h3 h4 l1 l2 l3 x4 m4}
    {pay : Vec F S1x1x1x64x128 .f32 → Vec F S1x1x1x64x1 .f32 → FVec F S64x128 .f32} {kk : PUnit → Prog (TpuEff nD τ sig (Elt F) Λ₀ .tc) α} {Q : α → sProp 𝕄}
    (H : iprop(hold (cS 0) c C ∗ hold (sS 0) c S ∗ hold wM c (outN C S (n + 1) w) ∗ R) ⊢ wp frame (wpE defs 𝒱 (c : Thread nD τ) bd) Set.univ (kk ⟨⟩) Q)
    (hn : n < 32 := by decide)
    (e1 : o1 = Matrix.vecCons (0 : Fin 4).val ![(tH n).val, (tJ n).val, 0, 0] := by decide) (e2 : o2 = Matrix.vecCons (0 : Fin 4).val ![(tH n).val, (tJ n).val, 0, 1] := by decide)
    (e3 : o3 = ![64 * (tJ n).val, 128 * (tH n).val] := by decide) (e4 : o4 = ![64 * (tJ n).val, 128 * (tH n).val] := by decide)
    (hpay : pay = k0_pay79 := by rfl) :
    iprop(hold (cS 0) c C ∗ hold (sS 0) c S ∗ hold wM c (outN C S n w) ∗ R)
      ⊢ wp frame (wpE defs 𝒱 (c : Thread nD τ) bd) Set.univ
        (.op (.load cM (Rect.unit (s := S4x8x4x64x128) o1 S1x1x1x64x128.size h1).toLoadRect l1) fun a =>
          .op (.load sM (Rect.unit (s := S4x8x4x64x2) o2 S1x1x1x64x1.size h2).toLoadRect l2) fun b =>
          .op (.load wM (Rect.unit (s := S256x1024) o3 S64x128.size h3).toLoadRect l3) fun _ =>
          .op (.store wM (Rect.unit (s := S256x1024) o4 S64x128.size h4) (pay a b) Finset.univ x4 m4) kk) Q := by
  subst e1 e2 e3 e4 hpay
  iintro ⟨HC, HS, HW, HR⟩
  iapply (load_box 𝒱 c bd cM squeezes_S1x8x4x64x128_S8x4x64x128 0 (sz := ![1, 1, 64, 128]) ![(tH n).val, (tJ n).val, 0, 0] h1 C) $$ HC
  iintro HC
  iapply (load_box 𝒱 c bd sM squeezes_S1x8x4x64x2_S8x4x64x2 0 (sz := ![1, 1, 64, 1]) ![(tH n).val, (tJ n).val, 0, 1] h2 S) $$ HS
  iintro HS
  iapply (load_at 𝒱 c bd wM _ (outN C S n w)) $$ HW
  iintro HW
  iapply (store_at 𝒱 c bd wM _ _ (outN C S n w) (outN C S (n + 1) w) ?_ ?_) $$ HW
  · intro i
    exact tile_in C S n hn w _ i (by rw [Rect.emb_apply]; show 64 * (tJ n).val + 1 * (i 0).val = _; omega)
      (by rw [Rect.emb_apply]; show 128 * (tH n).val + 1 * (i 1).val = _; omega)
  · intro z hz
    refine tile_out C S n hn w z fun h => hz (ix2 (⟨(z 0).val % 64, Nat.mod_lt _ (by decide)⟩ : Fin 64) (⟨(z 1).val % 128, Nat.mod_lt _ (by decide)⟩ : Fin 128)) ?_
    funext a
    apply Fin.ext
    rw [Rect.emb_apply]
    match a with
    | 0 => show 64 * (tJ n).val + 1 * ((z 0).val % 64) = (z 0).val; omega
    | 1 => show 128 * (tH n).val + 1 * ((z 1).val % 128) = (z 1).val; omega
  iintro HW
  iapply H
  isplitl [HC]; · iexact HC
  isplitl [HS]; · iexact HS
  isplitl [HW]; · iexact HW
  iexact HR

end Tiles

end Cert.RingProof

end
-- ==== Proof.Body.lean ====
/-
  A device's whole run of the kernel's body: the barrier, the first slot's contents, the eight hops, the output.
-/
module

public import proofs.«01_k».proof.Proof.Out

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The devices the printed program names -/

theorem dev_prv : ∀ c : Dev nD, (⟨k0_dev1 c, k0_dev1_lt c⟩ : Dev nD) = prv c ∧ (⟨k0_dev6 c, k0_dev6_lt c⟩ : Dev nD) = prv c
    ∧ (⟨k0_dev10 c, k0_dev10_lt c⟩ : Dev nD) = prv c ∧ (⟨k0_dev14 c, k0_dev14_lt c⟩ : Dev nD) = prv c
    ∧ (⟨k0_dev18 c, k0_dev18_lt c⟩ : Dev nD) = prv c ∧ (⟨k0_dev22 c, k0_dev22_lt c⟩ : Dev nD) = prv c := by decide +kernel
theorem dev_nxt : ∀ c : Dev nD, (⟨k0_dev2 c, k0_dev2_lt c⟩ : Dev nD) = nxt c
    ∧ (⟨k0_dev3 c, k0_dev3_lt c⟩ : Dev nD) = nxt c ∧ (⟨k0_dev4 c, k0_dev4_lt c⟩ : Dev nD) = nxt c ∧ (⟨k0_dev5 c, k0_dev5_lt c⟩ : Dev nD) = nxt c
    ∧ (⟨k0_dev7 c, k0_dev7_lt c⟩ : Dev nD) = nxt c ∧ (⟨k0_dev8 c, k0_dev8_lt c⟩ : Dev nD) = nxt c ∧ (⟨k0_dev9 c, k0_dev9_lt c⟩ : Dev nD) = nxt c
    ∧ (⟨k0_dev11 c, k0_dev11_lt c⟩ : Dev nD) = nxt c ∧ (⟨k0_dev12 c, k0_dev12_lt c⟩ : Dev nD) = nxt c ∧ (⟨k0_dev13 c, k0_dev13_lt c⟩ : Dev nD) = nxt c
    ∧ (⟨k0_dev15 c, k0_dev15_lt c⟩ : Dev nD) = nxt c ∧ (⟨k0_dev16 c, k0_dev16_lt c⟩ : Dev nD) = nxt c ∧ (⟨k0_dev17 c, k0_dev17_lt c⟩ : Dev nD) = nxt c
    ∧ (⟨k0_dev19 c, k0_dev19_lt c⟩ : Dev nD) = nxt c ∧ (⟨k0_dev20 c, k0_dev20_lt c⟩ : Dev nD) = nxt c ∧ (⟨k0_dev21 c, k0_dev21_lt c⟩ : Dev nD) = nxt c
    ∧ (⟨k0_dev23 c, k0_dev23_lt c⟩ : Dev nD) = nxt c ∧ (⟨k0_dev24 c, k0_dev24_lt c⟩ : Dev nD) = nxt c ∧ (⟨k0_dev25 c, k0_dev25_lt c⟩ : Dev nD) = nxt c
    ∧ (⟨k0_dev26 c, k0_dev26_lt c⟩ : Dev nD) = nxt c ∧ (⟨k0_dev27 c, k0_dev27_lt c⟩ : Dev nD) = nxt c ∧ (⟨k0_dev28 c, k0_dev28_lt c⟩ : Dev nD) = nxt c
    ∧ (⟨k0_dev29 c, k0_dev29_lt c⟩ : Dev nD) = nxt c ∧ (⟨k0_dev30 c, k0_dev30_lt c⟩ : Dev nD) = nxt c := by decide +kernel

/-! ## The run -/

variable (A : Args F) (c : Dev nD)
variable {defs : Defs nD τ sig (Elt F) Λ₀} (𝒱 : Variants) (bd : Option 𝒱.V)
variable (κ : GSem nD τ sig → ℕ) (ι : Dev nD × ℕ → ℕ)

/-- What the barrier and the first stores leave beside the barrier's own position: the hops' start but for the slot. -/
def Rest0 : sProp 𝕄 :=
  iprop(bigSep (Finset.Ico 0 8) (hopRes (F := F) c) ∗ poss (F := F) c 0 ∗ crSt (F := F) c 0)

/-- What a device runs on: the barrier's own, the hops' own, the first slot at any contents, the operands and the output's buffers. -/
def Pre (q0 : QV F) (wo : S1024x1024.Idx → Elt F .f32) : sProp 𝕄 :=
  iprop((recs A κ ι ∗ levAts L lv) ∗ Enter (F := F) c ∗ Rest0 (F := F) c ∗ rows3 (fun r => rowAny (F := F) c r 0)
    ∗ hold q0M c q0 ∗ hold ktM c (A.kt c) ∗ hold vM c (A.v c) ∗ hold woM c wo ∗ holdAny wM c ∗ holdAny outM c)

/-- The output block. -/
def outV (x : Slot F) (wo : S1024x1024.Idx → Elt F .f32) : S1x256x1024.Idx → Elt F .f32 := k0_pay1 (outW x.2.1 x.2.2) wo

/-- What it leaves. -/
def Post (q0 : QV F) (wo : S1024x1024.Idx → Elt F .f32) : sProp 𝕄 :=
  iprop(ctx A c κ ι ∗ atPos (ER F) (barC c) 1 ∅ 0 ∗ Done A c ∗ hold q0M c q0 ∗ hold woM c wo ∗ hold wM c (outW (st A 8 c).2.1 (st A 8 c).2.2)
    ∗ hold outM c (outV (st A 8 c) wo))

/-- What the hops leave alone. -/
def Side (q0 : QV F) (wo : S1024x1024.Idx → Elt F .f32) : sProp 𝕄 :=
  iprop(atPos (ER F) (barC c) 1 ∅ 0 ∗ hold q0M c q0 ∗ hold woM c wo ∗ holdAny wM c ∗ holdAny outM c)

section First
variable {R : sProp (MT nD τ sig ℕ (Elt F) ℕ UU ℕ)} {α : Type}

theorem load_full {s : Shape} {e : EltTy} (M : Memref sig .tc .vmem s e) {o : Fin s.rank → ℕ} (ho : o = fun _ => 0) {inb hl}
    {k : _ → Prog (TpuEff nD τ sig (Elt F) Λ₀ .tc) α} (x : s.Idx → Elt F e) {Γ : PendingWaitsCtx sig ℕ} {Q : α → sProp 𝕄} :
    (hold M c x : sProp 𝕄)
      ⊢ iprop((hold M c x -∗ wp frame (wpE' defs 𝒱 (c : Thread nD τ) bd Γ) Set.univ (k x) Q)
        -∗ wp frame (wpE' defs 𝒱 (c : Thread nD τ) bd Γ) Set.univ (.op (.load M (Rect.unit (s := s) o s.size inb).toLoadRect hl) k) Q) := by
  have h := load_at (defs := defs) 𝒱 c bd M (Rect.unit (s := s) o s.size inb) (hl := hl) (k := k) x (Q := Q) (Γ := Γ)
  rwa [show (fun i => x ((Rect.unit (s := s) o s.size inb).emb i)) = x from funext fun i => congrArg x (full_emb ho inb i)] at h

theorem store_full {s : Shape} {e : EltTy} (M : Memref sig .tc .vmem s e) {o : Fin s.rank → ℕ} (ho : o = fun _ => 0) {inb hx hm}
    {k : PUnit → Prog (TpuEff nD τ sig (Elt F) Λ₀ .tc) α} (x w : s.Idx → Elt F e) {Γ : PendingWaitsCtx sig ℕ} {Q : α → sProp 𝕄} :
    (hold M c x : sProp 𝕄)
      ⊢ iprop((hold M c w -∗ wp frame (wpE' defs 𝒱 (c : Thread nD τ) bd Γ) Set.univ (k ⟨⟩) Q)
        -∗ wp frame (wpE' defs 𝒱 (c : Thread nD τ) bd Γ) Set.univ (.op (.store M (Rect.unit (s := s) o s.size inb) w Finset.univ hx hm) k) Q) :=
  store_at 𝒱 c bd M (Rect.unit (s := s) o s.size inb) w x w (fun i => congrArg w (full_emb ho inb i)) fun z hz => absurd (full_emb ho inb z) (hz z)

/-- The first slot filled. -/
theorem first_slot {h1 h2 h3 h4 h5 h6 h7 h8 h9 l1 l2 l3 l4 l5 x1 x2 x3 x4 m1 m2 m3 m4} (q0 : QV F)
    {kk : PUnit → Prog (TpuEff nD τ sig (Elt F) Λ₀ .tc) α} {Q : α → sProp 𝕄} :
    iprop(rows3 (fun r => rowAny (F := F) c r 0) ∗ hold q0M c q0)
      ⊢ iprop(((slotAt c 0 (initQ q0) (initC F, initS F) ∗ hold q0M c q0) -∗ wp frame (wpE defs 𝒱 (c : Thread nD τ) bd) Set.univ (kk ⟨⟩) Q)
        -∗ wp frame (wpE defs 𝒱 (c : Thread nD τ) bd) Set.univ
          (.op (.load q0M (Rect.unit (s := S8x4x64x128) ![0, 0, 0, 0] S8x4x64x128.size h1).toLoadRect l1) fun v13 =>
           .op (.load qM (Rect.unit (s := S4x8x4x64x128) ![0, 0, 0, 0, 0] S1x8x4x64x128.size h2).toLoadRect l2) fun _ =>
           .op (.store qM (Rect.unit (s := S4x8x4x64x128) ![0, 0, 0, 0, 0] S1x8x4x64x128.size h3) (k0_pay74 v13) Finset.univ x1 m1) fun _ =>
           .op (.load cM (Rect.unit (s := S4x8x4x64x128) ![0, 0, 0, 0, 0] S1x8x4x64x128.size h4).toLoadRect l3) fun _ =>
           .op (.store cM (Rect.unit (s := S4x8x4x64x128) ![0, 0, 0, 0, 0] S1x8x4x64x128.size h5) (k0_pay75 (F := F)) Finset.univ x2 m2) fun _ =>
           .op (.load sM (Rect.unit (s := S4x8x4x64x2) ![0, 0, 0, 0, 0] S1x8x4x64x1.size h6).toLoadRect l4) fun _ =>
           .op (.store sM (Rect.unit (s := S4x8x4x64x2) ![0, 0, 0, 0, 0] S1x8x4x64x1.size h7) (k0_pay77 (F := F) (k0_pay76 (F := F))) Finset.univ x3 m3) fun _ =>
           .op (.load sM (Rect.unit (s := S4x8x4x64x2) ![0, 0, 0, 0, 1] S1x8x4x64x1.size h8).toLoadRect l5) fun _ =>
           .op (.store sM (Rect.unit (s := S4x8x4x64x2) ![0, 0, 0, 0, 1] S1x8x4x64x1.size h9) (k0_pay78 (F := F)) Finset.univ x4 m4) kk) Q) := by
  unfold rows3
  iintro ⟨⟨Hq, Hc, Hs⟩, H0⟩ Hk
  ihave Hq := (show rowAny (F := F) c 0 0 ⊢ iprop(∃ x : QV F, hold (qS 0) c x) from any_hold _ c) $$ Hq
  ihave Hc := (show rowAny (F := F) c 1 0 ⊢ iprop(∃ x : CV F, hold (cS 0) c x) from any_hold _ c) $$ Hc
  ihave Hs := (show rowAny (F := F) c 2 0 ⊢ iprop(∃ x : SV F, hold (sS 0) c x) from any_hold _ c) $$ Hs
  icases Hq with ⟨%xq, Hq⟩
  icases Hc with ⟨%xc, Hc⟩
  icases Hs with ⟨%xs, Hs⟩
  iapply (load_full c 𝒱 bd q0M (by decide) q0) $$ H0
  iintro H0
  iapply (load_box 𝒱 c bd qM squeezes_S1x8x4x64x128_S8x4x64x128 0 ![0, 0, 0, 0] h2 xq) $$ Hq; iintro Hq
  iapply (store_box 𝒱 c bd qM squeezes_S1x8x4x64x128_S8x4x64x128 0 ![0, 0, 0, 0] h3 (k0_pay74 q0) xq) $$ Hq; iintro Hq
  iapply (load_box 𝒱 c bd cM squeezes_S1x8x4x64x128_S8x4x64x128 0 ![0, 0, 0, 0] h4 xc) $$ Hc; iintro Hc
  iapply (store_box 𝒱 c bd cM squeezes_S1x8x4x64x128_S8x4x64x128 0 ![0, 0, 0, 0] h5 (k0_pay75 (F := F)) xc) $$ Hc; iintro Hc
  iapply (load_box 𝒱 c bd sM squeezes_S1x8x4x64x2_S8x4x64x2 0 ![0, 0, 0, 0] h6 xs) $$ Hs; iintro Hs
  iapply (store_box 𝒱 c bd sM squeezes_S1x8x4x64x2_S8x4x64x2 0 ![0, 0, 0, 0] h7 (k0_pay77 (F := F) (k0_pay76 (F := F))) xs) $$ Hs; iintro Hs
  iapply (load_box 𝒱 c bd sM squeezes_S1x8x4x64x2_S8x4x64x2 0 ![0, 0, 0, 1] h8 _) $$ Hs; iintro Hs
  iapply (store_box 𝒱 c bd sM squeezes_S1x8x4x64x2_S8x4x64x2 0 ![0, 0, 0, 1] h9 (k0_pay78 (F := F)) _) $$ Hs; iintro Hs
  rw [full_put (d := ![8, 4, 64, 128]) (o := ![0, 0, 0, 0]) (by decide) (k0_pay74 q0), full_put (d := ![8, 4, 64, 128]) (o := ![0, 0, 0, 0]) (by decide) (k0_pay75 (F := F))]
  ihave Hs := (Entails.of_eq (congrArg (hold (sS 0) c) (initS_eq (F := F) xs))) $$ Hs
  iapply Hk
  isplitr [H0]
  · unfold slotAt
    isplitl [Hq]; · iexact Hq
    isplitl [Hc]; · iexact Hc
    iexact Hs
  iexact H0

end First

theorem first_rule (q0 : QV F) (wo : S1024x1024.Idx → Elt F .f32) (hq0 : A.q0 c = initQ q0) (hp0 : A.p0 = (initC F, initS F)) {α : Type}
    {dp dn : Dev nD} (hp : dp = prv c) (hn : dn = nxt c) {h1 h2 h3 h4 h5 h6 h7 h8 h9 l1 l2 l3 l4 l5 x1 x2 x3 x4 m1 m2 m3 m4}
    {kk : PUnit → Prog (TpuEff nD τ sig (Elt F) Λ₀ .tc) α} {Q : α → sProp 𝕄}
    (H : iprop(ctx A c κ ι ∗ Start A c 0 ∗ Side c q0 wo) ⊢ wp frame (wpE defs 𝒱 (c : Thread nD τ) bd) Set.univ (kk ⟨⟩) Q)
    {a b e : ℤ} (ha : a = 1 := by rfl) (hb : b = 1 := by rfl) (he : e = 2 := by rfl) {s1 s2 s3 : Sem sig}
    (e1 : s1 = barS := by rfl) (e2 : s2 = barS := by rfl) (e3 : s3 = barS := by rfl) :
    Pre A c κ ι q0 wo ⊢ wp frame (wpE defs 𝒱 (c : Thread nD τ) bd) Set.univ
          (.op (.semSignal (dp, .tc) s1 a) fun _ => .op (.semSignal (dn, .tc) s2 b) fun _ => .op (.semWait s3 e) fun _ =>
           .op (.load q0M (Rect.unit (s := S8x4x64x128) ![0, 0, 0, 0] S8x4x64x128.size h1).toLoadRect l1) fun v13 =>
           .op (.load qM (Rect.unit (s := S4x8x4x64x128) ![0, 0, 0, 0, 0] S1x8x4x64x128.size h2).toLoadRect l2) fun _ =>
           .op (.store qM (Rect.unit (s := S4x8x4x64x128) ![0, 0, 0, 0, 0] S1x8x4x64x128.size h3) (k0_pay74 v13) Finset.univ x1 m1) fun _ =>
           .op (.load cM (Rect.unit (s := S4x8x4x64x128) ![0, 0, 0, 0, 0] S1x8x4x64x128.size h4).toLoadRect l3) fun _ =>
           .op (.store cM (Rect.unit (s := S4x8x4x64x128) ![0, 0, 0, 0, 0] S1x8x4x64x128.size h5) (k0_pay75 (F := F)) Finset.univ x2 m2) fun _ =>
           .op (.load sM (Rect.unit (s := S4x8x4x64x2) ![0, 0, 0, 0, 0] S1x8x4x64x1.size h6).toLoadRect l4) fun _ =>
           .op (.store sM (Rect.unit (s := S4x8x4x64x2) ![0, 0, 0, 0, 0] S1x8x4x64x1.size h7) (k0_pay77 (F := F) (k0_pay76 (F := F))) Finset.univ x3 m3) fun _ =>
           .op (.load sM (Rect.unit (s := S4x8x4x64x2) ![0, 0, 0, 0, 1] S1x8x4x64x1.size h8).toLoadRect l5) fun _ =>
           .op (.store sM (Rect.unit (s := S4x8x4x64x2) ![0, 0, 0, 0, 1] S1x8x4x64x1.size h9) (k0_pay78 (F := F)) Finset.univ x4 m4) kk) Q := by
  unfold Pre Rest0
  iintro ⟨⟨#HI, #Hlev⟩, He, ⟨Hres, Hpos, Hcr⟩, Hrow, Hq0, Hkt, Hv, Hwo, Hw, Hout⟩
  iapply (barrier_step A c 𝒱 bd κ ι ha hb he e1 e2 e3 hp hn) $$ [He]
  · isplitr; · iexact HI
    isplitr; · iexact Hlev
    iexact He
  iintro ⟨#Hctx, Hbar, Hah, HO⟩
  iapply (first_slot c 𝒱 bd q0) $$ [Hrow Hq0]
  · isplitl [Hrow]; · iexact Hrow
    iexact Hq0
  iintro ⟨Hs, Hq0⟩
  iapply H
  isplitr; · iexact Hctx
  isplitr [Hq0 Hwo Hw Hout Hbar]
  · unfold Start saids backs
    rw [if_neg (by decide), show min 0 5 = 0 from rfl, Finset.range_zero, bigSep_empty, show Finset.Ico 5 0 = ∅ from rfl, bigSep_empty]
    isplitl [Hs]
    · ihave Hs := (show slotAt c 0 (initQ q0) (initC F, initS F) ⊢ slotAt c (slotN 0) (st A 0 c).1 (st A 0 c).2 by
        unfold st; rw [hq0, hp0]; exact Entails.of_eq rfl) $$ Hs
      iexact Hs
    isplitl [Hkt]; · iexact Hkt
    isplitl [Hv]; · iexact Hv
    isplitl [HO]; · iexact HO
    isplitl [Hres]; · iexact Hres
    isplitl [Hpos]; · iexact Hpos
    isplitl [Hah]; · iexact Hah
    isplitl [Hcr]; · iexact Hcr
    isplitr; · iempintro
    isplitr
    · iempintro
    · iempintro
  unfold Side
  isplitl [Hbar]; · iexact Hbar
  isplitl [Hq0]; · iexact Hq0
  isplitl [Hwo]; · iexact Hwo
  isplitl [Hw]; · iexact Hw
  iexact Hout

theorem ahead_rule (k : ℕ) (hk : k < 3) {R : sProp (MT nD τ sig ℕ (Elt F) ℕ UU ℕ)} {P : sProp (MT nD τ sig ℕ (Elt F) ℕ UU ℕ)}
    (H : iprop(ctx A c κ ι ∗ Ahead A c k ∗ R) ⊢ P) : iprop(ctx A c κ ι ∗ Mid A c k ∗ R) ⊢ P := by
  iintro ⟨#HI, HM, HR⟩
  ihave HM := (ahead_first A c k κ ι hk) $$ [HM]
  · isplitr; · iexact HI
    iexact HM
  iapply H
  isplitr; · iexact HI
  isplitl [HM]; · iexact HM
  iexact HR

theorem last_rule (k : ℕ) (h5 : 5 ≤ k) (h7 : k < 7) {R : sProp (MT nD τ sig ℕ (Elt F) ℕ UU ℕ)} {P : sProp (MT nD τ sig ℕ (Elt F) ℕ UU ℕ)}
    (H : iprop(ctx A c κ ι ∗ Start A c (k + 1) ∗ R) ⊢ P) : iprop(ctx A c κ ι ∗ After A c k ∗ R) ⊢ P := by
  iintro ⟨#HI, HM, HR⟩
  ihave HM := (after_last A c k h5 h7) $$ HM
  iapply H
  isplitr; · iexact HI
  isplitl [HM]; · iexact HM
  iexact HR

/-- What is left beside the output's own buffers. -/
def Aside (q0 : QV F) (wo : S1024x1024.Idx → Elt F .f32) : sProp 𝕄 :=
  iprop(ctx A c κ ι ∗ atPos (ER F) (barC c) 1 ∅ 0 ∗ hold q0M c q0 ∗ hold woM c wo ∗ holdAny outM c
    ∗ rowAny (F := F) c 0 0 ∗ hold ktM c (A.kt c) ∗ hold vM c (A.v c) ∗ owesE c 0
    ∗ (bigSep (Finset.Ico 8 11) (fun j => rows3 (rowPos (F := F) c j)) ∗ rowPos (F := F) c 7 0 ∗ rowPos (F := F) c 11 1 ∗ rowPos (F := F) c 11 2)
    ∗ crSt (F := F) c 5 ∗ bigSep (Finset.Ico 5 8) (fun j => rows3 fun r => rowAny (F := F) c r (slotN j)))

theorem out_start (q0 : QV F) (wo : S1024x1024.Idx → Elt F .f32) {P : sProp (MT nD τ sig ℕ (Elt F) ℕ UU ℕ)}
    (H : ∀ w : WV F, iprop(hold (cS 0) c (st A 8 c).2.1 ∗ hold (sS 0) c (st A 8 c).2.2 ∗ hold wM c (outN (st A 8 c).2.1 (st A 8 c).2.2 0 w) ∗ Aside A c κ ι q0 wo) ⊢ P) :
    iprop(ctx A c κ ι ∗ Done A c ∗ Side c q0 wo) ⊢ P := by
  unfold Done Side
  iintro ⟨#HI, ⟨D0, D1, D2, Hkt, Hv, HO, Hpos, Hcr, Hb⟩, Hbar, Hq0, Hwo, Hw, Hout⟩
  ihave Hw := (any_hold wM c) $$ Hw
  icases Hw with ⟨%w, Hw⟩
  ihave D1 := (show rowAt c 1 0 (st A 8 c) ⊢ hold (cS 0) c (st A 8 c).2.1 from Entails.of_eq rfl) $$ D1
  ihave D2 := (show rowAt c 2 0 (st A 8 c) ⊢ hold (sS 0) c (st A 8 c).2.2 from Entails.of_eq rfl) $$ D2
  ihave Hw := (Entails.of_eq (congrArg (hold wM c) (outN_zero (st A 8 c).2.1 (st A 8 c).2.2 w).symm)) $$ Hw
  iapply (H w)
  isplitl [D1]; · iexact D1
  isplitl [D2]; · iexact D2
  isplitl [Hw]; · iexact Hw
  unfold Aside
  isplitr; · iexact HI
  isplitl [Hbar]; · iexact Hbar
  isplitl [Hq0]; · iexact Hq0
  isplitl [Hwo]; · iexact Hwo
  isplitl [Hout]; · iexact Hout
  isplitl [D0]; · iexact D0
  isplitl [Hkt]; · iexact Hkt
  isplitl [Hv]; · iexact Hv
  isplitl [HO]; · iexact HO
  isplitl [Hpos]; · iexact Hpos
  isplitl [Hcr]; · iexact Hcr
  iexact Hb

theorem out_end (q0 : QV F) (wo : S1024x1024.Idx → Elt F .f32) (w : WV F) {i1 i2 i3 i4 l1 l2 l3 x4 m4} :
    iprop(hold (cS 0) c (st A 8 c).2.1 ∗ hold (sS 0) c (st A 8 c).2.2 ∗ hold wM c (outN (st A 8 c).2.1 (st A 8 c).2.2 32 w) ∗ Aside A c κ ι q0 wo)
      ⊢ wp frame (wpE defs 𝒱 (c : Thread nD τ) bd) Set.univ
          (.op (.load wM (Rect.unit (s := S256x1024) ![0, 0] S256x1024.size i1).toLoadRect l1) fun a =>
           .op (.load woM (Rect.unit (s := S1024x1024) ![0, 0] S1024x1024.size i2).toLoadRect l2) fun b =>
           .op (.load outM (Rect.unit (s := S1x256x1024) ![0, 0, 0] S1x256x1024.size i3).toLoadRect l3) fun _ =>
           .op (.store outM (Rect.unit (s := S1x256x1024) ![0, 0, 0] S1x256x1024.size i4) (k0_pay1 a b) Finset.univ x4 m4) fun _ => (.ret ⟨⟩ : Prog (TpuEff nD τ sig (Elt F) Λ₀ .tc) PUnit))
          (fun _ => Post A c κ ι q0 wo) := by
  unfold Aside
  iintro ⟨D1, D2, Hw, #HI, Hbar, Hq0, Hwo, Hout, D0, Hkt, Hv, HO, Hpos, Hcr, Hb⟩
  ihave Hout := (any_hold outM c) $$ Hout
  icases Hout with ⟨%x, Hout⟩
  iapply (load_full c 𝒱 bd wM (by decide) _) $$ Hw; iintro Hw
  iapply (load_full c 𝒱 bd woM (by decide) wo) $$ Hwo; iintro Hwo
  iapply (load_full c 𝒱 bd outM (by decide) x) $$ Hout; iintro Hout
  iapply (store_full c 𝒱 bd outM (by decide) x _) $$ Hout; iintro Hout
  rw [outN_full, wp_ret]
  imodintro
  ihave D1 := (show hold (cS 0) c (st A 8 c).2.1 ⊢ rowAt c 1 0 (st A 8 c) from Entails.of_eq rfl) $$ D1
  ihave D2 := (show hold (sS 0) c (st A 8 c).2.2 ⊢ rowAt c 2 0 (st A 8 c) from Entails.of_eq rfl) $$ D2
  unfold Post Done outV
  isplitr; · iexact HI
  isplitl [Hbar]; · iexact Hbar
  isplitr [Hq0 Hwo Hw Hout]
  · isplitl [D0]; · iexact D0
    isplitl [D1]; · iexact D1
    isplitl [D2]; · iexact D2
    isplitl [Hkt]; · iexact Hkt
    isplitl [Hv]; · iexact Hv
    isplitl [HO]; · iexact HO
    isplitl [Hpos]; · iexact Hpos
    isplitl [Hcr]; · iexact Hcr
    iexact Hb
  isplitl [Hq0]; · iexact Hq0
  isplitl [Hwo]; · iexact Hwo
  isplitl [Hw]; · iexact Hw
  iexact Hout

set_option maxHeartbeats 4000000 in
theorem body_run (q0 : QV F) (wo : S1024x1024.Idx → Elt F .f32) (hq0 : A.q0 c = initQ q0) (hp0 : A.p0 = (initC F, initS F)) :
    Pre A c κ ι q0 wo ⊢ wp frame (wpE defs 𝒱 (c : Thread nD τ) bd) Set.univ
      (cc0__body (F := F) q0M (Memref.isWhole_whole _) ktM (Memref.isWhole_whole _) vM (Memref.isWhole_whole _) woM (Memref.isWhole_whole _) outM (Memref.isWhole_whole _)
        qM (Memref.isWhole_whole _) cM (Memref.isWhole_whole _) sM (Memref.isWhole_whole _) wM (Memref.isWhole_whole _) cc0_scratch4 cc0_scratch5 cc0_scratch6) (fun _ => Post A c κ ι q0 wo) := by
  obtain ⟨p1, p6, p10, p14, p18, p22⟩ := dev_prv c
  obtain ⟨n2, n3, n4, n5, n7, n8, n9, n11, n12, n13, n15, n16, n17, n19, n20, n21, n23, n24, n25, n26, n27, n28, n29, n30⟩ := dev_nxt c
  rw [cc0__body_eq_skeleton]
  unfold cc0__body_skel
  rw [k0_part17_eq_skeleton, k0_part18_eq_skeleton]
  unfold k0_part17_skel k0_part18_skel
  simp only [semSignalWord, semWaitWord, Prog.lift, Prog.bind_op, Prog.bind_ret, Prog.pure_eq_ret, Prog.bind_assoc, wp_deviceId]
  refine first_rule A c 𝒱 bd κ ι q0 wo hq0 hp0 p1 n2 ?_
  refine loop_rule A c 0 𝒱 bd κ ι (by decide) (isHop1 _ _ _ _ _ _ _ _ _ _ _ _ _ _ _ _ _ _ _) ?_
  simp only [k0_part19_eq_skeleton, k0_part19_skel, k0_part20_eq_skeleton, k0_part20_skel, k0_part21_eq_skeleton, k0_part21_skel, k0_part22_eq_skeleton, k0_part22_skel, semSignalWord, semWaitWord, Prog.lift, Prog.bind_op, Prog.bind_ret, Prog.pure_eq_ret, Prog.bind_assoc]
  refine ahead_rule A c κ ι 0 (by decide) ?_
  refine copies_rule A c 0 𝒱 bd κ ι (by decide) ?_
  refine signal_rule A c 0 𝒱 bd κ ι (by decide) rfl rfl p6 ?_
  refine loop_rule A c 1 𝒱 bd κ ι (by decide) (isHop2 _ _ _ _ _ _ _ _ _ _ _ _ _ _ _ _ _ _ _) ?_
  simp only [k0_part23_eq_skeleton, k0_part23_skel, k0_part24_eq_skeleton, k0_part24_skel, k0_part25_eq_skeleton, k0_part25_skel, k0_part26_eq_skeleton, k0_part26_skel, semSignalWord, semWaitWord, Prog.lift, Prog.bind_op, Prog.bind_ret, Prog.pure_eq_ret, Prog.bind_assoc]
  refine ahead_rule A c κ ι 1 (by decide) ?_
  refine copies_rule A c 1 𝒱 bd κ ι (by decide) ?_
  refine signal_rule A c 1 𝒱 bd κ ι (by decide) rfl rfl p10 ?_
  refine loop_rule A c 2 𝒱 bd κ ι (by decide) (isHop3 _ _ _ _ _ _ _ _ _ _ _ _ _ _ _ _ _ _ _) ?_
  simp only [k0_part27_eq_skeleton, k0_part27_skel, k0_part28_eq_skeleton, k0_part28_skel, k0_part29_eq_skeleton, k0_part29_skel, k0_part30_eq_skeleton, k0_part30_skel, semSignalWord, semWaitWord, Prog.lift, Prog.bind_op, Prog.bind_ret, Prog.pure_eq_ret, Prog.bind_assoc]
  refine ahead_rule A c κ ι 2 (by decide) ?_
  refine copies_rule A c 2 𝒱 bd κ ι (by decide) ?_
  refine signal_rule A c 2 𝒱 bd κ ι (by decide) rfl rfl p14 ?_
  refine loop_rule A c 3 𝒱 bd κ ι (by decide) (isHop4 _ _ _ _ _ _ _ _ _ _ _ _ _ _ _ _ _ _ _ _) ?_
  simp only [k0_part31_eq_skeleton, k0_part31_skel, k0_part32_eq_skeleton, k0_part32_skel, k0_part33_eq_skeleton, k0_part33_skel, k0_part34_eq_skeleton, k0_part34_skel, semSignalWord, semWaitWord, Prog.lift, Prog.bind_op, Prog.bind_ret, Prog.pure_eq_ret, Prog.bind_assoc]
  refine credit_rule A c 𝒱 bd κ ι 0 (by decide) rfl rfl ?_
  refine copies_rule A c 3 𝒱 bd κ ι (by decide) ?_
  refine signal_rule A c 3 𝒱 bd κ ι (by decide) rfl rfl p18 ?_
  refine loop_rule A c 4 𝒱 bd κ ι (by decide) (isHop5 _ _ _ _ _ _ _ _ _ _ _ _ _ _ _ _ _ _ _) ?_
  simp only [k0_part35_eq_skeleton, k0_part35_skel, k0_part36_eq_skeleton, k0_part36_skel, k0_part37_eq_skeleton, k0_part37_skel, k0_part38_eq_skeleton, k0_part38_skel, semSignalWord, semWaitWord, Prog.lift, Prog.bind_op, Prog.bind_ret, Prog.pure_eq_ret, Prog.bind_assoc]
  refine credit_rule A c 𝒱 bd κ ι 1 (by decide) rfl rfl ?_
  refine copies_rule A c 4 𝒱 bd κ ι (by decide) ?_
  refine signal_rule A c 4 𝒱 bd κ ι (by decide) rfl rfl p22 ?_
  refine loop_rule A c 5 𝒱 bd κ ι (by decide) (isHop6 _ _ _ _ _ _ _ _ _ _ _ _ _ _ _ _ _ _ _ _) ?_
  simp only [k0_part39_eq_skeleton, k0_part39_skel, k0_part40_eq_skeleton, k0_part40_skel, k0_part41_eq_skeleton, k0_part41_skel, semSignalWord, semWaitWord, Prog.lift, Prog.bind_op, Prog.bind_ret, Prog.pure_eq_ret, Prog.bind_assoc]
  refine credit_rule A c 𝒱 bd κ ι 2 (by decide) rfl rfl ?_
  refine copies_rule A c 5 𝒱 bd κ ι (by decide) ?_
  refine last_rule A c κ ι 5 (by decide) (by decide) ?_
  refine loop_rule A c 6 𝒱 bd κ ι (by decide) (isHop7 _ _ _ _ _ _ _ _ _ _ _ _ _ _ _ _ _) ?_
  simp only [k0_part42_eq_skeleton, k0_part42_skel, k0_part43_eq_skeleton, k0_part43_skel, k0_part44_eq_skeleton, k0_part44_skel, k0_part45_eq_skeleton, k0_part45_skel, semSignalWord, semWaitWord, Prog.lift, Prog.bind_op, Prog.bind_ret, Prog.pure_eq_ret, Prog.bind_assoc]
  refine credit_rule A c 𝒱 bd κ ι 3 (by decide) rfl rfl ?_
  refine copies_rule A c 6 𝒱 bd κ ι (by decide) ?_
  refine last_rule A c κ ι 6 (by decide) (by decide) ?_
  refine loop_rule A c 7 𝒱 bd κ ι (by decide) (isHop8 _ _ _ _ _ _ _ _ _ _ _ _ _ _ _ _ _) ?_
  simp only [k0_part46_eq_skeleton, k0_part46_skel, k0_part47_eq_skeleton, k0_part47_skel, k0_part48_eq_skeleton, k0_part48_skel, semSignalWord, semWaitWord, Prog.lift, Prog.bind_op, Prog.bind_ret, Prog.pure_eq_ret, Prog.bind_assoc]
  refine credit_rule A c 𝒱 bd κ ι 4 (by decide) rfl rfl ?_
  refine copies7_rule A c 𝒱 bd κ ι ?_
  simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, Prog.lift, Prog.bind_op, Prog.bind_ret, Prog.pure_eq_ret, Prog.bind_assoc]
  refine out_start A c κ ι q0 wo fun w => ?_
  iterate 32 refine out_rule c 𝒱 bd _ _ _ w ?_
  exact out_end A c 𝒱 bd κ ι q0 wo w

end Cert.RingProof

end
-- ==== Proof.Cells.lean ====
/-
  The kernel's own semaphores opened before the body and closed after it, and its scratch buffers cut into slots and put together again.
-/
module

public import proofs.«01_k».proof.Proof.Body

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## A buffer is its slots -/

section Cut

variable {n K : ℕ} {d : Fin n → ℕ} {e : EltTy}
variable (M : Memref sig .tc .vmem (⟨n + 1, Matrix.vecCons K d⟩ : Shape) e)
  (hq : (⟨n + 1, Matrix.vecCons 1 d⟩ : Shape).Squeezes ⟨n, d⟩) (c : Dev nD)

theorem any_cut : (holdAny M c : sProp 𝕄) ⊢ bigSep Finset.univ (fun s : Fin K => holdAny (F := F) (slotM M hq s) c) := by
  have h1 (f : Buf (Elt F) (M.view.loc (c : Thread nD τ))) (s : Fin K) :
      (M.view.loc (c : Thread nD τ) ↦[(slotM M hq s).view.set]{fullShare} f : sProp 𝕄) ⊢ holdAny (F := F) (slotM M hq s) c := by
    unfold holdAny
    iintro H
    iexists f
    iexact H
  have h2 (f : Buf (Elt F) (M.view.loc (c : Thread nD τ))) : (M.view.loc (c : Thread nD τ) ↦[M.view.set]{fullShare} f : sProp 𝕄)
      ⊢ bigSep Finset.univ (fun s : Fin K => holdAny (F := F) (slotM M hq s) c) := by
    rw [← slot_union M hq, pointsTo_biUnion _ _ (fun s _ t _ h => slot_disjoint M hq h)]
    exact bigSep_mono fun s _ => h1 f s
  conv_lhs => unfold holdAny
  iintro ⟨%f, H⟩
  iapply (h2 f)
  iexact H

theorem any_join (f₀ : Buf (Elt F) (M.view.loc (c : Thread nD τ))) :
    bigSep Finset.univ (fun s : Fin K => holdAny (F := F) (slotM M hq s) c) ⊢ (holdAny M c : sProp 𝕄) := by
  haveI : Nonempty (Buf (Elt F) (M.view.loc (c : Thread nD τ))) := ⟨f₀⟩
  refine (show _ ⊢ bigSep Finset.univ (fun s : Fin K => iprop(∃ g : Buf (Elt F) (M.view.loc (c : Thread nD τ)),
      M.view.loc (c : Thread nD τ) ↦[(slotM M hq s).view.set]{fullShare} g)) from Entails.of_eq rfl).trans ?_
  refine (bigSep_exists_pi _ _).trans ?_
  iintro ⟨%fs, H⟩
  ihave H := (pointsTo_biUnion_join Finset.univ (fun s : Fin K => (slotM M hq s).view.set) fs f₀ (fun s _ t _ h => slot_disjoint M hq h)) $$ H
  icases H with ⟨%g, -, H⟩
  unfold holdAny
  iexists g
  rw [← slot_union M hq]
  iexact H

end Cut

/-- A whole buffer, as a hold. -/
theorem any_whole (b : Ref sig .tc) {s : Shape} {e : EltTy} (M : Memref sig .tc .vmem s e) (c : Dev nD) (hl : M.view.loc (c : Thread nD τ) = (c : Thread nD τ).loc b)
    (hs : M.view.set = Finset.univ) : (holdAny (F := F) M c : sProp 𝕄) = iprop(∃ f : Buf (Elt F) (M.view.loc (c : Thread nD τ)), M.view.loc (c : Thread nD τ) ↦{fullShare} f) := by
  unfold holdAny
  rw [hs]

/-! ## Families over the slots -/

theorem fin4_ico (Φ : ℕ → sProp 𝕄) : bigSep Finset.univ (fun s : Fin 4 => Φ s.val) = bigSep (Finset.Ico 0 4) Φ := by
  rw [show Finset.Ico 0 4 = Finset.univ.map (⟨Fin.val, Fin.val_injective⟩ : Fin 4 ↪ ℕ) from by decide, bigSep_map]
  rfl

def rot : Fin 4 ≃ Fin 4 := ⟨fun s => s + 1, fun s => s + 3, by decide, by decide⟩

theorem big_swap {I J : Type} [Fintype I] [Fintype J] (Φ : I → J → sProp 𝕄) :
    bigSep Finset.univ (fun i => bigSep Finset.univ (fun j => Φ i j)) = bigSep Finset.univ (fun j => bigSep Finset.univ (fun i => Φ i j)) := by
  rw [← bigSep_univ_prod (fun x : I × J => Φ x.1 x.2), bigSep_univ_equiv (Equiv.prodComm J I), bigSep_univ_prod]
  rfl

/-- The kernel's own semaphores: the credit one, and by slot and row those a copy from the slot uses. -/
theorem own_eq (Φ : KI → sProp 𝕄) :
    bigSep Finset.univ Φ = iprop(Φ (.inl ()) ∗ bigSep Finset.univ (fun s : Fin 4 => bigSep Finset.univ (fun r : Fin 3 =>
      iprop(Φ (.inr (.inl (r, s))) ∗ Φ (.inr (.inr (r, s + 1))))))) := by
  have e : (fun s : Fin 4 => bigSep Finset.univ (fun r : Fin 3 => iprop(Φ (.inr (.inl (r, s))) ∗ Φ (.inr (.inr (r, s + 1))))))
      = fun s => iprop(bigSep Finset.univ (fun r : Fin 3 => Φ (.inr (.inl (r, s)))) ∗ bigSep Finset.univ (fun r : Fin 3 => Φ (.inr (.inr (r, s + 1))))) :=
    funext fun s => bigSep_sep' _ _ _
  rw [e, bigSep_sep', bigSep_univ_sum, bigSep_univ_sum, bigSep_univ_prod, bigSep_univ_prod,
    big_swap (fun (r : Fin 3) (s : Fin 4) => Φ (.inr (.inl (r, s)))),
    big_swap (fun (r : Fin 3) (s : Fin 4) => Φ (.inr (.inr (r, s)))),
    bigSep_univ_equiv rot (fun s : Fin 4 => bigSep Finset.univ (fun r : Fin 3 => Φ (.inr (.inr (r, s))))),
    show (Finset.univ : Finset Unit) = {()} from rfl, bigSep_singleton]
  rfl

variable (A : Args F) (c : Dev nD) (κ : GSem nD τ sig → ℕ) (ι : Dev nD × ℕ → ℕ)

/-! ## Opening -/

/-- The own cells opened. -/
def opens : sProp 𝕄 :=
  bigSep Finset.univ (fun k : KI => iprop(atPos (ER F) ((c : Thread nD τ), osem k) 0 ∅ 0 ∗ reached (ER F) ((c : Thread nD τ), osem k) 0))

theorem open_all :
    iprop(recs A κ ι ∗ bigSep Finset.univ (fun k : KI => openTok (ER F) ((c : Thread nD τ), osem k)) ∗ Pipeline.ownSems0 osem c)
      ⊢ (|={Set.univ}=> opens (F := F) c : sProp 𝕄) := by
  have h : iprop(bigSep Finset.univ (fun k : KI => openTok (ER F) ((c : Thread nD τ), osem k)) ∗ Pipeline.ownSems0 osem c)
      ⊢ (bigSep Finset.univ (fun k : KI => iprop(openTok (ER F) ((c : Thread nD τ), osem k) ∗ semVal ((c : Thread nD τ), osem k) 0)) : sProp 𝕄) := by
    unfold Pipeline.ownSems0
    rw [bigSep_sep']
  refine (sep_mono_right h).trans ((bigSep_with_persistent (Ψ := fun k : KI =>
    iprop(|={Set.univ}=> (atPos (ER F) ((c : Thread nD τ), osem k) 0 ∅ 0 ∗ reached (ER F) ((c : Thread nD τ), osem k) 0))) fun k _ => ?_).trans (bigSep_fupd _ _))
  iintro ⟨#HI, Ho, Hs⟩
  iapply (Rounds.cell_open (ER F) (Rd A) (g := ((c : Thread nD τ), osem k)) (Set.mem_univ (κ ((c : Thread nD τ), osem k))))
  isplitr; · iapply (recs_cell A κ ι (mem_sc c k)); iexact HI
  isplitl [Ho] <;> iassumption

theorem reached_all : opens (F := F) c ⊢ iprop(reached (ER F) (crC c) 0 ∗ bigSep Finset.univ (fun r => bigSep Finset.univ (fun s => reached (ER F) (recvC c r s) 0))) := by
  have h : opens (F := F) c ⊢ bigSep Finset.univ (fun k : KI => reached (ER F) ((c : Thread nD τ), osem k) 0) := by
    unfold opens
    rw [bigSep_sep']
    iintro ⟨-, H⟩
    iexact H
  refine h.trans ?_
  rw [bigSep_univ_sum, bigSep_univ_sum, bigSep_univ_prod, bigSep_univ_prod, show (Finset.univ : Finset Unit) = {()} from rfl, bigSep_singleton]
  refine (show _ ⊢ iprop(reached (ER F) (crC c) 0 ∗ bigSep Finset.univ (fun r => bigSep Finset.univ (fun s => reached (ER F) (sendC c r s) 0))
    ∗ bigSep Finset.univ (fun r => bigSep Finset.univ (fun s => reached (ER F) (recvC c r s) 0))) from Entails.of_eq rfl).trans ?_
  iintro ⟨H1, -, H3⟩
  isplitl [H1] <;> iassumption

theorem row_of (s : Fin 4) (r : Fin 3) :
    iprop((atPos (ER F) (sendC c r s) 0 ∅ 0 ∗ reached (ER F) (sendC c r s) 0) ∗ (atPos (ER F) (recvC c r (s + 1)) 0 ∅ 0 ∗ reached (ER F) (recvC c r (s + 1)) 0))
      ⊢ rowPos (F := F) c s.val r := by
  unfold rowPos
  rw [show slotN s.val = s from by revert s; decide, show slotN (s.val + 1) = s + 1 from by revert s; decide, show s.val / 4 = 0 from by revert s; decide]
  iintro ⟨⟨H1, H2⟩, H3, -⟩
  isplitl [H1]; · iexact H1
  isplitl [H2]; · iexact H2
  iexact H3

theorem poss_of :
    bigSep Finset.univ (fun s : Fin 4 => bigSep Finset.univ (fun r : Fin 3 =>
      iprop((atPos (ER F) (sendC c r s) 0 ∅ 0 ∗ reached (ER F) (sendC c r s) 0) ∗ (atPos (ER F) (recvC c r (s + 1)) 0 ∅ 0 ∗ reached (ER F) (recvC c r (s + 1)) 0))))
      ⊢ bigSep Finset.univ (fun s : Fin 4 => rows3 (rowPos (F := F) c s.val)) :=
  bigSep_mono fun s _ => by
    rw [← bigSep_fin3]
    exact bigSep_mono fun r _ => row_of c s r

theorem poss_all : opens (F := F) c ⊢ iprop(poss (F := F) c 0 ∗ crSt (F := F) c 0) := by
  unfold opens poss crSt
  rw [own_eq, if_neg (by decide), ← fin4_ico]
  iintro ⟨⟨Hc, -⟩, H⟩
  isplitl [H]
  · iapply (poss_of (F := F) c)
    iexact H
  · iexists ∅
    isplitr; · ipureintro; exact ⟨Finset.empty_subset _, by decide⟩
    isplitl [Hc]; · iexact Hc
    rw [bigSep_empty]
    iempintro

/-! ## Closing -/

theorem duties_none (sm : SemLoc sig) (R : ℕ) (h : ∀ ρ, R ≤ ρ → dutiesK (kind sm) ρ = ∅) (ρ : ℕ) (hρ : R ≤ ρ) : (Rd A).duties ((c : Thread nD τ), sm) ρ = ∅ := by
  rw [duties_tc]; exact h ρ hρ

/-- The hop after the last one that copies row `r` from slot `s`. -/
def lastHop (s : Fin 4) (r : Fin 3) : ℕ := if r = 0 ∧ s = 3 then 7 else 8 + s.val

theorem lastHop_facts : ∀ (s : Fin 4) (r : Fin 3), slotN (lastHop s r) = s ∧ slotN (lastHop s r + 1) = s + 1 ∧ 1 ≤ lastHop s r / 4 ∧ (¬(r = 0 ∧ s = 3) → lastHop s r / 4 = 2) := by decide

theorem close_row (s : Fin 4) (r : Fin 3) :
    iprop(recs A κ ι ∗ rowPos (F := F) c (lastHop s r) r) ⊢ (|={Set.univ}=> (semVal (sendC c r s) 0 ∗ semVal (recvC c r (s + 1)) 0) : sProp 𝕄) := by
  obtain ⟨h1, h2, h3, h4⟩ := lastHop_facts s r
  unfold rowPos
  rw [h1, h2]
  generalize lastHop s r / 4 = R at h3 h4 ⊢
  iintro ⟨#HI, Hs, -, Hr⟩
  ihave #Hi1 := (recs_cell A κ ι (mem_send c r s)) $$ HI
  ihave #Hi2 := (recs_cell A κ ι (mem_recv c r (s + 1))) $$ HI
  imod (Rounds.cell_close (ER F) (Rd A) (g := sendC c r s) (Set.mem_univ (κ (sendC c r s))) id (R := R)
    (duties_none A c _ R (fun ρ hρ => by
      rw [kind_send]
      refine if_neg fun h => ?_
      by_cases hx : r = 0 ∧ s = 3
      · rcases h with h | ⟨-, h⟩
        · omega
        · exact h hx
      · have := h4 hx; omega))) $$ [Hs] with Hv1
  · isplitr; · iexact Hi1
    iexact Hs
  imod (Rounds.cell_close (ER F) (Rd A) (g := recvC c r (s + 1)) (Set.mem_univ (κ (recvC c r (s + 1)))) id (R := R)
    (duties_none A c _ R (fun ρ hρ => by
      rw [kind_recv]
      refine if_neg fun h => ?_
      by_cases hx : r = 0 ∧ s = 3
      · rcases h with h | ⟨-, h⟩
        · omega
        · exact h ⟨hx.1, by rw [hx.2]; rfl⟩
      · have := h4 hx; omega))) $$ [Hr] with Hv2
  · isplitr; · iexact Hi2
    iexact Hr
  imodintro
  isplitl [Hv1] <;> iassumption

theorem close_bar : iprop(recs A κ ι ∗ atPos (ER F) (barC c) 1 ∅ 0) ⊢ (|={Set.univ}=> semVal (barC c) 0 : sProp 𝕄) := by
  iintro ⟨#HI, H⟩
  iapply (Rounds.cell_close (ER F) (Rd A) (g := barC c) (Set.mem_univ (κ (barC c))) id (R := 1)
    (duties_none A c _ 1 (fun ρ hρ => by rw [kind_bar]; exact if_neg (by omega))))
  isplitr; · iapply (recs_cell A κ ι (mem_bar c)); iexact HI
  iexact H

theorem close_cr : iprop(recs A κ ι ∗ crSt (F := F) c 5) ⊢ (|={Set.univ}=> semVal (crC c) 0 : sProp 𝕄) := by
  unfold crSt
  rw [if_pos rfl]
  iintro ⟨#HI, H⟩
  iapply (Rounds.cell_close (ER F) (Rd A) (g := crC c) (Set.mem_univ (κ (crC c))) id (R := 1)
    (duties_none A c _ 1 (fun ρ hρ => by rw [kind_cr]; exact if_neg (by omega))))
  isplitr; · iapply (recs_cell A κ ι (mem_cr c)); iexact HI
  iexact H

theorem ends_all : iprop(bigSep (Finset.Ico 8 11) (fun j => rows3 (rowPos (F := F) c j)) ∗ rowPos (F := F) c 7 0 ∗ rowPos (F := F) c 11 1 ∗ rowPos (F := F) c 11 2)
    ⊢ bigSep Finset.univ (fun s : Fin 4 => bigSep Finset.univ (fun r : Fin 3 => rowPos (F := F) c (lastHop s r) r)) := by
  have e : (fun s : Fin 4 => bigSep Finset.univ (fun r : Fin 3 => rowPos (F := F) c (lastHop s r) r)) = fun s => rows3 (fun r => rowPos (F := F) c (lastHop s r) r) :=
    funext fun s => bigSep_fin3 _
  rw [e, bigSep_univ_eq_bigSepL [(0 : Fin 4), 1, 2, 3] (by decide) (by decide),
    ico_left (a := 8) (b := 11) (by decide), ico_left (a := 8 + 1) (b := 11) (by decide), ico_left (a := 8 + 1 + 1) (b := 11) (by decide),
    show Finset.Ico (8 + 1 + 1 + 1) 11 = ∅ from rfl, bigSep_empty]
  refine (show _ ⊢ iprop((rows3 (rowPos (F := F) c 8) ∗ rows3 (rowPos (F := F) c 9) ∗ rows3 (rowPos (F := F) c 10) ∗ emp)
    ∗ rowPos (F := F) c 7 0 ∗ rowPos (F := F) c 11 1 ∗ rowPos (F := F) c 11 2) from Entails.of_eq rfl).trans ?_
  refine BIBase.Entails.trans ?_ (show iprop(rows3 (rowPos (F := F) c 8) ∗ rows3 (rowPos (F := F) c 9) ∗ rows3 (rowPos (F := F) c 10)
    ∗ (rowPos (F := F) c 7 0 ∗ rowPos (F := F) c 11 1 ∗ rowPos (F := F) c 11 2)) ⊢ _ from Entails.of_eq rfl)
  iintro ⟨⟨H1, H2, H3, -⟩, H4⟩
  isplitl [H1]; · iexact H1
  isplitl [H2]; · iexact H2
  isplitl [H3]; · iexact H3
  iexact H4

theorem close_all :
    iprop(recs A κ ι ∗ crSt (F := F) c 5 ∗ bigSep Finset.univ (fun s : Fin 4 => bigSep Finset.univ (fun r : Fin 3 => rowPos (F := F) c (lastHop s r) r)))
      ⊢ (|={Set.univ}=> Pipeline.ownSems0 osem c : sProp 𝕄) := by
  have h : iprop(recs A κ ι ∗ bigSep Finset.univ (fun s : Fin 4 => bigSep Finset.univ (fun r : Fin 3 => rowPos (F := F) c (lastHop s r) r)))
      ⊢ (|={Set.univ}=> bigSep Finset.univ (fun s : Fin 4 => bigSep Finset.univ (fun r : Fin 3 => iprop(semVal (sendC c r s) 0 ∗ semVal (recvC c r (s + 1)) 0))) : sProp 𝕄) :=
    (bigSep_with_persistent fun s _ => (bigSep_with_persistent fun r _ => close_row A c κ ι s r).trans (bigSep_fupd _ _)).trans (bigSep_fupd _ _)
  iintro ⟨#HI, Hc, H⟩
  imod (close_cr A c κ ι) $$ [Hc] with Hc
  · isplitr; · iexact HI
    iexact Hc
  imod h $$ [H] with H
  · isplitr; · iexact HI
    iexact H
  imodintro
  unfold Pipeline.ownSems0
  rw [own_eq]
  isplitl [Hc]
  · iexact Hc
  · iexact H

/-! ## All rows of all slots -/

/-- The exchange's three buffers, whole. -/
def bufs3 : sProp 𝕄 := iprop(holdAny (F := F) qM c ∗ holdAny (F := F) cM c ∗ holdAny (F := F) sM c)

theorem rows_eq : bigSep Finset.univ (fun s : Fin 4 => rows3 (fun r => rowAny (F := F) c r s))
    = iprop(bigSep Finset.univ (fun s : Fin 4 => holdAny (F := F) (qS s) c) ∗ bigSep Finset.univ (fun s : Fin 4 => holdAny (F := F) (cS s) c)
      ∗ bigSep Finset.univ (fun s : Fin 4 => holdAny (F := F) (sS s) c)) := by
  rw [show (fun s : Fin 4 => rows3 (fun r => rowAny (F := F) c r s)) = fun s : Fin 4 =>
      iprop(holdAny (F := F) (qS s) c ∗ (holdAny (F := F) (cS s) c ∗ holdAny (F := F) (sS s) c)) from rfl, bigSep_sep', bigSep_sep']

theorem cut_all : bufs3 (F := F) c ⊢ bigSep Finset.univ (fun s : Fin 4 => rows3 (fun r => rowAny (F := F) c r s)) := by
  rw [rows_eq]
  unfold bufs3
  iintro ⟨H1, H2, H3⟩
  isplitl [H1]; · iapply (any_cut qM squeezes_S1x8x4x64x128_S8x4x64x128 c); iexact H1
  isplitl [H2]; · iapply (any_cut cM squeezes_S1x8x4x64x128_S8x4x64x128 c); iexact H2
  iapply (any_cut sM squeezes_S1x8x4x64x2_S8x4x64x2 c); iexact H3

theorem join_all (f₁ : Buf (Elt F) (qM.view.loc (c : Thread nD τ))) (f₂ : Buf (Elt F) (cM.view.loc (c : Thread nD τ))) (f₃ : Buf (Elt F) (sM.view.loc (c : Thread nD τ))) :
    bigSep Finset.univ (fun s : Fin 4 => rows3 (fun r => rowAny (F := F) c r s)) ⊢ bufs3 (F := F) c := by
  rw [rows_eq]
  unfold bufs3
  iintro ⟨H1, H2, H3⟩
  isplitl [H1]; · iapply (any_join qM squeezes_S1x8x4x64x128_S8x4x64x128 c f₁); iexact H1
  isplitl [H2]; · iapply (any_join cM squeezes_S1x8x4x64x128_S8x4x64x128 c f₂); iexact H2
  iapply (any_join sM squeezes_S1x8x4x64x2_S8x4x64x2 c f₃); iexact H3

theorem first_rows : bigSep Finset.univ (fun s : Fin 4 => rows3 (fun r => rowAny (F := F) c r s))
    ⊢ iprop(rows3 (fun r => rowAny (F := F) c r 0) ∗ bigSep Finset.univ (fun r => iprop(rowAny (F := F) c r 1 ∗ rowAny (F := F) c r 2 ∗ rowAny (F := F) c r 3))) := by
  rw [bigSep_univ_eq_bigSepL [(0 : Fin 4), 1, 2, 3] (by decide) (by decide), bigSep_fin3]
  refine (show _ ⊢ iprop(rows3 (fun r => rowAny (F := F) c r 0) ∗ rows3 (fun r => rowAny (F := F) c r 1) ∗ rows3 (fun r => rowAny (F := F) c r 2)
    ∗ rows3 (fun r => rowAny (F := F) c r 3)) from Entails.of_eq rfl).trans ?_
  unfold rows3
  iintro ⟨H0, ⟨A1, A2, A3⟩, ⟨B1, B2, B3⟩, ⟨C1, C2, C3⟩⟩
  isplitl [H0]; · iexact H0
  isplitl [A1 B1 C1]
  · isplitl [A1]; · iexact A1
    isplitl [B1] <;> iassumption
  isplitl [A2 B2 C2]
  · isplitl [A2]; · iexact A2
    isplitl [B2] <;> iassumption
  isplitl [A3]; · iexact A3
  isplitl [B3] <;> iassumption

theorem last_rows : iprop(rowAny (F := F) c 0 0 ∗ rowAt c 1 0 (st A 8 c) ∗ rowAt c 2 0 (st A 8 c) ∗ bigSep (Finset.Ico 5 8) (fun j => rows3 fun r => rowAny (F := F) c r (slotN j)))
    ⊢ bigSep Finset.univ (fun s : Fin 4 => rows3 (fun r => rowAny (F := F) c r s)) := by
  rw [bigSep_univ_eq_bigSepL [(0 : Fin 4), 1, 2, 3] (by decide) (by decide),
    ico_left (a := 5) (b := 8) (by decide), ico_left (a := 5 + 1) (b := 8) (by decide), ico_left (a := 5 + 1 + 1) (b := 8) (by decide),
    show Finset.Ico (5 + 1 + 1 + 1) 8 = ∅ from rfl, bigSep_empty]
  refine (show _ ⊢ iprop(rowAny (F := F) c 0 0 ∗ hold (cS 0) c (st A 8 c).2.1 ∗ hold (sS 0) c (st A 8 c).2.2
    ∗ rows3 (fun r => rowAny (F := F) c r 1) ∗ rows3 (fun r => rowAny (F := F) c r 2) ∗ rows3 (fun r => rowAny (F := F) c r 3) ∗ emp) from Entails.of_eq rfl).trans ?_
  refine BIBase.Entails.trans ?_ (show iprop((rowAny (F := F) c 0 0 ∗ holdAny (F := F) (cS 0) c ∗ holdAny (F := F) (sS 0) c)
    ∗ rows3 (fun r => rowAny (F := F) c r 1) ∗ rows3 (fun r => rowAny (F := F) c r 2) ∗ rows3 (fun r => rowAny (F := F) c r 3)) ⊢ _ from Entails.of_eq rfl)
  iintro ⟨H1, H2, H3, H4, H5, H6, -⟩
  isplitl [H1 H2 H3]
  · isplitl [H1]; · iexact H1
    isplitl [H2]; · iapply (hold_any (F := F)); iexact H2
    iapply (hold_any (F := F)); iexact H3
  isplitl [H4]; · iexact H4
  isplitl [H5] <;> iassumption

end Cert.RingProof

end
-- ==== Proof.Region.lean ====
/-
  The kernel's region: what enters its body and what leaves it, with the windows' blocks at the arrays' contents.
-/
module

public import proofs.«01_k».proof.Proof.Cells
public import proofs.«01_k».proof.Proof.Gen.KernelIdeal.Frame
public import Idealize.ShloMosaic.Lib.Pipeline.RegionTalk
public import Idealize.ShloMosaic.Lib.Pipeline.ValueKit.Geometry

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg BodyObligation cellOf)

variable {F : FTy → Type} [FloatOps F]

local notation "𝕄" => MT nD τ sig ℕ (Elt F) ℕ UU ℕ

/-- The printed program recurses into nothing. -/
abbrev 𝒱₀ : Variants := Variants.none

variable (m : (ℓ : Loc nD τ sig) → Buf (Elt F) ℓ)

/-- What the body reads on each device. -/
def argsOf : Args F where
  q0 c := initQ (V m c main_v5)
  p0 := (initC F, initS F)
  kt c := V m c main_v14
  v c := V m c main_v15

/-- What device `c` writes out. -/
def outOf (c : Dev nD) : S1x256x1024.Idx → Elt F .f32 := outV (st (argsOf m) 8 c) (V m c main_arg4)

/-! ## A window's block is its array -/

theorem idx_0 : ∀ a, win0_0.index t0_0 a = 0 := by decide +kernel
theorem idx_1 : ∀ a, win0_1.index t0_0 a = 0 := by decide +kernel
theorem idx_2 : ∀ a, win0_2.index t0_0 a = 0 := by decide +kernel
theorem idx_3 : ∀ a, win0_3.index t0_0 a = 0 := by decide +kernel
theorem idx_4 : ∀ a, win0_4.index t0_0 a = 0 := by decide +kernel
section Blocks
variable (c : Dev nD) (t : Fin cfg0.N)
theorem iblk_0 : iblk m c 0 t = V m c main_v5 := by
  obtain rfl := fin_N0 t; funext y; blk_ext [iblk, idx_0]
theorem iblk_1 : iblk m c 1 t = V m c main_v14 := by
  obtain rfl := fin_N0 t; funext y; blk_ext [iblk, idx_1]
theorem iblk_2 : iblk m c 2 t = V m c main_v15 := by
  obtain rfl := fin_N0 t; funext y; blk_ext [iblk, idx_2]
theorem iblk_3 : iblk m c 3 t = V m c main_arg4 := by
  obtain rfl := fin_N0 t; funext y; blk_ext [iblk, idx_3]
end Blocks

theorem hold_owns {s : Shape} {e : EltTy} (M : Memref sig .tc .vmem s e) (c : Dev nD) (X : s.Idx → Elt F e) :
    (hold M c X : sProp 𝕄) ⊢ owns (c : Thread nD τ) M fullShare X := by
  unfold hold owns
  iintro ⟨%f, H, %h⟩
  iexists f
  isplitr; · ipureintro; exact h
  iexact H
theorem owns_hold {s : Shape} {e : EltTy} (M : Memref sig .tc .vmem s e) (c : Dev nD) (X : s.Idx → Elt F e) :
    (owns (c : Thread nD τ) M fullShare X : sProp 𝕄) ⊢ hold M c X := by
  unfold hold owns
  iintro ⟨%f, %h, H⟩
  iexists f
  isplitl [H]; · iexact H
  ipureintro; exact h

/-! ## What enters the body and leaves it -/

/-- A device's tokens, credits and barrier position. -/
def Toks (c : Dev nD) : sProp 𝕄 :=
  iprop(dutyTok (ER F) (barC (nxt c)) 0 0 ∗ dutyTok (ER F) (barC (prv c)) 0 1 ∗ cred (tallyAt (barC c) 0 2) ∗ atPos (ER F) (barC c) 0 ∅ 0
    ∗ bigSep (Finset.Ico 0 8) (hopRes (F := F) c))
/-- What launch leaves for the region on device `c`. -/
def Tk (c : Dev nD) : sProp 𝕄 :=
  iprop(∃ κ ι, recs (argsOf m) κ ι ∗ Toks (F := F) c ∗ bigSep Finset.univ (fun k : KI => openTok (ER F) ((c : Thread nD τ), osem k)))
/-- The same with the cells opened. -/
def Xk (c : Dev nD) : sProp 𝕄 :=
  iprop(∃ κ ι, (recs (argsOf m) κ ι ∗ levAts L lv) ∗ Toks (F := F) c ∗ opens (F := F) c)
/-- What the region leaves. -/
def Yk (c : Dev nD) : sProp 𝕄 := semVal (barC c) 0
/-- The scratch buffers. -/
def scr (c : Dev nD) : sProp 𝕄 := iprop(bufs3 (F := F) c ∗ holdAny (F := F) wM c)

theorem scr_eq (c : Dev nD) : (Pipeline.scopedRest (Ix := ℕ) (Name := ℕ) (U := UU) (Lvl := ℕ) (Val := Elt F) spec0 c : sProp 𝕄) ⊣⊢ scr (F := F) c := by
  rw [scopedRest0_eq]
  unfold scr bufs3
  rw [any_whole cc0_scratch0 qM c rfl (View.set_whole _), any_whole cc0_scratch1 cM c rfl (View.set_whole _),
    any_whole cc0_scratch2 sM c rfl (View.set_whole _), any_whole cc0_scratch3 wM c rfl (View.set_whole _)]
  constructor
  · iintro ⟨H1, H2, H3, H4⟩
    isplitr [H4]
    · isplitl [H1]; · iexact H1
      isplitl [H2] <;> iassumption
    iexact H4
  · iintro ⟨⟨H1, H2, H3⟩, H4⟩
    isplitl [H1]; · iexact H1
    isplitl [H2]; · iexact H2
    isplitl [H3] <;> iassumption

/-- The region's proof data on device `c`. -/
def dat (c : Dev nD) : Dat τ (Elt F) ℕ ℕ UU ℕ cfg0 c where
  A w := V m c (Pipeline.arrRef spec0 w)
  after w t := match w with
    | 0 => iblk m c 0 t
    | 1 => iblk m c 1 t
    | 2 => iblk m c 2 t
    | 3 => iblk m c 3 t
    | 4 => outOf m c
    | ⟨_ + 5, h⟩ => absurd h (Nat.not_lt.2 (Nat.le_add_left _ _))
  Φ t := if t.val = 0 then iprop(Xk m c ∗ scr (F := F) c ∗ ∃ r, prngReg c r)
    else iprop(Yk (F := F) c ∗ Pipeline.ownSems0 osem c ∗ scr (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m
  | ⟨_ + 1, h⟩ => absurd h (Nat.not_lt.2 (Nat.le_add_left _ _))

section Before
variable (c : Dev nD) (t : Fin cfg0.N)
theorem before_0 (d) : (dat m c).before 0 t d = V m c main_v5 :=
  ((dat m c).before_in_eq_fetched 0 rfl (fun _ => rfl) (fun _ _ _ => rfl) (fun t => rfl) t d).trans (iblk_0 m c t)
theorem before_1 (d) : (dat m c).before 1 t d = V m c main_v14 :=
  ((dat m c).before_in_eq_fetched 1 rfl (fun _ => rfl) (fun _ _ _ => rfl) (fun t => rfl) t d).trans (iblk_1 m c t)
theorem before_2 (d) : (dat m c).before 2 t d = V m c main_v15 :=
  ((dat m c).before_in_eq_fetched 2 rfl (fun _ => rfl) (fun _ _ _ => rfl) (fun t => rfl) t d).trans (iblk_2 m c t)
theorem before_3 (d) : (dat m c).before 3 t d = V m c main_arg4 :=
  ((dat m c).before_in_eq_fetched 3 rfl (fun _ => rfl) (fun _ _ _ => rfl) (fun t => rfl) t d).trans (iblk_3 m c t)
end Before

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_enter (c : Dev nD) : ((dat m c).owesAt 0 t0_0.castSucc : sProp 𝕄) ⊢ owesE (F := F) c (O₀ c) := by
  unfold Dat.owesAt Pipeline.owesWithin owesE
  rw [owed_first]
  iintro ⟨%W, -, HO⟩
  iexists W; iexact HO
theorem owes_leave (c : Dev nD) : (owesE (F := F) c 0 : sProp 𝕄) ⊢ (dat m c).owesAt 0 t0_0.succ := by
  unfold Dat.owesAt Pipeline.owesWithin owesE
  rw [show (dat m c).owed t0_0.succ = 0 from rfl]
  iintro ⟨%W, HO⟩
  iexists W
  isplitr; · ipureintro; exact fun _ _ => Or.inl trivial
  iexact HO

/-! ## The body -/

theorem enter_body (c : Dev nD) (κ : GSem nD τ sig → ℕ) (ι : Dev nD × ℕ → ℕ) :
    iprop((recs (argsOf m) κ ι ∗ levAts L lv) ∗ Toks (F := F) c ∗ opens (F := F) c ∗ scr (F := F) c ∗ owesE c (O₀ c)
        ∗ hold q0M c (V m c main_v5) ∗ hold ktM c (V m c main_v14) ∗ hold vM c (V m c main_v15) ∗ hold woM c (V m c main_arg4) ∗ holdAny outM c)
      ⊢ Pre (argsOf m) c κ ι (V m c main_v5) (V m c main_arg4) := by
  have hr := persistent_entails_right (reached_all (F := F) c)
  unfold Toks scr Pre Enter Rest0
  iintro ⟨Hctx, ⟨HtN, HtP, Hcb, Hab, Hres⟩, Hop, ⟨Hb3, Hw⟩, HO, H0, H1, H2, H3, H4⟩
  ihave Hop := hr $$ Hop
  icases Hop with ⟨⟨HrC, HrR⟩, Hop⟩
  ihave Hop := (poss_all (F := F) c) $$ Hop
  icases Hop with ⟨Hpo, Hcr⟩
  ihave Hb3 := ((cut_all (F := F) c).trans (first_rows (F := F) c)) $$ Hb3
  icases Hb3 with ⟨Hr0, Hr1⟩
  isplitl [Hctx]; · iexact Hctx
  isplitl [HtN HtP Hcb Hab HrC HrR Hr1 HO]
  · isplitl [HtN]; · iexact HtN
    isplitl [HtP]; · iexact HtP
    isplitl [Hcb]; · iexact Hcb
    isplitl [Hab]; · iexact Hab
    isplitl [HrC]; · iexact HrC
    isplitl [HrR]; · iexact HrR
    isplitl [Hr1] <;> iassumption
  isplitl [Hres Hpo Hcr]
  · isplitl [Hres]; · iexact Hres
    isplitl [Hpo] <;> iassumption
  isplitl [Hr0]; · iexact Hr0
  isplitl [H0]; · iexact H0
  isplitl [H1]; · iexact H1
  isplitl [H2]; · iexact H2
  isplitl [H3]; · iexact H3
  isplitl [Hw] <;> iassumption

theorem leave_body [∀ e, Nonempty (Elt F e)] (c : Dev nD) (κ : GSem nD τ sig → ℕ) (ι : Dev nD × ℕ → ℕ) :
    Post (argsOf m) c κ ι (V m c main_v5) (V m c main_arg4)
      ⊢ (|={Set.univ}=> iprop((Yk (F := F) c ∗ Pipeline.ownSems0 osem c ∗ scr (F := F) c) ∗ owesE c 0
        ∗ hold q0M c (V m c main_v5) ∗ hold ktM c (V m c main_v14) ∗ hold vM c (V m c main_v15) ∗ hold woM c (V m c main_arg4) ∗ hold outM c (outOf m c)) : sProp 𝕄) := by
  unfold Post Done scr ctx
  iintro ⟨⟨#HI, -⟩, Hab, ⟨Hq, Hc, Hs, Hkt, Hv, HO, Hends, Hcr, Hrows⟩, H0, H3, Hw, H4⟩
  imod (close_bar (argsOf m) c κ ι) $$ [Hab] with Hb
  · isplitr; · iexact HI
    iexact Hab
  ihave Hends := (ends_all (F := F) c) $$ Hends
  imod (close_all (argsOf m) c κ ι) $$ [Hcr Hends] with Hsems
  · isplitr; · iexact HI
    isplitl [Hcr]; · iexact Hcr
    iexact Hends
  imodintro
  isplitl [Hb Hsems Hq Hc Hs Hrows Hw]
  · isplitl [Hb]; · unfold Yk; iexact Hb
    isplitl [Hsems]; · iexact Hsems
    isplitr [Hw]
    · iapply ((last_rows (argsOf m) c).trans (join_all (F := F) c (fun _ => Classical.choice inferInstance) (fun _ => Classical.choice inferInstance) (fun _ => Classical.choice inferInstance)))
      isplitl [Hq]; · iexact Hq
      isplitl [Hc]; · iexact Hc
      isplitl [Hs] <;> iassumption
    iapply (hold_any wM c _); iexact Hw
  isplitl [HO]; · iexact HO
  isplitl [H0]; · iexact H0
  isplitl [Hkt]; · iexact Hkt
  isplitl [Hv]; · iexact Hv
  isplitl [H3]; · iexact H3
  iexact H4

/-- What the body leaves, with the exchange's cells closed. -/
def left (c : Dev nD) : sProp 𝕄 :=
  iprop((Yk (F := F) c ∗ Pipeline.ownSems0 osem c ∗ scr (F := F) c) ∗ owesE c 0
    ∗ hold q0M c (V m c main_v5) ∗ hold ktM c (V m c main_v14) ∗ hold vM c (V m c main_v15) ∗ hold woM c (V m c main_arg4) ∗ hold outM c (outOf m c))

theorem region_run [∀ e, Nonempty (Elt F e)] (c : Dev nD) (κ : GSem nD τ sig → ℕ) (ι : Dev nD × ℕ → ℕ) :
    Pre (argsOf m) c κ ι (V m c main_v5) (V m c main_arg4)
      ⊢ wp frame (wpE defs₀ 𝒱₀ (c : Thread nD τ) none) Set.univ (bodyAt0 (F := F) t0_0) (fun _ => left m c) :=
  ((body_run (defs := defs₀) (argsOf m) c 𝒱₀ none κ ι (V m c main_v5) (V m c main_arg4) rfl rfl).trans
    (wp_mono frame _ Set.univ fun _ => leave_body m c κ ι)).trans (wp_fupd frame _ Set.univ _ _)

theorem body_ok [∀ e, Nonempty (Elt F e)] (c : Dev nD) : BodyObligation (dat m c) defs₀ 𝒱₀ 0 Set.univ := fun t => by
  obtain rfl := fin_N0 t
  rw [bigSep_W0, bigSep_W0]
  rw [show (dat m c).Φ t0_0.castSucc = iprop(Xk m c ∗ scr (F := F) c ∗ ∃ r, prngReg c r) from rfl,
    show (dat m c).Φ t0_0.succ = iprop(Yk (F := F) c ∗ Pipeline.ownSems0 osem c ∗ scr (F := F) c ∗ ∃ r, prngReg c r) from rfl]
  have hin : iprop((Xk m c ∗ scr (F := F) c ∗ ∃ r, prngReg c r) ∗ (dat m c).owesAt 0 t0_0.castSucc
        ∗ (∃ d, owns (c : Thread nD τ) q0M fullShare ((dat m c).before 0 t0_0 d)) ∗ (∃ d, owns (c : Thread nD τ) ktM fullShare ((dat m c).before 1 t0_0 d))
        ∗ (∃ d, owns (c : Thread nD τ) vM fullShare ((dat m c).before 2 t0_0 d)) ∗ (∃ d, owns (c : Thread nD τ) woM fullShare ((dat m c).before 3 t0_0 d))
        ∗ (∃ d, owns (c : Thread nD τ) outM fullShare ((dat m c).before 4 t0_0 d)))
      ⊢ (iprop((∃ κ ι, Pre (argsOf m) c κ ι (V m c main_v5) (V m c main_arg4)) ∗ ∃ r, prngReg c r) : sProp 𝕄) := by
    simp only [before_0, before_1, before_2, before_3]
    unfold Xk
    iintro ⟨⟨⟨%κ, %ι, HI, HT, Ho⟩, Hs, Hp⟩, HO, ⟨%d0, H0⟩, ⟨%d1, H1⟩, ⟨%d2, H2⟩, ⟨%d3, H3⟩, ⟨%d4, H4⟩⟩
    isplitr [Hp]
    · iexists κ, ι
      iapply (enter_body m c κ ι)
      isplitl [HI]; · iexact HI
      isplitl [HT]; · iexact HT
      isplitl [Ho]; · iexact Ho
      isplitl [Hs]; · iexact Hs
      isplitl [HO]; · iapply (owes_enter m c); iexact HO
      isplitl [H0]; · iapply (owns_hold q0M c _); iexact H0
      isplitl [H1]; · iapply (owns_hold ktM c _); iexact H1
      isplitl [H2]; · iapply (owns_hold vM c _); iexact H2
      isplitl [H3]; · iapply (owns_hold woM c _); iexact H3
      iapply (hold_any outM c _)
      iapply (owns_hold outM c _); iexact H4
    iexact Hp
  have hout : iprop(left m c ∗ ∃ r, prngReg c r) ⊢
      (iprop((Yk (F := F) c ∗ Pipeline.ownSems0 osem c ∗ scr (F := F) c ∗ ∃ r, prngReg c r) ∗ (dat m c).owesAt 0 t0_0.succ
        ∗ owns (c : Thread nD τ) q0M fullShare (iblk m c 0 t0_0) ∗ owns (c : Thread nD τ) ktM fullShare (iblk m c 1 t0_0)
        ∗ owns (c : Thread nD τ) vM fullShare (iblk m c 2 t0_0) ∗ owns (c : Thread nD τ) woM fullShare (iblk m c 3 t0_0)
        ∗ owns (c : Thread nD τ) outM fullShare (outOf m c)) : sProp 𝕄) := by
    rw [iblk_0, iblk_1, iblk_2, iblk_3]
    unfold left
    iintro ⟨⟨⟨Hy, Hsem, Hs⟩, HO, H0, H1, H2, H3, H4⟩, Hp⟩
    isplitl [Hy Hsem Hs Hp]
    · isplitl [Hy]; · iexact Hy
      isplitl [Hsem]; · iexact Hsem
      isplitl [Hs] <;> iassumption
    isplitl [HO]; · iapply (owes_leave m c); iexact HO
    isplitl [H0]; · iapply (hold_owns q0M c _); iexact H0
    isplitl [H1]; · iapply (hold_owns ktM c _); iexact H1
    isplitl [H2]; · iapply (hold_owns vM c _); iexact H2
    isplitl [H3]; · iapply (hold_owns woM c _); iexact H3
    iapply (hold_owns outM c _); iexact H4
  have hall : iprop((∃ κ ι, Pre (argsOf m) c κ ι (V m c main_v5) (V m c main_arg4)) : sProp 𝕄)
      ⊢ wp frame (wpE defs₀ 𝒱₀ (c : Thread nD τ) none) Set.univ (bodyAt0 (F := F) t0_0) (fun _ => left m c) := by
    iintro ⟨%κ, %ι, H⟩
    iapply (region_run m c κ ι); iexact H
  exact hin.trans (((sep_mono_left hall).trans (wp_frame_r _ _ _)).trans (wp_mono frame _ Set.univ fun _ => hout))

/-! ## The region as a segment -/

local notation "ℝ𝕊" => Pipeline.RegionSeg (pcfgs (F := F)) adm (pdats m) 0 defs₀ 𝒱₀ L lv

/-- The buffers at the region's entry and exit. -/
def V₁ (c : Dev nD) : Valuation τ sig (Elt F) := StableHlo.after hostOps0 (fun b => m (c, b))
def V₂ (c : Dev nD) : Valuation τ sig (Elt F) := Function.update (V₁ m c) (Proc.devRef .tc main_v16) (outOf m c)

/-- The unscoped buffers no window is cut from. -/
def offRefs : Finset (DevRef τ sig) := Pipeline.ucRefs τ sig \ Pipeline.arrRefs (τ := τ) spec0

theorem kitP : Pipeline.PLaunchFacts (nD := nD) (τ := τ) (pcfgs (F := F)) 0 := launch0.toP

theorem hopen (c : Dev nD) : iprop(Tk m c ∗ Pipeline.ownSems0 osem c ∗ levAts L lv) ⊢ (|={Set.univ}=> Xk m c : sProp 𝕄) := by
  unfold Tk Xk
  iintro ⟨⟨%κ, %ι, #HI, HT, Ho⟩, Hs, #Hlev⟩
  imod (open_all (argsOf m) c κ ι) $$ [Ho Hs] with Ho
  · isplitr; · iexact HI
    isplitl [Ho] <;> iassumption
  imodintro
  iexists κ, ι
  isplitr
  · isplitr; · iexact HI
    iexact Hlev
  isplitl [HT] <;> iassumption

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scr (F := F) c ∗ ∃ r, prngReg c r) from rfl]
  iintro ⟨Hs, Hp, -, HX⟩
  isplitl [HX]; · iexact HX
  isplitl [Hs]; · iapply (scr_eq (F := F) c).1; iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk (F := F) c) := by
  rw [show (pdats m 0 c).Φ (Fin.last _) = iprop(Yk (F := F) c ∗ Pipeline.ownSems0 osem c ∗ scr (F := F) c ∗ ∃ r, prngReg c r) from rfl,
    show (StableHlo.held (c.tc : Thread nD τ) ∅ (V₂ m c) : sProp 𝕄) = BI.emp from BI.bigSep_empty]
  iintro ⟨Hy, Hsem, Hs, Hp⟩
  isplitl [Hs]; · iapply (scr_eq (F := F) c).2; iexact Hs
  isplitl [Hp]; · iexact Hp
  isplitr; · iempintro
  isplitl [Hsem] <;> iassumption

theorem cutD (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have e : (pdats m 0 c).owed t = if t.val = 0 then O₀ c else 0 := rfl
  rw [e] at h
  split at h
  · unfold O₀ at h
    rw [Pi.add_apply, Finsupp.add_apply, Pi.add_apply, Finsupp.add_apply, tallyAt_apply, tallyAt_apply] at h
    by_cases h1 : 0 < owed c 0 g i
    · obtain ⟨hL, hl⟩ := owed_pos h1
      exact ⟨hL, by omega⟩
    have hg : (g = barC (nxt c) ∧ i = 0) ∨ (g = barC (prv c) ∧ i = 0) := by
      by_contra hn
      rw [not_or] at hn
      rw [if_neg hn.1, if_neg hn.2] at h
      omega
    rcases hg with ⟨rfl, rfl⟩ | ⟨rfl, rfl⟩
    · exact ⟨by rw [L_tc]; decide, Nat.zero_lt_one⟩
    · exact ⟨by rw [L_tc]; decide, Nat.zero_lt_one⟩
  · exact absurd h (Nat.lt_irrefl 0)

theorem share_full (c : Dev nD) (w : Fin 5) : (pdats m 0 c).share w = fullShare := by
  unfold Dat.share; split <;> rfl

theorem arr_entry (c : Dev nD) (w : Fin 5) : (pdats m 0 c).arrAt w 0 = V₁ m c (Proc.devRef .tc (Pipeline.arrRef spec0 w)) := rfl
theorem V₂_of_ne (c : Dev nD) (b : DevRef τ sig) (h : b ≠ Proc.devRef .tc main_v16) : V₂ m c b = V₁ m c b := by
  unfold V₂; exact Function.update_of_ne h _ _
theorem arr_exit (c : Dev nD) (w : Fin 5) : (pdats m 0 c).arrAt w cfg0.N = V₂ m c (Proc.devRef .tc (Pipeline.arrRef spec0 w)) := by
  have hne : ∀ w : Fin 5, w ≠ 4 → (Proc.devRef .tc (Pipeline.arrRef spec0 w) : DevRef τ sig) ≠ Proc.devRef .tc main_v16 ∧ (spec0 w).isOut = false := by decide
  by_cases h : w = 4
  · subst h
    have hv : V₂ m c (Proc.devRef .tc (Pipeline.arrRef spec0 4)) = outOf m c := by unfold V₂; exact Function.update_self ..
    rw [hv]
    refine (dat m c).arrAt_eq_of_after_last 4 t0_0 (by decide +kernel) _ fun j => ?_
    blk_simp [idx_4]
    rfl
  · rw [V₂_of_ne m c _ (hne w h).1]
    exact (dat m c).arrAt_in w (hne w h).2 _
theorem off_same (c : Dev nD) (b : DevRef τ sig) (hb : b ∈ offRefs \ ∅) : V₂ m c b = V₁ m c b := by
  refine V₂_of_ne m c b fun h => ?_
  subst h
  exact absurd hb (by decide +kernel)

theorem stage_kind (c : Dev nD) : ∀ (w : Fin 5) (s : Fin (spec0 w).nbuf), lv ((c : Thread nD τ), SemLoc.dma ((spec0 w).sem s)) 0 ≤ 0 := by decide +revert +kernel

set_option backward.isDefEq.respectTransparency.types false in
def reg [∀ e, Nonempty (Elt F e)] : ℝ𝕊 0 :=
  Pipeline.RegionSeg.ofTalk (pcfgs (F := F)) adm (pdats m) 0 defs₀ 𝒱₀ L lv 0 osem (by decide : Pipeline.OwnSemFacts spec0 osem)
    ∅ offRefs (Finset.empty_subset _) kitP rfl (fun c => (body_ok m c).loose)
    (fun _ => 0) O₀ (fun c => (owed_zero m c).trans (zero_add _).symm) (owed_last m) (fun _ => rfl) (share_full m)
    (V₁ m) (V₂ m) (off_same m)
    (Tk m) (Yk (F := F)) (Xk m) (Yk (F := F)) (hopen m) (hin m) (hout m)
    (fun c => by iintro H; imodintro; iexact H)
    (fun _ => 0)
    ⟨fun c w s => by rw [L_tc]; decide, fun c w s => stage_kind c w s, fun c t g i h => cutD m c t g i h⟩
    (fun _ => iprop(emp))
    (arr_entry m) (arr_exit m)

end Cert.RingProof

end
-- ==== Proof.Creds.lean ====
/-
  The credits that launch deals each device: its barrier's two units, and for every hop what its neighbours will pay it.
-/
module

public import proofs.«01_k».proof.Proof.Region

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- Step `j` of hop `k`. -/
def stepEmb : Fin 8 × Fin 4 ↪ ℕ := ⟨fun x => 4 * x.1.val + x.2.val, by decide⟩

theorem owed_all (c : Dev nD) : owed c 0 = ∑ x : Fin 8 × Fin 4, debt c (4 * x.1.val + x.2.val) := by
  unfold owed
  rw [show Finset.Ico 0 32 = Finset.univ.map stepEmb from by decide, Finset.sum_map]
  rfl

/-- The credit for a row that hop `k` copies. -/
def rowCred (c : Dev nD) (k : ℕ) (r : Fin 3) : sProp 𝕄 :=
  if r = 0 ∧ k = 7 then iprop(emp) else cred (tallyAt (recvC c r (slotN (k + 1))) (4 * k + r.val) (Nr r))
/-- The credit for the hand-back after hop `k`. -/
def backCred (c : Dev nD) (k : ℕ) : sProp 𝕄 := if k < 5 then cred (tallyAt (crC c) (4 * k + 3) 1) else iprop(emp)

theorem row_cred (c : Dev nD) (k : ℕ) (r : Fin 3) : (Pipeline.launchCred (fun d => debt d (4 * k + r.val)) c : sProp 𝕄) ⊢ rowCred (F := F) c k r := by
  unfold rowCred
  by_cases h : r = 0 ∧ k = 7
  · rw [if_pos h]
    obtain ⟨rfl, rfl⟩ := h
    rw [show (fun d => debt d (4 * 7 + (0 : Fin 3).val)) = fun _ => 0 from funext fun d => debt_none d, Pipeline.launchCred_zero]
  · rw [if_neg h]
    rw [show (fun d => debt d (4 * k + r.val)) = fun d => tallyAt (recvC (nxt d) r (slotN (k + 1))) (4 * k + r.val) (Nr r) from funext fun d => debt_copy d k r h]
    exact Pipeline.launchCred_tallyAt _ nxt prv nxt_prv prv_nxt _ _ c
theorem back_cred (c : Dev nD) (k : ℕ) : (Pipeline.launchCred (fun d => debt d (4 * k + 3)) c : sProp 𝕄) ⊢ backCred (F := F) c k := by
  unfold backCred
  by_cases h : k < 5
  · rw [if_pos h, show (fun d => debt d (4 * k + 3)) = fun d => tallyAt (crC (prv d)) (4 * k + 3) 1 from funext fun d => debt_credit d k h]
    exact Pipeline.launchCred_tallyAt _ prv nxt prv_nxt nxt_prv _ _ c
  · rw [if_neg h, show (fun d => debt d (4 * k + 3)) = fun _ => 0 from funext fun d => debt_nocredit d k (Nat.not_lt.mp h), Pipeline.launchCred_zero]

theorem creds (c : Dev nD) : (Pipeline.launchCred O₀ c : sProp 𝕄) ⊢
    iprop(cred (tallyAt (barC c) 0 2) ∗ bigSep Finset.univ (fun k : Fin 8 => rows3 (rowCred (F := F) c k.val)) ∗ bigSep Finset.univ (fun k : Fin 8 => backCred (F := F) c k.val)) := by
  have e : (O₀ : Dev nD → CellTallies nD τ sig ℕ) = fun d => ((∑ x : Fin 8 × Fin 4, debt d (4 * x.1.val + x.2.val)) + tallyAt (barC (nxt d)) 0 1) + tallyAt (barC (prv d)) 0 1 :=
    funext fun d => by unfold O₀; rw [owed_all]
  have h1 := Pipeline.launchCred_tallyAt (τ := τ) (Ix := ℕ) (Val := Elt F) (Name := ℕ) (U := UU) (Lvl := ℕ) (.reg barS) nxt prv nxt_prv prv_nxt 0 1 c
  have h2 := Pipeline.launchCred_tallyAt (τ := τ) (Ix := ℕ) (Val := Elt F) (Name := ℕ) (U := UU) (Lvl := ℕ) (.reg barS) prv nxt prv_nxt nxt_prv 0 1 c
  have hk (k : Fin 8) : bigSep Finset.univ (fun j : Fin 4 => (Pipeline.launchCred (fun d => debt d (4 * k.val + j.val)) c : sProp 𝕄))
      ⊢ iprop(rows3 (rowCred (F := F) c k.val) ∗ backCred (F := F) c k.val) := by
    rw [bigSep_univ_eq_bigSepL [(0 : Fin 4), 1, 2, 3] (by decide) (by decide)]
    refine (show _ ⊢ iprop(Pipeline.launchCred (fun d => debt d (4 * k.val + (0 : Fin 3).val)) c ∗ Pipeline.launchCred (fun d => debt d (4 * k.val + (1 : Fin 3).val)) c
      ∗ Pipeline.launchCred (fun d => debt d (4 * k.val + (2 : Fin 3).val)) c ∗ Pipeline.launchCred (fun d => debt d (4 * k.val + 3)) c) from Entails.of_eq rfl).trans ?_
    unfold rows3
    iintro ⟨H0, H1, H2, H3⟩
    isplitr [H3]
    · isplitl [H0]; · iapply (row_cred (F := F) c k.val 0); iexact H0
      isplitl [H1]; · iapply (row_cred (F := F) c k.val 1); iexact H1
      iapply (row_cred (F := F) c k.val 2); iexact H2
    iapply (back_cred (F := F) c k.val); iexact H3
  have hs : bigSep Finset.univ (fun x : Fin 8 × Fin 4 => (Pipeline.launchCred (fun d => debt d (4 * x.1.val + x.2.val)) c : sProp 𝕄))
      ⊢ iprop(bigSep Finset.univ (fun k : Fin 8 => rows3 (rowCred (F := F) c k.val)) ∗ bigSep Finset.univ (fun k : Fin 8 => backCred (F := F) c k.val)) := by
    rw [bigSep_univ_prod, ← bigSep_sep']
    exact bigSep_mono fun k _ => hk k
  have hb : iprop(cred (tallyAt (barC c) 0 1) ∗ cred (tallyAt (barC c) 0 1)) ⊢ (cred (tallyAt (barC c) 0 2) : sProp 𝕄) := by
    refine (cred_add _ _).2.trans (Entails.of_eq (congrArg cred ?_))
    rw [tallyAt_add]
  rw [e, Pipeline.launchCred_add, Pipeline.launchCred_add, Pipeline.launchCred_sum]
  iintro ⟨⟨H, H1⟩, H2⟩
  isplitl [H1 H2]
  · iapply hb
    isplitl [H1]
    · iapply h1; iexact H1
    iapply h2; iexact H2
  iapply hs; iexact H

end Cert.RingProof

end
-- ==== Proof.Launch.lean ====
/-
  The program launched: every cell's invariant and every token dealt to the devices, and the run to its end.
-/
module

public import proofs.«01_k».proof.Proof.Creds

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg BodyObligation cellOf)

variable {F : FTy → Type} [FloatOps F]

local notation "𝕄" => MT nD τ sig ℕ (Elt F) ℕ UU ℕ

/-! ## The tokens -/

/-- The duties of one device's cells: barrier, credit, send, receive. -/
abbrev TI : Type := Fin 2 ⊕ Fin 5 ⊕ (Fin 8 × Fin 3) ⊕ (Fin 8 × Fin 3)
def tokAt : TI → SemLoc sig × ℕ × ℕ
  | .inl d => (.reg barS, 0, d.val)
  | .inr (.inl k) => (.reg crS, 0, k.val)
  | .inr (.inr (.inl x)) => (.dma (sendSem x.2 (slotN x.1.val)), x.1.val / 4, 0)
  | .inr (.inr (.inr x)) => (.dma (recvSem x.2 (slotN (x.1.val + 1))), x.1.val / 4, 0)
theorem tokAt_inj : Function.Injective tokAt := by decide +kernel
def tokEmb : Dev nD × TI ↪ GSem nD τ sig × ℕ × ℕ := ⟨fun x => (((x.1 : Thread nD τ), (tokAt x.2).1), (tokAt x.2).2), fun a b h => by
  have h1 := congrArg (fun g : GSem nD τ sig × ℕ × ℕ => g.1.1.1) h
  have h2 := congrArg (fun g : GSem nD τ sig × ℕ × ℕ => (g.1.2, g.2)) h
  exact Prod.ext h1 (tokAt_inj h2)⟩
def toks : Finset (GSem nD τ sig × ℕ × ℕ) := Finset.univ.map tokEmb

def sendToks (c : Dev nD) : sProp 𝕄 := bigSep Finset.univ (fun k : Fin 8 => bigSep Finset.univ (fun r : Fin 3 => dutyTok (ER F) (sendC c r (slotN k.val)) (k.val / 4) 0))
def recvToks (c : Dev nD) : sProp 𝕄 := bigSep Finset.univ (fun k : Fin 8 => bigSep Finset.univ (fun r : Fin 3 => dutyTok (ER F) (recvC c r (slotN (k.val + 1))) (k.val / 4) 0))
def crToks (c : Dev nD) : sProp 𝕄 := bigSep Finset.univ (fun k : Fin 5 => dutyTok (ER F) (crC c) 0 k.val)

theorem toks_eq : bigSep toks (fun x => (dutyTok (ER F) x.1 x.2.1 x.2.2 : sProp 𝕄))
    = bigSep Finset.univ fun c : Dev nD => iprop((dutyTok (ER F) (barC c) 0 0 ∗ dutyTok (ER F) (barC c) 0 1) ∗ crToks (F := F) c ∗ sendToks (F := F) c ∗ recvToks (F := F) c) := by
  unfold toks
  rw [bigSep_map, bigSep_univ_prod]
  refine bigSep_congr fun c _ => ?_
  rw [bigSep_univ_sum, bigSep_univ_sum, bigSep_univ_sum, bigSep_univ_prod, bigSep_univ_prod, BI.bigSep_fin_two]
  rfl

theorem toks_around :
    (bigSep Finset.univ fun c : Dev nD => iprop((dutyTok (ER F) (barC c) 0 0 ∗ dutyTok (ER F) (barC c) 0 1) ∗ crToks (F := F) c ∗ sendToks (F := F) c ∗ recvToks (F := F) c) : sProp 𝕄)
      = bigSep Finset.univ fun c : Dev nD => iprop((dutyTok (ER F) (barC (nxt c)) 0 0 ∗ dutyTok (ER F) (barC (prv c)) 0 1)
        ∗ crToks (F := F) (prv c) ∗ sendToks (F := F) c ∗ recvToks (F := F) (nxt c)) := by
  simp only [bigSep_sep']
  rw [bigSep_univ_equiv ring (fun c : Dev nD => (dutyTok (ER F) (barC c) 0 0 : sProp 𝕄)), bigSep_univ_equiv ring.symm (fun c : Dev nD => (dutyTok (ER F) (barC c) 0 1 : sProp 𝕄)),
    bigSep_univ_equiv ring.symm (fun c : Dev nD => crToks (F := F) c), bigSep_univ_equiv ring (fun c : Dev nD => recvToks (F := F) c)]
  rfl

/-! ## The hand-backs' positions -/

def keyEmb : Dev nD × Fin 5 ↪ Dev nD × ℕ := ⟨fun x => (x.1, x.2.val), fun a b h => Prod.ext (congrArg (fun y : Dev nD × ℕ => y.1) h) (Fin.ext (congrArg (fun y : Dev nD × ℕ => y.2) h))⟩
theorem keys_eq : keys = Finset.univ.map keyEmb := by decide
def wkeyEmb : Dev nD × Fin 5 ↪ (Dev nD × ℕ) × ℕ := ⟨fun x => ((x.1, x.2.val), 0), fun a b h => Prod.ext (congrArg (fun y => y.1.1) h) (Fin.ext (congrArg (fun y => y.1.2) h))⟩
theorem wkeys_eq : keys ×ˢ Finset.range 1 = Finset.univ.map wkeyEmb := by decide

theorem readers_eq : bigSep keys (fun k => (readerAt (ES F) k 0 : sProp 𝕄)) = bigSep Finset.univ fun c : Dev nD => bigSep Finset.univ fun k : Fin 5 => readerAt (ES F) (c, k.val) 0 := by
  rw [keys_eq, bigSep_map, bigSep_univ_prod]; rfl
theorem writers_eq : bigSep (keys ×ˢ Finset.range 1) (fun x => (writeTok (ES F) x.1 (x.2 + 1) : sProp 𝕄))
    = bigSep Finset.univ fun c : Dev nD => bigSep Finset.univ fun k : Fin 5 => writeTok (ES F) (nxt c, k.val) 1 := by
  rw [wkeys_eq, bigSep_map, bigSep_univ_prod, bigSep_univ_equiv ring]; rfl

/-! ## A device's share, hop by hop -/

theorem pad_lo (X : ℕ → sProp 𝕄) : bigSep Finset.univ (fun k : Fin 5 => X k.val) ⊣⊢ bigSep Finset.univ (fun k : Fin 8 => if k.val < 5 then X k.val else iprop(emp)) := by
  rw [bigSep_univ_eq_bigSepL [(0 : Fin 5), 1, 2, 3, 4] (by decide) (by decide), bigSep_univ_eq_bigSepL [(0 : Fin 8), 1, 2, 3, 4, 5, 6, 7] (by decide) (by decide)]
  have e1 : iprop(X 0 ∗ X 1 ∗ X 2 ∗ X 3 ∗ X 4) ⊢ iprop(X 0 ∗ X 1 ∗ X 2 ∗ X 3 ∗ X 4 ∗ emp ∗ emp ∗ emp) := by
    iintro ⟨H0, H1, H2, H3, H4⟩
    isplitl [H0]; · iexact H0
    isplitl [H1]; · iexact H1
    isplitl [H2]; · iexact H2
    isplitl [H3]; · iexact H3
    isplitl [H4]; · iexact H4
    isplitr; · iempintro
    isplitr <;> iempintro
  have e2 : iprop(X 0 ∗ X 1 ∗ X 2 ∗ X 3 ∗ X 4 ∗ emp ∗ emp ∗ emp) ⊢ iprop(X 0 ∗ X 1 ∗ X 2 ∗ X 3 ∗ X 4) := by
    iintro ⟨H0, H1, H2, H3, H4, -⟩
    isplitl [H0]; · iexact H0
    isplitl [H1]; · iexact H1
    isplitl [H2]; · iexact H2
    isplitl [H3] <;> iassumption
  exact ⟨e1, e2⟩
theorem pad_hi (X : ℕ → sProp 𝕄) : bigSep Finset.univ (fun k : Fin 5 => X k.val) ⊢ bigSep Finset.univ (fun k : Fin 8 => if 3 ≤ k.val then X (k.val - 3) else iprop(emp)) := by
  rw [bigSep_univ_eq_bigSepL [(0 : Fin 5), 1, 2, 3, 4] (by decide) (by decide), bigSep_univ_eq_bigSepL [(0 : Fin 8), 1, 2, 3, 4, 5, 6, 7] (by decide) (by decide)]
  have e1 : iprop(X 0 ∗ X 1 ∗ X 2 ∗ X 3 ∗ X 4) ⊢ iprop(emp ∗ emp ∗ emp ∗ X 0 ∗ X 1 ∗ X 2 ∗ X 3 ∗ X 4) := by
    iintro H
    isplitr; · iempintro
    isplitr; · iempintro
    isplitr; · iempintro
    iexact H
  exact e1

theorem sends_of (c : Dev nD) (k : Fin 8) :
    iprop(bigSep Finset.univ (fun r : Fin 3 => dutyTok (ER F) (sendC c r (slotN k.val)) (k.val / 4) 0)
      ∗ bigSep Finset.univ (fun r : Fin 3 => dutyTok (ER F) (recvC (nxt c) r (slotN (k.val + 1))) (k.val / 4) 0) ∗ rows3 (rowCred (F := F) c k.val))
      ⊢ (sends k.val (rowRes (F := F) c k.val) : sProp 𝕄) := by
  rw [bigSep_fin3, bigSep_fin3]
  have h12 (r : Fin 3) (hr : r ≠ 0) : rowCred (F := F) c k.val r = cred (tallyAt (recvC c r (slotN (k.val + 1))) (4 * k.val + r.val) (Nr r)) := by
    unfold rowCred; exact if_neg fun h => hr h.1
  unfold rows3 sends
  rw [h12 1 (by decide), h12 2 (by decide)]
  by_cases hk : k.val = 7
  · rw [if_pos hk]
    unfold rowRes
    iintro ⟨⟨-, A1, A2⟩, ⟨-, B1, B2⟩, ⟨-, C1, C2⟩⟩
    isplitr; · iempintro
    isplitl [A1 B1 C1]
    · isplitl [A1]; · iexact A1
      isplitl [B1] <;> iassumption
    isplitl [A2]; · iexact A2
    isplitl [B2] <;> iassumption
  · rw [if_neg hk, show rowCred (F := F) c k.val 0 = cred (tallyAt (recvC c 0 (slotN (k.val + 1))) (4 * k.val + (0 : Fin 3).val) (Nr 0)) from by
      unfold rowCred; exact if_neg fun h => hk h.2]
    unfold rowRes
    iintro ⟨⟨A0, A1, A2⟩, ⟨B0, B1, B2⟩, ⟨C0, C1, C2⟩⟩
    isplitl [A0 B0 C0]
    · isplitl [A0]; · iexact A0
      isplitl [B0] <;> iassumption
    isplitl [A1 B1 C1]
    · isplitl [A1]; · iexact A1
      isplitl [B1] <;> iassumption
    isplitl [A2]; · iexact A2
    isplitl [B2] <;> iassumption

def hopEmb : Fin 8 ↪ ℕ := ⟨Fin.val, Fin.val_injective⟩

theorem hops_of (c : Dev nD) :
    iprop((crToks (F := F) (prv c) ∗ sendToks (F := F) c ∗ recvToks (F := F) (nxt c))
      ∗ (bigSep Finset.univ (fun k : Fin 5 => readerAt (ES F) (c, k.val) 0) ∗ bigSep Finset.univ (fun k : Fin 5 => writeTok (ES F) (nxt c, k.val) 1))
      ∗ bigSep Finset.univ (fun k : Fin 8 => rows3 (rowCred (F := F) c k.val)) ∗ bigSep Finset.univ (fun k : Fin 8 => backCred (F := F) c k.val))
      ⊢ (bigSep (Finset.Ico 0 8) (hopRes (F := F) c) : sProp 𝕄) := by
  have h1 : iprop(sendToks (F := F) c ∗ recvToks (F := F) (nxt c) ∗ bigSep Finset.univ (fun k : Fin 8 => rows3 (rowCred (F := F) c k.val)))
      ⊢ (bigSep Finset.univ (fun k : Fin 8 => sends k.val (rowRes (F := F) c k.val)) : sProp 𝕄) := by
    unfold sendToks recvToks
    rw [← bigSep_sep', ← bigSep_sep']
    exact bigSep_mono fun k _ => sends_of c k
  have h2 : iprop(crToks (F := F) (prv c) ∗ bigSep Finset.univ (fun k : Fin 5 => readerAt (ES F) (c, k.val) 0))
      ⊢ (bigSep Finset.univ (fun k : Fin 8 => if k.val < 5 then iprop(dutyTok (ER F) (crC (prv c)) 0 k.val ∗ readerAt (ES F) (c, k.val) 0) else iprop(emp)) : sProp 𝕄) := by
    unfold crToks
    rw [← bigSep_sep']
    exact (pad_lo fun k => iprop(dutyTok (ER F) (crC (prv c)) 0 k ∗ readerAt (ES F) (c, k) 0)).1
  have h3 : iprop(bigSep Finset.univ (fun k : Fin 8 => backCred (F := F) c k.val) ∗ bigSep Finset.univ (fun k : Fin 5 => writeTok (ES F) (nxt c, k.val) 1))
      ⊢ (bigSep Finset.univ (fun k : Fin 8 => if 3 ≤ k.val then iprop(cred (tallyAt (crC c) (4 * (k.val - 3) + 3) 1) ∗ writeTok (ES F) (nxt c, k.val - 3) 1) else iprop(emp)) : sProp 𝕄) := by
    refine (sep_mono_left (pad_lo fun k => cred (tallyAt (crC c) (4 * k + 3) 1)).2).trans ?_
    rw [← bigSep_sep']
    exact pad_hi fun k => iprop(cred (tallyAt (crC c) (4 * k + 3) 1) ∗ writeTok (ES F) (nxt c, k) 1)
  rw [show Finset.Ico 0 8 = Finset.univ.map hopEmb from by decide, bigSep_map]
  refine BIBase.Entails.trans ?_ (show bigSep Finset.univ (fun k : Fin 8 => iprop(sends k.val (rowRes (F := F) c k.val)
    ∗ (if k.val < 5 then iprop(dutyTok (ER F) (crC (prv c)) 0 k.val ∗ readerAt (ES F) (c, k.val) 0) else iprop(emp))
    ∗ (if 3 ≤ k.val then iprop(cred (tallyAt (crC c) (4 * (k.val - 3) + 3) 1) ∗ writeTok (ES F) (nxt c, k.val - 3) 1) else iprop(emp)))) ⊢ _ from Entails.of_eq rfl)
  rw [bigSep_sep', bigSep_sep']
  iintro ⟨⟨Hcr, Hs, Hr⟩, ⟨Hrd, Hw⟩, Hrc, Hbc⟩
  isplitl [Hs Hr Hrc]
  · iapply h1
    isplitl [Hs]; · iexact Hs
    isplitl [Hr] <;> iassumption
  isplitl [Hcr Hrd]
  · iapply h2
    isplitl [Hcr] <;> iassumption
  iapply h3
  isplitl [Hbc] <;> iassumption

end Cert.RingProof

end
-- ==== Proof.Run.lean ====
/-
  The run of the whole program: what every device's memory holds when it ends.
-/
module

public import proofs.«01_k».proof.Proof.Launch

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg BodyObligation cellOf)

variable {F : FTy → Type} [FloatOps F]

local notation "𝕄" => MT nD τ sig ℕ (Elt F) ℕ UU ℕ
local notation "ℍ" => Pipeline.HostSeg (Name := ℕ) (U := UU) (pcfgs (F := F)) defs₀ 𝒱₀ L lv

variable (m : (ℓ : Loc nD τ sig) → Buf (Elt F) ℓ) (ρ : Dev nD → PrngReg)

theorem cells_inj : Function.Injective (Pipeline.cellOf (nD := nD) (τ := τ) (Pipeline.pin (pcfgs (F := F)) adm)) := kitP.cellOf_inj adm

theorem both_split (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
theorem both_join (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

theorem osem_ne_bar : ∀ k : KI, osem k ≠ .reg barS := by decide
theorem disjoint_cells : Disjoint (barCells : Finset (GSem nD τ sig)) scCells := by
  unfold barCells scCells
  rw [Finset.disjoint_left]
  rintro g h₁ h₂
  obtain ⟨c, -, rfl⟩ := Finset.mem_map.mp h₁
  obtain ⟨ck, -, h⟩ := Finset.mem_map.mp h₂
  exact osem_ne_bar ck.2 (congrArg (fun g : GSem nD τ sig => g.2) h)

/-! ## The launch's ghost state -/

def u₀ : UU :=
  (initOf (Pipeline.cells (Pipeline.pin (pcfgs (F := F)) adm) cells_inj) (Pipeline.launchToks (Pipeline.pin (pcfgs (F := F)) adm) cells_inj),
    (launchOf barCells scCells toks, initSlots keys 1))

/-- A resource held by device `c₀` alone. -/
def only (c₀ : Dev nD) (X : sProp 𝕄) (c : Dev nD) : sProp 𝕄 := if c = c₀ then X else iprop(emp)
theorem bigSep_only (c₀ : Dev nD) (X : sProp 𝕄) : bigSep Finset.univ (only c₀ X) = X := by
  have h : bigSep (Finset.univ.erase c₀) (only c₀ X) = bigSep (Finset.univ.erase c₀) (fun _ => (BI.emp : sProp 𝕄)) :=
    bigSep_congr fun c hc => if_neg (Finset.ne_of_mem_erase hc)
  rw [bigSep_univ_at _ c₀, h, BI.bigSep_emp_const, show only c₀ X c₀ = X from if_pos rfl]
  exact BI.equiv_iff.mp sep_emp

def G₀ : sProp 𝕄 := iprop(BI.own (ER F (launchOf barCells scCells toks)) ∗ BI.own (ES F (initSlots keys 1)))
def G : Dev nD → sProp 𝕄 := only 0 (G₀ (F := F))

def V₀ (c : Dev nD) : Valuation τ sig (Elt F) := fun b => m (c, b)
/-- What a device keeps beside its buffers while the host's operations run. -/
def Rest (c : Dev nD) : sProp 𝕄 := iprop(Tk m c ∗ (∃ r, prngReg c r) ∗ ∃ W, owes (c : Thread nD τ) (O₀ c) W)
def T₀ (c : Dev nD) : sProp 𝕄 := iprop(StableHlo.held (c : Thread nD τ) (Pipeline.ucRefs τ sig) (V₀ m c) ∗ Rest m c)
def Tₙ (c : Dev nD) : sProp 𝕄 := iprop(StableHlo.held (c : Thread nD τ) (Pipeline.ucRefs τ sig) (V₂ m c) ∗ semVal (barC c) 0)

/-- A device's launch holdings that are no part of the exchange's ghost state. -/
def plain (c : Dev nD) : sProp 𝕄 :=
  iprop(StableHlo.held (c : Thread nD τ) (Pipeline.ucRefs τ sig) (V₀ m c) ∗ owes (c : Thread nD τ) (O₀ c) ∅ ∗ (∃ r, prngReg c r)
    ∗ cred (tallyAt (barC c) 0 2) ∗ bigSep Finset.univ (fun k : Fin 8 => rows3 (rowCred (F := F) c k.val)) ∗ bigSep Finset.univ (fun k : Fin 8 => backCred (F := F) c k.val))
/-- A device's share of the tokens. -/
def dealt (c : Dev nD) : sProp 𝕄 :=
  iprop(atPos (ER F) (barC c) 0 ∅ 0 ∗ bigSep Finset.univ (fun k : KI => openTok (ER F) ((c : Thread nD τ), osem k))
    ∗ (bigSep Finset.univ (fun k : Fin 5 => readerAt (ES F) (c, k.val) 0) ∗ bigSep Finset.univ (fun k : Fin 5 => writeTok (ES F) (nxt c, k.val) 1))
    ∗ (dutyTok (ER F) (barC (nxt c)) 0 0 ∗ dutyTok (ER F) (barC (prv c)) 0 1) ∗ crToks (F := F) (prv c) ∗ sendToks (F := F) c ∗ recvToks (F := F) (nxt c))

theorem T₀_of (κ : GSem nD τ sig → ℕ) (ι : Dev nD × ℕ → ℕ) (c : Dev nD) : iprop(recs (argsOf m) κ ι ∗ (dealt (F := F) c ∗ plain m c)) ⊢ T₀ m c := by
  unfold dealt plain T₀ Rest Tk Toks
  iintro ⟨#HI, ⟨Hat, Hop, ⟨Hrd, Hwr⟩, ⟨HtN, HtP⟩, Hcr, Hs, Hr⟩, Hh, HO, Hp, Hcb, Hrc, Hbc⟩
  isplitl [Hh]; · iexact Hh
  isplitr [HO Hp]
  · iexists κ, ι
    isplitr; · iexact HI
    isplitr [Hop]
    · isplitl [HtN]; · iexact HtN
      isplitl [HtP]; · iexact HtP
      isplitl [Hcb]; · iexact Hcb
      isplitl [Hat]; · iexact Hat
      iapply (hops_of (F := F) c)
      isplitl [Hcr Hs Hr]
      · isplitl [Hcr]; · iexact Hcr
        isplitl [Hs] <;> iassumption
      isplitl [Hrd Hwr]
      · isplitl [Hrd] <;> iassumption
      isplitl [Hrc] <;> iassumption
    iexact Hop
  isplitl [Hp]; · iexact Hp
  iexists ∅; iexact HO

theorem held_unscoped (c : Dev nD) (W : Valuation τ sig (Elt F)) :
    (unscopedBufs c (fun b => W b) : sProp 𝕄) = StableHlo.held (c : Thread nD τ) (Pipeline.ucRefs τ sig) W := by
  unfold unscopedBufs StableHlo.held Pipeline.ucRefs StableHlo.tcRefs
  rw [Finset.filter_map, BI.bigSep_map]; rfl
theorem sems_unscoped (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What a device starts with. -/
def given (c : Dev nD) : sProp 𝕄 :=
  iprop(unscopedBufs c (fun b => m ((c : Thread nD τ).loc b)) ∗ unscopedSems0 c ∗ owes (c : Thread nD τ) (O₀ c) ∅ ∗ Pipeline.launchCred O₀ c ∗ prngReg c (ρ c) ∗ G (F := F) c)

theorem given_split (c : Dev nD) : given m ρ c ⊢ (iprop(plain m c ∗ (semVal (barC c) 0 ∗ G (F := F) c)) : sProp 𝕄) := by
  unfold given plain
  rw [show (unscopedBufs c (fun b => m ((c : Thread nD τ).loc b)) : sProp 𝕄) = StableHlo.held (c : Thread nD τ) (Pipeline.ucRefs τ sig) (V₀ m c) from held_unscoped c (V₀ m c),
    sems_unscoped]
  iintro ⟨Hh, Hus, HO, Hcr, Hp, HG⟩
  ihave Hc := (creds (F := F) c) $$ Hcr
  icases Hc with ⟨H1, H2, H3⟩
  isplitr [Hus HG]
  · isplitl [Hh]; · iexact Hh
    isplitl [HO]; · iexact HO
    isplitl [Hp]; · iexists (ρ c); iexact Hp
    isplitl [H1]; · iexact H1
    isplitl [H2] <;> iassumption
  isplitl [Hus] <;> iassumption

theorem init_run : iprop(bigSep Finset.univ (given m ρ) ∗ levAts L lv) ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos (ER F) g 0 ∅ 0 : sProp 𝕄)) ⊢ bigSep Finset.univ (fun c : Dev nD => (atPos (ER F) (barC c) 0 ∅ 0 : sProp 𝕄)) :=
    Entails.of_eq (bigSep_map (s := Finset.univ) barEmb (Φ := fun g : GSem nD τ sig => (atPos (ER F) g 0 ∅ 0 : sProp 𝕄)))
  have hop : bigSep scCells (fun g => (openTok (ER F) g : sProp 𝕄))
      ⊢ bigSep Finset.univ (fun c : Dev nD => bigSep Finset.univ (fun k : KI => openTok (ER F) ((c : Thread nD τ), osem k))) :=
    Entails.of_eq (by unfold scCells; rw [bigSep_map, bigSep_univ_prod]; rfl)
  have hcore : bigSep Finset.univ (given m ρ) ⊢ (bigSep Finset.univ fun c : Dev nD => iprop(plain m c ∗ (semVal (barC c) 0 ∗ G (F := F) c)) : sProp 𝕄) :=
    bigSep_mono fun c _ => given_split m ρ c
  have hG : bigSep Finset.univ (G (F := F)) ⊢ G₀ (F := F) := Entails.of_eq (bigSep_only (F := F) 0 _)
  have htok := Entails.of_eq ((toks_eq (F := F)).trans (toks_around (F := F)))
  have hrd := Entails.of_eq (readers_eq (F := F))
  have hwr := Entails.of_eq (writers_eq (F := F))
  iintro ⟨H, -⟩
  ihave H' := hcore $$ H
  ihave H2 := (both_split (F := F) _ _) $$ H'; icases H2 with ⟨HB, H3⟩
  ihave H4 := (both_split (F := F) _ _) $$ H3; icases H4 with ⟨Hv, HG⟩
  ihave Hu := hG $$ HG
  unfold G₀
  icases Hu with ⟨Hu, Hsl⟩
  imod (Rounds.fund_launch (ER F) (Rd (argsOf m)) disjoint_cells (fun g _ h => h) toks) $$ [Hv Hu] with ⟨%κ, -, #Hinv, #Hr, Hat, Hopen, Htok⟩
  · isplitl [Hv]
    · iapply hv $$ Hv
    · iexact Hu
  imod (Release.slots_init (ES F) keys 1 (fun x : Dev nD × ℕ => backRes (F := F) x.1 x.2)) $$ Hsl with ⟨%ι, -, #Hslot, Hrd, Hwr⟩
  imodintro
  iapply (bigSep_with_persistent (R := recs (argsOf m) κ ι) (Φ := fun c => iprop(dealt (F := F) c ∗ plain m c)) fun c _ => T₀_of m κ ι c)
  isplitr
  · unfold recs
    isplitr; · iexact Hinv
    isplitr; · iexact Hr
    iexact Hslot
  iapply (both_join (F := F) _ _)
  isplitr [HB]
  · unfold dealt
    iapply (both_join (F := F) _ _); isplitl [Hat]; · iapply hat $$ Hat
    iapply (both_join (F := F) _ _); isplitl [Hopen]; · iapply hop $$ Hopen
    iapply (both_join (F := F) _ _); isplitl [Hrd Hwr]
    · iapply (both_join (F := F) _ _); isplitl [Hrd]; · iapply hrd $$ Hrd
      iapply hwr $$ Hwr
    iapply htok $$ Htok
  · iexact HB

/-! ## The segments -/

theorem ops_sub : ∀ op ∈ (hostOps0 (F := F)), op.bufs ⊆ Pipeline.ucRefs τ sig := fun op h =>
  Pipeline.sub_ucRefs op (List.forall_iff_forall_mem.mp hostOps0_sub op h)

def host : ℍ := Pipeline.HostSeg.ofOps _ _ _ _ _ (Pipeline.ucRefs τ sig) hostOps0 ops_sub (List.forall_iff_forall_mem.mp hostOps0_fresh) (V₀ m) (Rest m)

theorem arr_sub : Pipeline.arrRefs (τ := τ) spec0 ⊆ Pipeline.ucRefs τ sig := Pipeline.arrRefs_sub_ucRefs spec0 (by decide)

theorem off_eq : Pipeline.ucRefs τ sig \ Pipeline.arrRefs (τ := τ) spec0 = offRefs := rfl

theorem into_reg [∀ e, Nonempty (Elt F e)] (c : Dev nD) : (host m).post c ⊢ (reg m).pre c := by
  show iprop(StableHlo.held (c : Thread nD τ) (Pipeline.ucRefs τ sig) (V₁ m c) ∗ Rest m c)
    ⊢ iprop(StableHlo.held (c.tc : Thread nD τ) (Pipeline.arrRefs (τ := τ) (pcfgs (F := F) 0).spec) (V₁ m c) ∗ (∃ r, prngReg c r)
      ∗ (StableHlo.held (c : Thread nD τ) offRefs (V₁ m c) ∗ emp) ∗ Tk m c ∗ ∃ Wd, owes (c : Thread nD τ) (0 + O₀ c) Wd)
  rw [StableHlo.held_sub_split (c : Thread nD τ) arr_sub, off_eq, zero_add]
  unfold Rest
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem from_reg [∀ e, Nonempty (Elt F e)] (c : Dev nD) : (reg m).post c ⊢ iprop(Tₙ m c ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
      ∗ (StableHlo.held (c : Thread nD τ) offRefs (V₂ m c) ∗ emp) ∗ Yk (F := F) c ∗ ∃ Wd, owes (c : Thread nD τ) (0 : CellTallies nD τ sig ℕ) Wd) ⊢ _
  unfold Tₙ Yk
  rw [StableHlo.held_sub_split (c : Thread nD τ) arr_sub, off_eq]
  iintro ⟨Ha, -, ⟨Ho, -⟩, Hb, HO⟩
  isplitr [HO]
  · isplitr [Hb]
    · isplitl [Ha] <;> iassumption
    iexact Hb
  iexact HO

def segs [∀ e, Nonempty (Elt F e)] : List (Pipeline.Seg (pcfgs (F := F)) adm (pdats m) 0 defs₀ 𝒱₀ L lv) := [.host (host m), .region (reg m)]

/-- The buffers the result speaks of. -/
def told : List (DevRef τ sig) :=
  [Proc.devRef .tc main_arg0, Proc.devRef .tc main_arg1, Proc.devRef .tc main_arg2, Proc.devRef .tc main_arg3, Proc.devRef .tc main_arg4, Proc.devRef .tc main_v16]
theorem told_sub : told.toFinset ⊆ Pipeline.ucRefs τ sig := by decide +kernel

/-- A whole buffer of device `c`, held with contents `X`. -/
def wholeAt (c : Dev nD) (r : Ref sig .tc) (X : Buf (Elt F) ((c : Thread nD τ).loc r)) : sProp 𝕄 :=
  ((c : Thread nD τ).loc r) ↦{fullShare} X

theorem held_told (c : Dev nD) (W : Valuation τ sig (Elt F)) :
    (StableHlo.held (c : Thread nD τ) (Pipeline.ucRefs τ sig) W : sProp 𝕄) ⊢ iprop(wholeAt c main_arg0 (W (Proc.devRef .tc main_arg0))
      ∗ wholeAt c main_arg1 (W (Proc.devRef .tc main_arg1)) ∗ wholeAt c main_arg2 (W (Proc.devRef .tc main_arg2)) ∗ wholeAt c main_arg3 (W (Proc.devRef .tc main_arg3))
      ∗ wholeAt c main_arg4 (W (Proc.devRef .tc main_arg4)) ∗ wholeAt c main_v16 (W (Proc.devRef .tc main_v16))) := by
  unfold StableHlo.held
  refine (bigSep_subset told_sub).trans ?_
  rw [bigSep_eq_bigSepL_of_eq told rfl (by decide)]
  exact Entails.refl _

theorem unscoped_eq : ∀ sm : SemLoc sig, sm.isScoped .tc = false → sm = .reg barS := by decide

/-- What is read off the final memory on device `c`. -/
def ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v16) = outOf m c

theorem V₁_arg (c : Dev nD) : V₁ m c (Proc.devRef .tc main_arg0) = m ((c : Thread nD τ).loc main_arg0)
    ∧ V₁ m c (Proc.devRef .tc main_arg1) = m ((c : Thread nD τ).loc main_arg1)
    ∧ V₁ m c (Proc.devRef .tc main_arg2) = m ((c : Thread nD τ).loc main_arg2)
    ∧ V₁ m c (Proc.devRef .tc main_arg3) = m ((c : Thread nD τ).loc main_arg3)
    ∧ V₁ m c (Proc.devRef .tc main_arg4) = m ((c : Thread nD τ).loc main_arg4) :=
  ⟨V_main_arg0 m c, V_main_arg1 m c, V_main_arg2 m c, V_main_arg3 m c, V_main_arg4 m c⟩

theorem read_end (c : Dev nD) (s' : Phys nD τ sig (Elt F)) :
    iprop(Tₙ m c ∗ SI s') ⊢ (|={Set.univ}=> iprop(⌜ends m c s'.mem ∧ s'.mem.sem (barC c) = 0⌝ ∗ SI s') : sProp 𝕄) := by
  have hr := held_told (F := F) c (V₂ m c)
  have hne : ∀ r ∈ [main_arg0, main_arg1, main_arg2, main_arg3, main_arg4], (Proc.devRef .tc r : DevRef τ sig) ≠ Proc.devRef .tc main_v16 := by decide
  obtain ⟨a0, a1, a2, a3, a4⟩ := V₁_arg m c
  rw [V₂_of_ne m c _ (hne main_arg0 (by decide)), V₂_of_ne m c _ (hne main_arg1 (by decide)), V₂_of_ne m c _ (hne main_arg2 (by decide)),
    V₂_of_ne m c _ (hne main_arg3 (by decide)), V₂_of_ne m c _ (hne main_arg4 (by decide)), a0, a1, a2, a3, a4,
    show V₂ m c (Proc.devRef .tc main_v16) = outOf m c from Function.update_self ..] at hr
  unfold Tₙ
  iintro ⟨⟨Hh, Hb⟩, HSI⟩
  ihave Hh := hr $$ Hh
  unfold wholeAt
  icases Hh with ⟨H0, H1, H2, H3, H4, H5⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨⟨Buf.eq_of_forall_mem_univ h0, Buf.eq_of_forall_mem_univ h1, Buf.eq_of_forall_mem_univ h2, Buf.eq_of_forall_mem_univ h3, Buf.eq_of_forall_mem_univ h4⟩,
      Buf.eq_of_forall_mem_univ h5⟩, by simpa using hb⟩
  iexact HSI

theorem fund_u₀ : (ownU (u₀ (F := F)) : sProp 𝕄)
    ⊢ |={Set.univ}=> iprop(BI.own (EP F (initOf (Pipeline.cells (Pipeline.pin (pcfgs (F := F)) adm) cells_inj) (Pipeline.launchToks (Pipeline.pin (pcfgs (F := F)) adm) cells_inj)))
      ∗ bigSep Finset.univ (G (F := F))) := by
  have h := own_pair_emb (EK F) (launchOf barCells scCells toks) (initSlots keys 1)
  unfold u₀ G
  rw [bigSep_only]
  unfold G₀
  iintro Hu
  ihave H := (ownU_pair _ _) $$ Hu
  icases H with ⟨HP, HX⟩
  ihave HX := h $$ HX
  icases HX with ⟨HX, HY⟩
  imodintro
  isplitl [HP]; · iexact HP
  isplitl [HX]; · iexact HX
  iexact HY

set_option backward.isDefEq.respectTransparency.types false in
/-- The run: the arguments are unchanged, the result holds what the ring leaves, and every semaphore is back at zero. -/
theorem run_main [∀ e, Nonempty (Elt F e)] : θ_run defs (onTc (τ := τ) (main (F := F))) ⟨m, fun _ => 0, ρ⟩
    (fun r => (∀ c : Dev nD, ends m c r.2) ∧ r.2.sem = fun _ => 0) :=
  Pipeline.θ_run_regions_kit_sems (pcfgs (F := F)) adm (pdats m) 0 cells_inj (EP F) defs₀ 𝒱₀ L lv m ρ main (segs m)
    (fun c Q => by rw [main_segs adm (pdats m) 0 𝒱₀ L lv (host m) (reg m) rfl c]; exact .rfl)
    (by simp only [segs, Pipeline.Seg.pipes_host, Pipeline.Seg.pipes_region, Pipeline.Seg.pipes_nil]; decide)
    (O₀ := O₀) (hL := L_of_ne) (G := G) (u₀ := u₀) (hu₀ := fund_u₀) (T₀ := T₀ m) (Tₙ := Tₙ m)
    (hch := ⟨fun c => .rfl, fun c => into_reg m c, fun c => from_reg m c⟩)
    (hinit := init_run m ρ)
    (QY := fun c s => ends m c s ∧ s.sem (barC c) = 0)
    (hfin := read_end m)
    (hQ := fun s h hs => ⟨fun c => (h c).1, sem_eq_zero hs fun c sm hsm => by
      obtain rfl := unscoped_eq sm hsm
      exact (h c).2⟩)

end Cert.RingProof

end
-- ==== Proof.Same.lean ====
/-
  The kernel's two printings are one program: the text is the same, so each one's bodies are the other's.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

theorem body_same : @Cert.Kernel.cc0__body Bits _ _ = @Cert.KernelIdeal.cc0__body Bits _ _ := rfl

theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l with
  | 0 =>
    show Cert.Kernel.cc0__body (F := Bits) _ _ _ _ _ _ _ _ _ _ _ _ _ _ _ _ _ _ _ _ _ = Cert.KernelIdeal.cc0__body (F := Bits) _ _ _ _ _ _ _ _ _ _ _ _ _ _ _ _ _ _ _ _ _
    rw [body_same]

theorem defs_same : Cert.Kernel.defs (F := Bits) = Cert.KernelIdeal.defs (F := Bits) := by
  unfold Cert.Kernel.defs Cert.KernelIdeal.defs
  exact congrArg (Pipeline.defs Cert.KernelIdeal.pcfgs) bodies_same

theorem main_same : Cert.Kernel.main (F := Bits) = Cert.KernelIdeal.main (F := Bits) := rfl

/-- A run of the one is a run of the other. -/
theorem run_same (s : MemSt Cert.KernelIdeal.nD Cert.KernelIdeal.τ Cert.KernelIdeal.sig (Elt Bits))
    (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q :=
  (congrArg (fun d => θ_run d (onTc (τ := Cert.KernelIdeal.τ) (Cert.KernelIdeal.main (F := Bits))) s Q) defs_same).mpr h

end Cert.Proof

end
-- ==== Proof.Tile.lean ====
/-
  The arithmetic of one trip, read at an index on extended reals: the scores of a query tile against a device's keys, and
  the new maximum, sum and context of a row.
-/
module

public import proofs.«01_k».proof.Proof.Loop
public import Idealize.ShloMosaic.Lib.Pointwise

@[expose] public section

set_option maxRecDepth 16384

noncomputable section

namespace Cert.RingProof

open Cert.KernelIdeal Cert.KernelIdeal.Gen
open Idealize.ShloMosaic

/-- The scale the scores are multiplied by. -/
def scl : EReal := Ideal.ofBits .f32 0x3DB504F3#32

theorem pay3_at (a : Vec Ideal S1x1x1x64x128 .bf16) (b : Vec Ideal S1x1x128x1024 .bf16) (r : Fin 64) (n : Fin 1024) :
    k0_pay3 a b (ix2 r n) = (∑ k : Fin 128, a (ix5 0 0 0 r k) * b (ix4 0 0 k n)) * scl := by
  unfold k0_pay3 scl
  pointwise

/-- The pattern of the lowest value denotes the bottom. -/
theorem ofBits_bot : Ideal.ofBits .f32 0xFF800000#32 = ⊥ := by simp [Ideal.ofBits, Ideal.ieee]

/-- The running maximum of a row after the scores `s` of a key set. -/
def mx (M : EReal) (s : Fin 1024 → EReal) : EReal := max M (Finset.univ.sup s)

theorem pay5_at (s : FVec Ideal S64x1024 .f32) (m : FVec Ideal S64x1 .f32) (r : Fin 64) (z : Fin 1) :
    k0_pay5 s m (ix2 r z) = mx (m (ix2 r z)) fun n => s (ix2 r n) := by
  unfold k0_pay5 mx
  pointwise
  rw [ofBits_bot]; rfl

theorem pay6_at (s : FVec Ideal S64x1024 .f32) (m : FVec Ideal S64x1 .f32) (r : Fin 64) (z : Fin 1) :
    k0_pay6 s m (ix2 r z) = Ideal.exp (m (ix2 r z) - mx (m (ix2 r z)) fun n => s (ix2 r n)) := by
  unfold k0_pay6
  pointwise
  rw [pay5_at]

theorem pay7_at (s : FVec Ideal S64x1024 .f32) (m : FVec Ideal S64x1 .f32) (r : Fin 64) (n : Fin 1024) :
    k0_pay7 s m (ix2 r n) = Ideal.exp (s (ix2 r n) - mx (m (ix2 r 0)) fun n => s (ix2 r n)) := by
  unfold k0_pay7
  pointwise
  rw [pay5_at]

theorem pay8_at (v : FVec Ideal S1024x128 .bf16) (s : FVec Ideal S64x1024 .f32) (m : FVec Ideal S64x1 .f32)
    (C : Vec Ideal S1x1x1x64x128 .f32) (x y z : Fin 1) (r : Fin 64) (d : Fin 128) :
    k0_pay8 v s m C (ix5 x y z r d) = C (ix5 0 0 0 r d) * Ideal.exp (m (ix2 r 0) - mx (m (ix2 r 0)) fun n => s (ix2 r n))
      + ∑ n : Fin 1024, Ideal.exp (s (ix2 r n) - mx (m (ix2 r 0)) fun n => s (ix2 r n)) * v (ix2 n d) := by
  unfold k0_pay8
  pointwise
  simp only [pay6_at, pay7_at]

theorem pay9_at (s : FVec Ideal S64x1024 .f32) (m : FVec Ideal S64x1 .f32) (x y z : Fin 1) (r : Fin 64) (d : Fin 1) :
    k0_pay9 s m (ix5 x y z r d) = mx (m (ix2 r 0)) fun n => s (ix2 r n) := by
  unfold k0_pay9
  pointwise
  simp only [pay5_at]

theorem pay10_at (s : FVec Ideal S64x1024 .f32) (m : FVec Ideal S64x1 .f32) (L : Vec Ideal S1x1x1x64x1 .f32) (x y z : Fin 1) (r : Fin 64)
    (d : Fin 1) :
    k0_pay10 s m L (ix5 x y z r d) = L (ix5 0 0 0 r 0) * Ideal.exp (m (ix2 r 0) - mx (m (ix2 r 0)) fun n => s (ix2 r n))
      + ∑ n : Fin 1024, Ideal.exp (s (ix2 r n) - mx (m (ix2 r 0)) fun n => s (ix2 r n)) := by
  unfold k0_pay10
  pointwise
  simp only [pay6_at, pay7_at]

/-! ## A trip's new values -/

/-- The score of row `r` of the query tile at head `h`, block `j`, against the device's key `n` there. -/
def sc (q : QV Ideal) (kt : KV Ideal) (h : Fin 8) (j : Fin 4) (r : Fin 64) (n : Fin 1024) : EReal :=
  (∑ k : Fin 128, q (ix4 h j r k) * kt (ix4 h j k n)) * scl

/-- The factor a row's old sums are multiplied by, and the weight of key `n`. -/
def corr (q : QV Ideal) (kt : KV Ideal) (S : SV Ideal) (h : Fin 8) (j : Fin 4) (r : Fin 64) : EReal :=
  Ideal.exp (S (ix4 h j r 0) - mx (S (ix4 h j r 0)) (sc q kt h j r))
def wgt (q : QV Ideal) (kt : KV Ideal) (S : SV Ideal) (h : Fin 8) (j : Fin 4) (r : Fin 64) (n : Fin 1024) : EReal :=
  Ideal.exp (sc q kt h j r n - mx (S (ix4 h j r 0)) (sc q kt h j r))

theorem qTile_at (q : QV Ideal) (h : Fin 8) (j : Fin 4) (r : Fin 64) (k : Fin 128) : qTile q h j (ix5 0 0 0 r k) = q (ix4 h j r k) := by
  unfold qTile getBox
  refine congrArg q (funext fun a => Fin.ext ?_)
  match a with
  | 0 => show _ + 0 = _; rfl
  | 1 => show _ + 0 = _; rfl
  | 2 => show 0 + _ = _; exact Nat.zero_add _
  | 3 => show 0 + _ = _; exact Nat.zero_add _
theorem cTile_at (C : CV Ideal) (h : Fin 8) (j : Fin 4) (r : Fin 64) (k : Fin 128) : cTile C h j (ix5 0 0 0 r k) = C (ix4 h j r k) :=
  qTile_at C h j r k
theorem mTile_at (S : SV Ideal) (h : Fin 8) (j : Fin 4) (r : Fin 64) : mTile S h j (ix5 0 0 0 r 0) = S (ix4 h j r 0) := by
  unfold mTile getBox
  refine congrArg S (funext fun a => Fin.ext ?_)
  match a with
  | 0 => show _ + 0 = _; rfl
  | 1 => show _ + 0 = _; rfl
  | 2 => show 0 + _ = _; exact Nat.zero_add _
  | 3 => rfl
theorem lTile_at (S : SV Ideal) (h : Fin 8) (j : Fin 4) (r : Fin 64) : lTile S h j (ix5 0 0 0 r 0) = S (ix4 h j r 1) := by
  unfold lTile getBox
  refine congrArg S (funext fun a => Fin.ext ?_)
  match a with
  | 0 => show _ + 0 = _; rfl
  | 1 => show _ + 0 = _; rfl
  | 2 => show 0 + _ = _; exact Nat.zero_add _
  | 3 => rfl
theorem ktTile_at (kt : KV Ideal) (h : Fin 8) (j : Fin 4) (k : Fin 128) (n : Fin 1024) : ktTile kt h j (ix4 0 0 k n) = kt (ix4 h j k n) := by
  unfold ktTile
  refine congrArg kt (funext fun a => Fin.ext ?_)
  match a with
  | 0 => show _ + 1 * 0 = _; rfl
  | 1 => show _ + 1 * 0 = _; rfl
  | 2 => show 0 + 1 * _ = _; rw [Nat.zero_add, Nat.one_mul]; rfl
  | 3 => show 0 + 1 * _ = _; rw [Nat.zero_add, Nat.one_mul]; rfl
theorem vTile_at (v : VV Ideal) (h : Fin 8) (j : Fin 4) (n : Fin 1024) (d : Fin 128) : vTile v h j (ix4 0 0 n d) = v (ix4 h j n d) := by
  unfold vTile
  refine congrArg v (funext fun a => Fin.ext ?_)
  match a with
  | 0 => show _ + 1 * 0 = _; rfl
  | 1 => show _ + 1 * 0 = _; rfl
  | 2 => show 0 + 1 * _ = _; rw [Nat.zero_add, Nat.one_mul]; rfl
  | 3 => show 0 + 1 * _ = _; rw [Nat.zero_add, Nat.one_mul]; rfl

theorem pay2_at (x : Vec Ideal S1x1x1024x128 .bf16) (n : Fin 1024) (d : Fin 128) : k0_pay2 x (ix2 n d) = x (ix4 0 0 n d) := by
  unfold k0_pay2
  pointwise
theorem pay4_at (x : Vec Ideal S1x1x1x64x1 .f32) (r : Fin 64) : k0_pay4 x (ix2 r 0) = x (ix5 0 0 0 r 0) := by
  unfold k0_pay4
  pointwise

theorem cNew_at (q : QV Ideal) (kt : KV Ideal) (v : VV Ideal) (C : CV Ideal) (S : SV Ideal) (h : Fin 8) (j : Fin 4) (x y z : Fin 1) (r : Fin 64)
    (d : Fin 128) :
    cNew q kt v C S h j (ix5 x y z r d) = C (ix4 h j r d) * corr q kt S h j r + ∑ n : Fin 1024, wgt q kt S h j r n * v (ix4 h j n d) := by
  unfold cNew corr wgt
  simp only [pay8_at, pay2_at, pay3_at, pay4_at, qTile_at, cTile_at, mTile_at, ktTile_at, vTile_at]
  rfl
theorem mNew_at (q : QV Ideal) (kt : KV Ideal) (S : SV Ideal) (h : Fin 8) (j : Fin 4) (x y z : Fin 1) (r : Fin 64) (d : Fin 1) :
    mNew q kt S h j (ix5 x y z r d) = mx (S (ix4 h j r 0)) (sc q kt h j r) := by
  unfold mNew
  simp only [pay9_at, pay3_at, pay4_at, qTile_at, mTile_at, ktTile_at]
  rfl
theorem lNew_at (q : QV Ideal) (kt : KV Ideal) (S : SV Ideal) (h : Fin 8) (j : Fin 4) (x y z : Fin 1) (r : Fin 64) (d : Fin 1) :
    lNew q kt S h j (ix5 x y z r d) = S (ix4 h j r 1) * corr q kt S h j r + ∑ n : Fin 1024, wgt q kt S h j r n := by
  unfold lNew corr wgt
  simp only [pay10_at, pay3_at, pay4_at, qTile_at, mTile_at, lTile_at, ktTile_at]
  rfl

/-! ## A hop's loop at an index -/

theorem putC_at (h h' : Fin 8) (j j' : Fin 4) (w : FVec Ideal S1x1x1x64x128 .f32) (x : CV Ideal) (r : Fin 64) (d : Fin 128) :
    putBox (d := ![8, 4, 64, 128]) (sz := ![1, 1, 64, 128]) ![h'.val, j'.val, 0, 0] w x (ix4 h j r d)
      = if h = h' ∧ j = j' then w (ix5 0 0 0 r d) else x (ix4 h j r d) := by
  unfold putBox
  by_cases e : h = h' ∧ j = j'
  · obtain ⟨rfl, rfl⟩ := e
    rw [if_pos ⟨rfl, rfl⟩, dif_pos fun a => by
      match a with
      | 0 => exact ⟨le_rfl, Nat.lt_succ_self _⟩
      | 1 => exact ⟨le_rfl, Nat.lt_succ_self _⟩
      | 2 => exact ⟨Nat.zero_le _, by show r.val < 0 + 64; omega⟩
      | 3 => exact ⟨Nat.zero_le _, by show d.val < 0 + 128; omega⟩]
    refine congrArg w (funext fun a => Fin.ext ?_)
    match a with
    | 0 => rfl
    | 1 => exact Nat.sub_self _
    | 2 => exact Nat.sub_self _
    | 3 => rfl
    | 4 => rfl
  · rw [if_neg e, dif_neg fun H => e ⟨Fin.ext ?_, Fin.ext ?_⟩]
    · have := H 0; change h'.val ≤ h.val ∧ h.val < h'.val + 1 at this; omega
    · have := H 1; change j'.val ≤ j.val ∧ j.val < j'.val + 1 at this; omega

theorem putS_at (h h' : Fin 8) (j j' : Fin 4) (c : Fin 2) (w : FVec Ideal S1x1x1x64x1 .f32) (x : SV Ideal) (r : Fin 64) (d : Fin 2) :
    putBox (d := ![8, 4, 64, 2]) (sz := ![1, 1, 64, 1]) ![h'.val, j'.val, 0, c.val] w x (ix4 h j r d)
      = if h = h' ∧ j = j' ∧ d = c then w (ix5 0 0 0 r 0) else x (ix4 h j r d) := by
  unfold putBox
  by_cases e : h = h' ∧ j = j' ∧ d = c
  · obtain ⟨rfl, rfl, rfl⟩ := e
    rw [if_pos ⟨rfl, rfl, rfl⟩, dif_pos fun a => by
      match a with
      | 0 => exact ⟨le_rfl, Nat.lt_succ_self _⟩
      | 1 => exact ⟨le_rfl, Nat.lt_succ_self _⟩
      | 2 => exact ⟨Nat.zero_le _, by show r.val < 0 + 64; omega⟩
      | 3 => exact ⟨le_rfl, Nat.lt_succ_self _⟩]
    refine congrArg w (funext fun a => Fin.ext ?_)
    match a with
    | 0 => rfl
    | 1 => exact Nat.sub_self _
    | 2 => exact Nat.sub_self _
    | 3 => rfl
    | 4 => exact Nat.sub_self _
  · rw [if_neg e, dif_neg fun H => e ⟨Fin.ext ?_, Fin.ext ?_, Fin.ext ?_⟩]
    · have := H 0; change h'.val ≤ h.val ∧ h.val < h'.val + 1 at this; omega
    · have := H 1; change j'.val ≤ j.val ∧ j.val < j'.val + 1 at this; omega
    · have := H 3; change c.val ≤ d.val ∧ d.val < c.val + 1 at this; omega

theorem trip_turn (h : Fin 8) (j : Fin 4) (n : ℕ) (hn : n < 32) : (h = tH n ∧ j = tJ n) ↔ 4 * h.val + j.val = n := by
  constructor
  · rintro ⟨rfl, rfl⟩; show 4 * (n / 4 % 8) + n % 4 = n; omega
  · rintro rfl; exact ⟨Fin.ext (by show h.val = (4 * h.val + j.val) / 4 % 8; omega), Fin.ext (by show j.val = (4 * h.val + j.val) % 4; omega)⟩

theorem corr_congr {q : QV Ideal} {kt : KV Ideal} {S S' : SV Ideal} {h : Fin 8} {j : Fin 4} {r : Fin 64} (e : S (ix4 h j r 0) = S' (ix4 h j r 0)) :
    corr q kt S h j r = corr q kt S' h j r := by unfold corr; rw [e]
theorem wgt_congr {q : QV Ideal} {kt : KV Ideal} {S S' : SV Ideal} {h : Fin 8} {j : Fin 4} {r : Fin 64} (e : S (ix4 h j r 0) = S' (ix4 h j r 0)) :
    wgt q kt S h j r = wgt q kt S' h j r := by unfold wgt; rw [e]

/-- After `n` trips the tiles before the `n`-th are new, the others as before. -/
theorem trips_at (q : QV Ideal) (kt : KV Ideal) (v : VV Ideal) (p : CV Ideal × SV Ideal) (h : Fin 8) (j : Fin 4) (r : Fin 64) :
    ∀ n, n ≤ 32 →
      (∀ d, (trips q kt v p n).1 (ix4 h j r d) = if 4 * h.val + j.val < n then
          p.1 (ix4 h j r d) * corr q kt p.2 h j r + ∑ k : Fin 1024, wgt q kt p.2 h j r k * v (ix4 h j k d) else p.1 (ix4 h j r d))
      ∧ ((trips q kt v p n).2 (ix4 h j r 0) = if 4 * h.val + j.val < n then mx (p.2 (ix4 h j r 0)) (sc q kt h j r) else p.2 (ix4 h j r 0))
      ∧ (trips q kt v p n).2 (ix4 h j r 1) = if 4 * h.val + j.val < n then
          p.2 (ix4 h j r 1) * corr q kt p.2 h j r + ∑ k : Fin 1024, wgt q kt p.2 h j r k else p.2 (ix4 h j r 1)
  | 0, _ => ⟨fun _ => (if_neg (Nat.not_lt_zero _)).symm, (if_neg (Nat.not_lt_zero _)).symm, (if_neg (Nat.not_lt_zero _)).symm⟩
  | n + 1, hn => by
    obtain ⟨hC, hM, hL⟩ := trips_at q kt v p h j r n (by omega)
    have ht := trip_turn h j n (by omega)
    rw [show trips q kt v p (n + 1) = trip q kt v n (trips q kt v p n) from rfl]
    generalize trips q kt v p n = p' at hC hM hL
    unfold trip
    by_cases e : 4 * h.val + j.val = n
    · have e' := ht.mpr e
      rw [if_neg (by omega)] at hM hL
      simp only [if_neg (show ¬ 4 * h.val + j.val < n by omega)] at hC
      refine ⟨fun d => ?_, ?_, ?_⟩
      · rw [if_pos (by omega)]
        refine (putC_at h _ j _ _ _ r d).trans ((if_pos e').trans ?_)
        rw [← e'.1, ← e'.2, cNew_at, corr_congr hM, wgt_congr hM, hC d]
      · rw [if_pos (by omega)]
        refine (putS_at h _ j _ 1 _ _ r 0).trans ((if_neg (fun H => absurd H.2.2 (by decide))).trans ?_)
        refine (putS_at h _ j _ 0 _ _ r 0).trans ((if_pos ⟨e'.1, e'.2, rfl⟩).trans ?_)
        rw [← e'.1, ← e'.2, mNew_at, hM]
      · rw [if_pos (by omega)]
        refine (putS_at h _ j _ 1 _ _ r 1).trans ((if_pos ⟨e'.1, e'.2, rfl⟩).trans ?_)
        rw [← e'.1, ← e'.2, lNew_at, corr_congr hM, wgt_congr hM, hL]
    · have e' : ¬ (h = tH n ∧ j = tJ n) := fun H => e (ht.mp H)
      have el : (4 * h.val + j.val < n + 1) ↔ (4 * h.val + j.val < n) := by omega
      simp only [el]
      refine ⟨fun d => ?_, ?_, ?_⟩
      · exact (putC_at h _ j _ _ _ r d).trans ((if_neg e').trans (hC d))
      · refine (putS_at h _ j _ 1 _ _ r 0).trans ((if_neg (fun H => e' ⟨H.1, H.2.1⟩)).trans ?_)
        exact (putS_at h _ j _ 0 _ _ r 0).trans ((if_neg (fun H => e' ⟨H.1, H.2.1⟩)).trans hM)
      · refine (putS_at h _ j _ 1 _ _ r 1).trans ((if_neg (fun H => e' ⟨H.1, H.2.1⟩)).trans ?_)
        exact (putS_at h _ j _ 0 _ _ r 1).trans ((if_neg (fun H => e' ⟨H.1, H.2.1⟩)).trans hL)

theorem hop_C (q : QV Ideal) (kt : KV Ideal) (v : VV Ideal) (p : CV Ideal × SV Ideal) (h : Fin 8) (j : Fin 4) (r : Fin 64) (d : Fin 128) :
    (hop q kt v p).1 (ix4 h j r d) = p.1 (ix4 h j r d) * corr q kt p.2 h j r + ∑ k : Fin 1024, wgt q kt p.2 h j r k * v (ix4 h j k d) :=
  ((trips_at q kt v p h j r 32 le_rfl).1 d).trans (if_pos (by omega))
theorem hop_M (q : QV Ideal) (kt : KV Ideal) (v : VV Ideal) (p : CV Ideal × SV Ideal) (h : Fin 8) (j : Fin 4) (r : Fin 64) :
    (hop q kt v p).2 (ix4 h j r 0) = mx (p.2 (ix4 h j r 0)) (sc q kt h j r) :=
  (trips_at q kt v p h j r 32 le_rfl).2.1.trans (if_pos (by omega))
theorem hop_L (q : QV Ideal) (kt : KV Ideal) (v : VV Ideal) (p : CV Ideal × SV Ideal) (h : Fin 8) (j : Fin 4) (r : Fin 64) :
    (hop q kt v p).2 (ix4 h j r 1) = p.2 (ix4 h j r 1) * corr q kt p.2 h j r + ∑ k : Fin 1024, wgt q kt p.2 h j r k :=
  (trips_at q kt v p h j r 32 le_rfl).2.2.trans (if_pos (by omega))

end Cert.RingProof
-- ==== Proof.Online.lean ====
/-
  The running softmax of one row as a statement about numbers: a maximum, a sum and a weighted sum carried over a sequence
  of key sets give, divided at the end, the softmax over all of them.
-/
module

public import proofs.«01_k».proof.Proof.Tile

@[expose] public section

noncomputable section

namespace Cert.RingProof

open Idealize.ShloMosaic

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative number distributes over a sum of extended reals. -/
theorem sum_mul_coe {ι : Type} (t : Finset ι) (f : ι → EReal) {r : ℝ} (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, ← ih,
      EReal.right_distrib_of_nonneg_of_ne_top (EReal.coe_nonneg.mpr hr) (EReal.coe_ne_top r)]

theorem mx_real (μ : ℝ) (s : Fin 1024 → ℝ) : ∃ ν : ℝ, mx (μ : EReal) (fun n => (s n : EReal)) = (ν : EReal) := by
  have h1 : mx (μ : EReal) (fun n => (s n : EReal)) ≠ ⊥ := fun h => EReal.coe_ne_bot μ (le_bot_iff.mp (h ▸ le_max_left _ _))
  have h2 : mx (μ : EReal) (fun n => (s n : EReal)) ≠ ⊤ :=
    (max_lt (EReal.coe_lt_top μ) ((Finset.sup_lt_iff bot_lt_top).mpr fun n _ => EReal.coe_lt_top (s n))).ne
  exact ⟨_, (EReal.coe_toReal h2 h1).symm⟩

theorem exp_sub_coe (a b : ℝ) : Ideal.exp ((a : EReal) - (b : EReal)) = ((Real.exp (a - b) : ℝ) : EReal) := by
  rw [← EReal.coe_sub]; rfl

/-- The weights of the first `k` key sets, relative to `μ`. -/
def zsum (s : ℕ → Fin 1024 → ℝ) (μ : ℝ) (k : ℕ) : ℝ := ∑ i ∈ Finset.range k, ∑ n : Fin 1024, Real.exp (s i n - μ)
def vsum (s : ℕ → Fin 1024 → ℝ) (v : ℕ → Fin 1024 → EReal) (μ : ℝ) (k : ℕ) : EReal :=
  ∑ i ∈ Finset.range k, ∑ n : Fin 1024, ((Real.exp (s i n - μ) : ℝ) : EReal) * v i n

theorem zsum_shift (s : ℕ → Fin 1024 → ℝ) (μ ν : ℝ) (k : ℕ) : zsum s μ k * Real.exp (μ - ν) = zsum s ν k := by
  unfold zsum
  rw [Finset.sum_mul]
  refine Finset.sum_congr rfl fun i _ => ?_
  rw [Finset.sum_mul]
  refine Finset.sum_congr rfl fun n _ => ?_
  rw [← Real.exp_add]; congr 1; ring

theorem vsum_shift (s : ℕ → Fin 1024 → ℝ) (v : ℕ → Fin 1024 → EReal) (μ ν : ℝ) (k : ℕ) :
    vsum s v μ k * ((Real.exp (μ - ν) : ℝ) : EReal) = vsum s v ν k := by
  unfold vsum
  rw [sum_mul_coe _ _ (Real.exp_pos _).le]
  refine Finset.sum_congr rfl fun i _ => ?_
  rw [sum_mul_coe _ _ (Real.exp_pos _).le]
  refine Finset.sum_congr rfl fun n _ => ?_
  rw [mul_assoc, mul_comm (v i n), ← mul_assoc, ← EReal.coe_mul, ← Real.exp_add]
  congr 3; ring

/-- What the three carried values are after `k` key sets. -/
theorem online (s : ℕ → Fin 1024 → ℝ) (v : ℕ → Fin 1024 → EReal) (M L C : ℕ → EReal) (μ₀ : ℝ) (hM0 : M 0 = (μ₀ : EReal)) (hL0 : L 0 = 0) (hC0 : C 0 = 0)
    (hM : ∀ k, M (k + 1) = mx (M k) fun n => (s k n : EReal))
    (hL : ∀ k, L (k + 1) = L k * Ideal.exp (M k - mx (M k) fun n => (s k n : EReal))
      + ∑ n : Fin 1024, Ideal.exp ((s k n : EReal) - mx (M k) fun n => (s k n : EReal)))
    (hC : ∀ k, C (k + 1) = C k * Ideal.exp (M k - mx (M k) fun n => (s k n : EReal))
      + ∑ n : Fin 1024, Ideal.exp ((s k n : EReal) - mx (M k) fun n => (s k n : EReal)) * v k n) :
    ∀ k, ∃ μ : ℝ, M k = (μ : EReal) ∧ L k = ((zsum s μ k : ℝ) : EReal) ∧ C k = vsum s v μ k
  | 0 => ⟨μ₀, hM0, by rw [hL0]; simp [zsum], by rw [hC0]; simp [vsum]⟩
  | k + 1 => by
    obtain ⟨μ, h1, h2, h3⟩ := online s v M L C μ₀ hM0 hL0 hC0 hM hL hC k
    obtain ⟨ν, hν⟩ := mx_real μ (s k)
    refine ⟨ν, by rw [hM, h1, hν], ?_, ?_⟩
    · rw [hL, h1, h2, hν]
      simp only [exp_sub_coe]
      rw [← EReal.coe_mul, zsum_shift, ← coe_sum, ← EReal.coe_add]
      unfold zsum
      rw [Finset.sum_range_succ]
    · rw [hC, h1, h3, hν]
      simp only [exp_sub_coe]
      rw [vsum_shift]
      unfold vsum
      rw [Finset.sum_range_succ]

/-- The divided sum is the softmax of the scores, weighted. -/
theorem online_div (s : ℕ → Fin 1024 → ℝ) (v : ℕ → Fin 1024 → EReal) (μ : ℝ) (k : ℕ) (hk : 0 < k) :
    Ideal.div (vsum s v μ k) ((zsum s μ k : ℝ) : EReal)
      = ∑ i ∈ Finset.range k, ∑ n : Fin 1024, ((Real.exp (s i n) / zsum s 0 k : ℝ) : EReal) * v i n := by
  have hz : ∀ ν, 0 < zsum s ν k := fun ν =>
    Finset.sum_pos (fun i _ => Finset.sum_pos (fun n _ => Real.exp_pos _) Finset.univ_nonempty) ⟨0, Finset.mem_range.mpr hk⟩
  rw [Ideal.div_coe (hz μ).ne']
  unfold vsum
  rw [sum_mul_coe _ _ (one_div_pos.mpr (hz μ)).le]
  refine Finset.sum_congr rfl fun i _ => ?_
  rw [sum_mul_coe _ _ (one_div_pos.mpr (hz μ)).le]
  refine Finset.sum_congr rfl fun n _ => ?_
  rw [mul_assoc, mul_comm (v i n), ← mul_assoc, ← EReal.coe_mul]
  congr 2
  have h0 := zsum_shift s 0 μ k
  rw [← h0, mul_one_div, zero_sub, Real.exp_sub, Real.exp_neg]
  have := hz 0
  have := Real.exp_pos μ
  field_simp

end Cert.RingProof
-- ==== Proof.Row.lean ====
/-
  What a device writes out, read at an index: the softmax of its queries' scores against every device's keys, weighted by
  the values.
-/
module

public import proofs.«01_k».proof.Proof.Online
public import proofs.«01_k».proof.Proof.Region

@[expose] public section

set_option maxRecDepth 16384

noncomputable section

namespace Cert.RingProof

open Cert.KernelIdeal Cert.KernelIdeal.Gen
open Idealize.ShloMosaic

/-! ## The first contents -/

theorem initQ_at (q : QV Ideal) (h : Fin 8) (j : Fin 4) (r : Fin 64) (k : Fin 128) : initQ q (ix4 h j r k) = q (ix4 h j r k) := by
  have e : (Fin.cons (⟨0, Nat.one_pos⟩ : Fin 1) (ix4 h j r k) : S1x8x4x64x128.Idx) = ix5 0 h j r k := by
    funext a
    match a with
    | 0 => rfl
    | 1 => rfl
    | 2 => rfl
    | 3 => rfl
    | 4 => rfl
  refine (congrArg (k0_pay74 q) e).trans ?_
  unfold k0_pay74
  pointwise

theorem initC_at (y : S8x4x64x128.Idx) : initC Ideal y = 0 := by
  unfold initC k0_pay75
  pointwise

theorem pay78_at (y : S1x8x4x64x1.Idx) : k0_pay78 (F := Ideal) y = 0 := by
  unfold k0_pay78
  pointwise

/-- The starting maximum is a number. -/
theorem low_real : ∃ μ : ℝ, Ideal.ofBits .f32 0xF149F2CA#32 = (μ : EReal) := by
  simp only [Ideal.ofBits, Ideal.ieee]
  exact ⟨_, rfl⟩

theorem pay77_at (y : S1x8x4x64x1.Idx) : k0_pay77 (F := Ideal) (k0_pay76 (F := Ideal)) y = Ideal.ofBits .f32 0xF149F2CA#32 := by
  unfold k0_pay77 k0_pay76
  pointwise

theorem initS_0 (h : Fin 8) (j : Fin 4) (r : Fin 64) : initS Ideal (ix4 h j r 0) = Ideal.ofBits .f32 0xF149F2CA#32 :=
  (if_pos rfl).trans (pay77_at _)
theorem initS_1 (h : Fin 8) (j : Fin 4) (r : Fin 64) : initS Ideal (ix4 h j r 1) = 0 :=
  (if_neg (by decide : ¬ (1 : Fin 2).val = 0)).trans (pay78_at _)

/-! ## Around the ring -/

/-- The device a slot is on at hop `k`, starting from `c`. -/
def at_ (c : Dev nD) (k : ℕ) : Dev nD := ⟨(c.val + k) % 8, Nat.mod_lt _ (by decide)⟩

theorem prv_at (c : Dev nD) (k : ℕ) : prv (at_ c (k + 1)) = at_ c k := Fin.ext (by show ((c.val + (k + 1)) % 8 + 7) % 8 = (c.val + k) % 8; omega)
theorem at_zero (c : Dev nD) : at_ c 0 = c := Fin.ext (by show (c.val + 0) % 8 = c.val; have : c.val < 8 := c.isLt; omega)
theorem at_eight (c : Dev nD) : at_ c 8 = c := Fin.ext (by show (c.val + 8) % 8 = c.val; have : c.val < 8 := c.isLt; omega)

theorem at_inj (c : Dev nD) {i k : ℕ} (hi : i < 8) (hk : k < 8) (h : at_ c i = at_ c k) : i = k := by
  have := congrArg Fin.val h; change (c.val + i) % 8 = (c.val + k) % 8 at this; omega

theorem sum_around {M : Type} [AddCommMonoid M] (c : Dev nD) (f : Dev nD → M) : ∑ i ∈ Finset.range 8, f (at_ c i) = ∑ e : Dev nD, f e := by
  refine Finset.sum_bij (fun i _ => at_ c i) (fun _ _ => Finset.mem_univ _)
    (fun i hi k hk h => at_inj c (Finset.mem_range.mp hi) (Finset.mem_range.mp hk) h) (fun e _ => ⟨(e.val + 8 - c.val) % 8, ?_, ?_⟩) (fun _ _ => rfl)
  · exact Finset.mem_range.mpr (Nat.mod_lt _ (by decide))
  · have h1 : c.val < 8 := c.isLt
    have h2 : e.val < 8 := e.isLt
    exact Fin.ext (by show (c.val + (e.val + 8 - c.val) % 8) % 8 = e.val; omega)

variable (A : Args Ideal)

theorem st_succ (c : Dev nD) (k : ℕ) : st A (k + 1) (at_ c (k + 1)) = step A (at_ c k) (st A k (at_ c k)) := by
  show step A (prv (at_ c (k + 1))) (st A k (prv (at_ c (k + 1)))) = _
  rw [prv_at]

theorem st_q (c : Dev nD) : ∀ k, (st A k (at_ c k)).1 = A.q0 c
  | 0 => by rw [at_zero]; rfl
  | k + 1 => by rw [st_succ]; exact st_q c k

/-- The final sums of a row, divided. -/
theorem row (hp : A.p0 = (initC Ideal, initS Ideal)) (c : Dev nD) (h : Fin 8) (j : Fin 4) (r : Fin 64) (d : Fin 128) (ρ : Dev nD → Fin 1024 → ℝ)
    (hρ : ∀ e n, sc (A.q0 c) (A.kt e) h j r n = (ρ e n : EReal)) :
    Ideal.div ((st A 8 c).2.1 (ix4 h j r d)) ((st A 8 c).2.2 (ix4 h j r 1))
      = ∑ e : Dev nD, ∑ n : Fin 1024, ((Real.exp (ρ e n) / ∑ e : Dev nD, ∑ n : Fin 1024, Real.exp (ρ e n) : ℝ) : EReal) * A.v e (ix4 h j n d) := by
  obtain ⟨μ₀, hμ₀⟩ := low_real
  have hs : ∀ k, sc (st A k (at_ c k)).1 (A.kt (at_ c k)) h j r = fun n => (ρ (at_ c k) n : EReal) := fun k => by
    funext n; rw [st_q, hρ]
  obtain ⟨μ, -, hL, hC⟩ := online (fun k => ρ (at_ c k)) (fun k n => A.v (at_ c k) (ix4 h j n d))
    (fun k => (st A k (at_ c k)).2.2 (ix4 h j r 0)) (fun k => (st A k (at_ c k)).2.2 (ix4 h j r 1)) (fun k => (st A k (at_ c k)).2.1 (ix4 h j r d)) μ₀
    (by show A.p0.2 _ = _; rw [hp, ← hμ₀]; exact initS_0 h j r) (by show A.p0.2 _ = _; rw [hp]; exact initS_1 h j r)
    (by show A.p0.1 _ = _; rw [hp]; exact initC_at (ix4 h j r d))
    (fun k => by simp only [st_succ, step, hop_M, hs])
    (fun k => by simp only [st_succ, step, hop_L, corr, wgt, hs])
    (fun k => by simp only [st_succ, step, hop_C, corr, wgt, hs]) 8
  simp only [at_eight] at hL hC
  rw [hL, hC, online_div _ _ _ _ (by decide)]
  have hz : zsum (fun k => ρ (at_ c k)) 0 8 = ∑ e : Dev nD, ∑ n : Fin 1024, Real.exp (ρ e n) := by
    unfold zsum
    simp only [sub_zero]
    exact sum_around c fun e => ∑ n : Fin 1024, Real.exp (ρ e n)
  rw [hz]
  exact sum_around c fun e => ∑ n : Fin 1024, ((Real.exp (ρ e n) / ∑ e : Dev nD, ∑ n : Fin 1024, Real.exp (ρ e n) : ℝ) : EReal) * A.v e (ix4 h j n d)

/-! ## What is written out -/

theorem pay79_at (C : Vec Ideal S1x1x1x64x128 .f32) (L : Vec Ideal S1x1x1x64x1 .f32) (r : Fin 64) (d : Fin 128) :
    k0_pay79 C L (ix2 r d) = Ideal.div (C (ix5 0 0 0 r d)) (L (ix5 0 0 0 r 0)) := by
  unfold k0_pay79
  pointwise

theorem pay1_at (W : Vec Ideal S256x1024 .f32) (Wo : Vec Ideal S1024x1024 .f32) (i : Fin 256) (k : Fin 1024) :
    k0_pay1 W Wo (ix3 0 i k) = ∑ u : Fin 1024, W (ix2 i u) * Wo (ix2 u k) := by
  unfold k0_pay1
  pointwise

theorem outW_at (C : CV Ideal) (S : SV Ideal) (i : Fin 256) (u : Fin 1024) :
    outW C S (ix2 i u) = Ideal.div
      (C (ix4 (⟨u.val / 128, by omega⟩ : Fin 8) (⟨i.val / 64, by omega⟩ : Fin 4) (⟨i.val % 64, by omega⟩ : Fin 64) (⟨u.val % 128, by omega⟩ : Fin 128)))
      (S (ix4 (⟨u.val / 128, by omega⟩ : Fin 8) (⟨i.val / 64, by omega⟩ : Fin 4) (⟨i.val % 64, by omega⟩ : Fin 64) (1 : Fin 2))) := by
  unfold outW
  rw [pay79_at, cTile_at, lTile_at]
  have e1 : (⟨(ix2 i u 1).val / 128 % 8, Nat.mod_lt _ (by decide)⟩ : Fin 8) = ⟨u.val / 128, by omega⟩ :=
    Fin.ext (by show u.val / 128 % 8 = u.val / 128; omega)
  have e2 : (⟨(ix2 i u 0).val / 64 % 4, Nat.mod_lt _ (by decide)⟩ : Fin 4) = ⟨i.val / 64, by omega⟩ :=
    Fin.ext (by show i.val / 64 % 4 = i.val / 64; omega)
  rw [e1, e2]
  rfl

end Cert.RingProof
-- ==== Proof.Host.lean ====
/-
  The kernel's operands, read at an index of the arguments: the queries as a product, the keys and the values rearranged.
-/
module

public import proofs.«01_k».proof.Proof.Region
public import Idealize.ShloMosaic.Lib.StableHlo.ReadAt
public import Idealize.ShloMosaic.Lib.Pointwise

@[expose] public section

set_option maxRecDepth 16384

noncomputable section

namespace Cert.RingProof

open Cert.KernelIdeal Cert.KernelIdeal.Gen
open Idealize.ShloMosaic
open Idealize.ShloMosaic.TcCoe

variable (m : (ℓ : Loc nD τ sig) → Buf (Elt Ideal) ℓ) (c : Dev nD)

/-- Device c's rows of x, the weights of the queries, its keys and its values, and the last weights. -/
abbrev aX : S1x256x1024.Idx → EReal := m (c, Proc.tc.devRef main_arg0)
abbrev aWq : S1024x1024.Idx → EReal := m (c, Proc.tc.devRef main_arg1)
abbrev aK : S1x4096x8x128.Idx → EReal := m (c, Proc.tc.devRef main_arg2)
abbrev aV : S1x4096x8x128.Idx → EReal := m (c, Proc.tc.devRef main_arg3)
abbrev aWo : S1024x1024.Idx → EReal := m (c, Proc.tc.devRef main_arg4)
/-- What the host lays out for the call: queries, keys, values. -/
abbrev hQ : S8x4x64x128.Idx → EReal := V m c main_v5
abbrev hK : S8x4x128x1024.Idx → EReal := V m c main_v14
abbrev hV : S8x4x1024x128.Idx → EReal := V m c main_v15

/-- The queries: row 64 j + r of the device's rows, head h of the projection. -/
theorem v5_at (h : Fin 8) (j : Fin 4) (r : Fin 64) (k : Fin 128) :
    hQ m c (ix4 h j r k)
      = ∑ x : Fin 1024, aX m c (ix3 0 ⟨j.val * 64 + r.val, by omega⟩ x)
          * aWq m c (ix2 x ⟨h.val * 128 + k.val, by omega⟩) := by
  unfold hQ V
  after_reads_at

/-- The keys: column n of stripe j is row (n / 64) 256 + 64 j + n % 64 of the device's rows. -/
theorem v14_at (h : Fin 8) (j : Fin 4) (k : Fin 128) (n : Fin 1024) :
    hK m c (ix4 h j k n)
      = aK m c
          (ix4 0 ⟨n.val / 64 * 256 + j.val * 64 + n.val % 64, by omega⟩ h k) := by
  unfold hK V
  after_reads_at

/-- The values, likewise. -/
theorem v15_at (h : Fin 8) (j : Fin 4) (n : Fin 1024) (k : Fin 128) :
    hV m c (ix4 h j n k)
      = aV m c
          (ix4 0 ⟨n.val / 64 * 256 + j.val * 64 + n.val % 64, by omega⟩ h k) := by
  unfold hV V
  after_reads_at

/-- The last weights are left as they are. -/
theorem arg4_at (u k : Fin 1024) : (V m c main_arg4 : S1024x1024.Idx → EReal) (ix2 u k) = aWo m c (ix2 u k) := by
  unfold V
  after_reads_at

end Cert.RingProof
-- ==== Proof.Softmax.lean ====
/-
  A row of softmax weights over masked scores, in the reals: the masked keys weigh nothing, and the largest score may be
  taken away or left.
-/
module

public import proofs.«01_k».proof.Proof.Online

@[expose] public section

noncomputable section

namespace Cert.RingProof

open Idealize.ShloMosaic

/-- The scores of a row, those of the keys outside `p` at −∞. -/
def masked {ι : Type} (p : ι → Prop) [DecidablePred p] (ρ : ι → ℝ) (g : ι) : EReal := if p g then (ρ g : EReal) else ⊥

variable {ι : Type} [Fintype ι] (p : ι → Prop) [DecidablePred p] (ρ : ι → ℝ)

theorem sup_masked (hp : ∃ g, p g) : ∃ μ : ℝ, Finset.univ.sup (masked p ρ) = (μ : EReal) := by
  obtain ⟨g, hg⟩ := hp
  have h1 : Finset.univ.sup (masked p ρ) ≠ ⊥ := fun h => by
    have h2 : masked p ρ g ≤ ⊥ := h ▸ Finset.le_sup (Finset.mem_univ g)
    rw [masked, if_pos hg] at h2
    exact EReal.coe_ne_bot _ (le_bot_iff.mp h2)
  have h2 : Finset.univ.sup (masked p ρ) ≠ ⊤ := by
    refine ((Finset.sup_lt_iff bot_lt_top).mpr fun n _ => ?_).ne
    unfold masked
    split
    · exact EReal.coe_lt_top _
    · exact bot_lt_top
  exact ⟨_, (EReal.coe_toReal h2 h1).symm⟩

theorem exp_masked (μ : ℝ) (g : ι) :
    Ideal.exp (masked p ρ g - (μ : EReal)) = (((if p g then Real.exp (ρ g - μ) else 0 : ℝ)) : EReal) := by
  unfold masked
  split
  · exact exp_sub_coe _ _
  · rw [EReal.bot_sub]
    rfl

/-- The weighted sum of a row. -/
theorem softmax_masked (hp : ∃ g, p g) (v : ι → EReal) (s : ι → EReal) (hs : ∀ g, s g = masked p ρ g) :
    ∑ g, v g * Ideal.div (Ideal.exp (s g - Finset.univ.sup s)) (∑ g, Ideal.exp (s g - Finset.univ.sup s))
      = ∑ g ∈ Finset.univ.filter p, ((Real.exp (ρ g) / ∑ g ∈ Finset.univ.filter p, Real.exp (ρ g) : ℝ) : EReal) * v g := by
  obtain rfl : s = masked p ρ := funext hs
  obtain ⟨μ, hμ⟩ := sup_masked p ρ hp
  rw [hμ]
  simp only [exp_masked]
  rw [← coe_sum, ← Finset.sum_filter, Finset.sum_filter (p := p) (f := fun g => ((Real.exp (ρ g) / _ : ℝ) : EReal) * v g)]
  have hpos : 0 < ∑ g ∈ Finset.univ.filter p, Real.exp (ρ g - μ) := by
    obtain ⟨g, hg⟩ := hp
    exact Finset.sum_pos (fun _ _ => Real.exp_pos _) ⟨g, Finset.mem_filter.2 ⟨Finset.mem_univ _, hg⟩⟩
  have hsum : ∑ g ∈ Finset.univ.filter p, Real.exp (ρ g - μ) = (∑ g ∈ Finset.univ.filter p, Real.exp (ρ g)) / Real.exp μ := by
    rw [Finset.sum_div]
    exact Finset.sum_congr rfl fun g _ => Real.exp_sub _ _
  refine Finset.sum_congr rfl fun g _ => ?_
  rw [Ideal.div_coe hpos.ne', ← EReal.coe_mul]
  split
  · rw [mul_comm]
    congr 2
    rw [hsum, Real.exp_sub]
    have := Real.exp_pos μ
    field_simp
  · rw [zero_mul, EReal.coe_zero, mul_zero]

/-! ## The keys of a stripe -/

/-- Key `n` of stripe `j` of device `e`'s keys, among all keys. -/
def key (e : Fin 8) (j : Fin 4) (n : Fin 1024) : Fin 32768 :=
  ⟨e.val * 4096 + (n.val / 64 * 256 + j.val * 64 + n.val % 64), by omega⟩

theorem sum_stripe {α : Type} [AddCommMonoid α] (j : Fin 4) (f : Fin 32768 → α) :
    ∑ g ∈ Finset.univ.filter (fun g : Fin 32768 => g.val / 64 % 4 = j.val), f g = ∑ e : Fin 8, ∑ n : Fin 1024, f (key e j n) := by
  rw [← Fintype.sum_prod_type' (f := fun e n => f (key e j n))]
  refine (Finset.sum_bij' (fun (x : Fin 8 × Fin 1024) _ => key x.1 j x.2)
    (fun (g : Fin 32768) _ => ((⟨g.val / 4096, by omega⟩ : Fin 8), (⟨g.val % 4096 / 256 * 64 + g.val % 64, by omega⟩ : Fin 1024))) ?_ ?_ ?_ ?_ ?_).symm
  · rintro ⟨e, n⟩ _
    rw [Finset.mem_filter]
    refine ⟨Finset.mem_univ _, ?_⟩
    show (e.val * 4096 + (n.val / 64 * 256 + j.val * 64 + n.val % 64)) / 64 % 4 = j.val
    omega
  · intro g _
    exact Finset.mem_univ _
  · rintro ⟨e, n⟩ _
    refine Prod.ext (Fin.ext ?_) (Fin.ext ?_)
    · show (e.val * 4096 + (n.val / 64 * 256 + j.val * 64 + n.val % 64)) / 4096 = e.val
      omega
    · show (e.val * 4096 + (n.val / 64 * 256 + j.val * 64 + n.val % 64)) % 4096 / 256 * 64
        + (e.val * 4096 + (n.val / 64 * 256 + j.val * 64 + n.val % 64)) % 64 = n.val
      omega
  · intro g hg
    have hg := (Finset.mem_filter.1 hg).2
    refine Fin.ext ?_
    show g.val / 4096 * 4096 + ((g.val % 4096 / 256 * 64 + g.val % 64) / 64 * 256 + j.val * 64 + (g.val % 4096 / 256 * 64 + g.val % 64) % 64) = g.val
    omega
  · intro x _
    rfl

end Cert.RingProof
-- ==== Proof.RefMask.lean ====
/-
  The reference's mask: query row a and key row g meet when their blocks of 64 rows agree mod 4.
-/
module

public import proofs.«01_k».proof.Proof.Gen.ReferenceIdeal.Run
public import Idealize.ShloMosaic.Lib.Pointwise
public import Idealize.ShloMosaic.Lib.Routing.OpsSearch

@[expose] public section

set_option maxRecDepth 16384

noncomputable section

namespace Cert.RingRef

open Cert.ReferenceIdeal Cert.ReferenceIdeal.Gen
open Idealize.ShloMosaic
open Idealize.ShloMosaic.Routing Idealize.ShloMosaic.WordCmp

/-- An array of words divided by 64 and rounded down, as it is printed. -/
def flr {s : Shape} (hb : S_.BroadcastsInDim s (![] : Fin 0 → Fin s.rank)) (x : IVec s 32) : IVec s 32 :=
  select (andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32)))
    (Host.divsi x (broadcastInDim s ![] hb (id (constantI S_ 32 64#32))))

/-- The divisor 4, as it is printed. -/
def four : IVec S_ 32 :=
  select (cmpi .eq (id (constantI S_ 32 4#32)) (constantI S_ 32 0#32)) (constantI S_ 32 1#32) (id (constantI S_ 32 4#32))

/-- An array of words mod 4, as it is printed. -/
def res4 {s : Shape} (hb : S_.BroadcastsInDim s (![] : Fin 0 → Fin s.rank)) (x : IVec s 32) : IVec s 32 :=
  select (andi (cmpi .ne (cmpi .slt (Host.remsi x (broadcastInDim s ![] hb four)) (broadcastInDim s ![] hb (constantI S_ 32 0#32)))
        (broadcastInDim s ![] hb (cmpi .slt four (constantI S_ 32 0#32))))
      (cmpi .ne (Host.remsi x (broadcastInDim s ![] hb four)) (broadcastInDim s ![] hb (constantI S_ 32 0#32))))
    (addi (Host.remsi x (broadcastInDim s ![] hb four)) (broadcastInDim s ![] hb four))
    (Host.remsi x (broadcastInDim s ![] hb four))

theorem four_eq : four = fun _ => 4#32 := by
  funext i
  rfl

theorem bc0 {α : Type} {s : Shape} (hb : S_.BroadcastsInDim s (![] : Fin 0 → Fin s.rank)) (a : α) (i : s.Idx) :
    broadcastInDim s (![] : Fin 0 → Fin s.rank) hb (fun _ : S_.Idx => a) i = a := rfl

theorem flr_at {s : Shape} (hb : S_.BroadcastsInDim s (![] : Fin 0 → Fin s.rank)) (x : IVec s 32) (i : s.Idx) {a : ℕ}
    (hx : x i = BitVec.ofNat 32 a) (ha : a < 2 ^ 31) : flr hb x i = BitVec.ofNat 32 (a / 64) := by
  have e64 : id (constantI S_ 32 64#32) = fun _ => BitVec.ofNat 32 64 := rfl
  have s64 : signi (fun _ : S_.Idx => BitVec.ofNat 32 64) = fun _ => 1 := by
    funext i
    rw [signi_apply]
    decide
  have e0 : constantI S_ 32 0#32 = fun _ => 0#32 := rfl
  have e1 : constantI S_ 32 1#32 = fun _ => 1#32 := rfl
  unfold flr
  rw [e64, s64, e0, e1]
  simp only [select_at, cmpi_at, andi_at, subi_ap, Host.remsi_apply, Host.divsi_apply, signi_apply, constantI_at, hx, bc0,
    remsi_word .host ha (show 0 < 64 by norm_num) (show 64 < 2 ^ 31 by norm_num),
    divsi_word .host ha (show 0 < 64 by norm_num) (show 64 < 2 ^ 31 by norm_num), msb_ofNat32 ha]
  rcases Nat.eq_zero_or_pos a with h | h
  · subst h
    decide
  · rw [if_neg (ofNat32_ne_zero h (show a < 2 ^ 32 by omega))]
    simp only [Bool.false_eq_true, if_false]
    have e : IntOp.cmpi .ne (1 : BitVec 32) 1 = 0#1 := by decide
    rw [e]
    show Scalar.select (0#1 &&& _) _ _ = _
    rw [BitVec.zero_and]
    rfl

theorem res4_at {s : Shape} (hb : S_.BroadcastsInDim s (![] : Fin 0 → Fin s.rank)) (x : IVec s 32) (i : s.Idx) {a : ℕ}
    (hx : x i = BitVec.ofNat 32 a) (ha : a < 2 ^ 31) : res4 hb x i = BitVec.ofNat 32 (a % 4) := by
  have e4 : four = fun _ => BitVec.ofNat 32 4 := four_eq
  have c4 : cmpi .slt (fun _ => BitVec.ofNat 32 4) (constantI S_ 32 0#32) = fun _ => 0#1 := by
    rfl
  have e0 : constantI S_ 32 0#32 = fun _ => 0#32 := rfl
  unfold res4
  rw [e4, c4]
  rw [e0]
  simp only [select_at, cmpi_at, andi_at, addi_ap, Host.remsi_apply, hx, bc0,
    remsi_word .host ha (show 0 < 4 by norm_num) (show 4 < 2 ^ 31 by norm_num)]
  have h4 : a % 4 < 4 := Nat.mod_lt _ (by norm_num)
  generalize a % 4 = b at h4
  revert h4
  revert b
  decide

/-! ## The blocks and the mask -/

def qb : IVec S2048x1 32 := broadcastInDim S2048x1 ![0] bcast_S2048_S2048x1_0 (flr bcast_S_S2048 (iotaInDim S2048 32 0))
def kb : IVec S1x32768 32 := broadcastInDim S1x32768 ![1] bcast_S32768_S1x32768_1 (flr bcast_S_S32768 (iotaInDim S32768 32 0))

/-- The mask, as it is printed. -/
def mask : IVec S2048x32768 1 :=
  ori (cmpi .eq (broadcastInDim S2048x32768 ![0, 1] bcast_S2048x1_S2048x32768_0_1 qb) (broadcastInDim S2048x32768 ![0, 1] bcast_S1x32768_S2048x32768_0_1 kb))
    (cmpi .eq (broadcastInDim S2048x32768 ![0, 1] bcast_S1x32768_S2048x32768_0_1 (res4 bcast_S_S1x32768 kb))
      (broadcastInDim S2048x32768 ![0, 1] bcast_S2048x1_S2048x32768_0_1 (res4 bcast_S_S2048x1 qb)))

theorem qb_at (a : Fin 2048) : qb (ix2 a 0) = BitVec.ofNat 32 (a.val / 64) := by
  have h : qb (ix2 a 0) = flr bcast_S_S2048 (iotaInDim S2048 32 0) (ix1 a) := by
    unfold qb
    pointwise
  rw [h]
  refine flr_at bcast_S_S2048 _ (ix1 a) (a := a.val) ?_ (by omega)
  pointwise

theorem kb_at (g : Fin 32768) : kb (ix2 0 g) = BitVec.ofNat 32 (g.val / 64) := by
  have h : kb (ix2 0 g) = flr bcast_S_S32768 (iotaInDim S32768 32 0) (ix1 g) := by
    unfold kb
    pointwise
  rw [h]
  refine flr_at bcast_S_S32768 _ (ix1 g) (a := g.val) ?_ (by omega)
  pointwise

theorem ofNat_eq {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl
    rfl

theorem mask_at (a : Fin 2048) (g : Fin 32768) :
    mask (ix2 a g) = if g.val / 64 % 4 = a.val / 64 % 4 then 1#1 else 0#1 := by
  have h1 : mask (ix2 a g) = IntOp.cmpi .eq (qb (ix2 a 0)) (kb (ix2 0 g))
      ||| IntOp.cmpi .eq (res4 bcast_S_S1x32768 kb (ix2 0 g)) (res4 bcast_S_S2048x1 qb (ix2 a 0)) := by
    unfold mask
    pointwise
    rfl
  rw [h1, res4_at _ _ _ (kb_at g) (by omega), res4_at _ _ _ (qb_at a) (by omega), qb_at, kb_at]
  have hg := g.isLt
  have ha := a.isLt
  have ce : ∀ x y : ℕ, x < 2 ^ 32 → y < 2 ^ 32 →
      IntOp.cmpi .eq (BitVec.ofNat 32 x) (BitVec.ofNat 32 y) = if x = y then 1#1 else 0#1 := by
    intro x y hx hy
    by_cases h : x = y
    · subst h
      simp [IntOp.cmpi]
    · have : ¬ BitVec.ofNat 32 x = BitVec.ofNat 32 y := fun e => h ((ofNat_eq hx hy).1 e)
      rw [if_neg h]
      show BitVec.ofBool (BitVec.ofNat 32 x == BitVec.ofNat 32 y) = 0#1
      rw [beq_eq_false_iff_ne.2 this]
      rfl
  rw [ce _ _ (by omega) (by omega), ce _ _ (by omega) (by omega)]
  by_cases h : g.val / 64 % 4 = a.val / 64 % 4
  · rw [if_pos h]
    split <;> rfl
  · rw [if_neg h, if_neg (fun e => h (by rw [e]))]
    rfl

end Cert.RingRef
-- ==== Proof.RefValue.lean ====
/-
  The reference's result, read at an index, piece by piece.
-/
module

public import proofs.«01_k».proof.Proof.RefMask
public import Idealize.ShloMosaic.Lib.ReduceAll

@[expose] public section

set_option maxRecDepth 16384

noncomputable section

namespace Cert.RingRef

open Cert.ReferenceIdeal Cert.ReferenceIdeal.Gen
open Idealize.ShloMosaic Idealize.ShloMosaic.TcCoe

/-! ## The pieces, as they are printed -/

/-- The scores, before the mask. -/
def sco (X : FVec Ideal S1x2048x1024 .f32) (Wq : FVec Ideal S1024x1024 .f32) (K : FVec Ideal S1x32768x8x128 .f32) :
    FVec Ideal S1x8x2048x32768 .f32 :=
  mulf (Host.dotGeneral dot_S1x2048x8x128_S1x32768x8x128_S1x8x2048x32768_3_3_1_1_02_02 none
      (shapeCast _ (Host.dotGeneral dot_S1x2048x1024_S1024x1024_S1x2048x1024_2_0_01_1_n_n none X Wq) shapeCasts_S1x2048x1024_S1x2048x8x128) K)
    (broadcastInDim S1x8x2048x32768 ![] bcast_S_S1x8x2048x32768 (constant S_ .f32 0x3DB504F3#32))

/-- The scores, masked. -/
def msc (M : IVec S2048x32768 1) (s : FVec Ideal S1x8x2048x32768 .f32) : FVec Ideal S1x8x2048x32768 .f32 :=
  select (broadcastInDim S1x8x2048x32768 ![0, 1, 2, 3] bcast_S1x1x2048x32768_S1x8x2048x32768_0_1_2_3
      (broadcastInDim S1x1x2048x32768 ![2, 3] bcast_S2048x32768_S1x1x2048x32768_2_3 M)) s
    (broadcastInDim S1x8x2048x32768 ![] bcast_S_S1x8x2048x32768 (id (constant S_ .f32 0xFF800000#32)))

/-- The exponentials of the scores, each row's largest taken away. -/
def wex (s : FVec Ideal S1x8x2048x32768 .f32) : FVec Ideal S1x8x2048x32768 .f32 :=
  Host.exp (subf s (broadcastInDim S1x8x2048x32768 ![0, 1, 2, 3] bcast_S1x8x2048x1_S1x8x2048x32768_0_1_2_3
    (broadcastInDim S1x8x2048x1 ![0, 1, 2] bcast_S1x8x2048_S1x8x2048x1_0_1_2
      (Host.reduce FloatOps.maximumf s (constant S_ .f32 0xFF800000#32) reducesTo_S1x8x2048x32768_S1x8x2048_d3 h_S_))))

/-- The rows that keep a key at all. -/
def keep (M : IVec S2048x32768 1) : IVec S2048 1 :=
  Host.reduce IntOp.ori M (constantI S_ 1 0#1) reducesTo_S2048x32768_S2048_d1 h_S_

/-- The sums of the rows. -/
def den (k : IVec S2048 1) (w : FVec Ideal S1x8x2048x32768 .f32) : FVec Ideal S1x8x2048x1 .f32 :=
  select (broadcastInDim S1x8x2048x1 ![0, 1, 2, 3] bcast_S1x1x2048x1_S1x8x2048x1_0_1_2_3 (broadcastInDim S1x1x2048x1 ![2] bcast_S2048_S1x1x2048x1_2 k))
    (broadcastInDim S1x8x2048x1 ![0, 1, 2] bcast_S1x8x2048_S1x8x2048x1_0_1_2
      (Host.reduceAdd w (constant S_ .f32 0x00000000#32) reducesTo_S1x8x2048x32768_S1x8x2048_d3 h_S_))
    (broadcastInDim S1x8x2048x1 ![] bcast_S_S1x8x2048x1 (id (constant S_ .f32 0x3F800000#32)))

/-- The weights. -/
def att (k : IVec S2048 1) (w : FVec Ideal S1x8x2048x32768 .f32) (d : FVec Ideal S1x8x2048x1 .f32) : FVec Ideal S1x8x2048x32768 .f32 :=
  select (broadcastInDim S1x8x2048x32768 ![0, 1, 2, 3] bcast_S1x1x2048x1_S1x8x2048x32768_0_1_2_3 (broadcastInDim S1x1x2048x1 ![2] bcast_S2048_S1x1x2048x1_2 k))
    (Host.divf w (broadcastInDim S1x8x2048x32768 ![0, 1, 2, 3] bcast_S1x8x2048x1_S1x8x2048x32768_0_1_2_3 d))
    (broadcastInDim S1x8x2048x32768 ![] bcast_S_S1x8x2048x32768 (id (constant S_ .f32 0x00000000#32)))

/-- The values, weighted. -/
def ctx (V : FVec Ideal S1x32768x8x128 .f32) (w : FVec Ideal S1x8x2048x32768 .f32) : FVec Ideal S1x8x128x2048 .f32 :=
  Host.dotGeneral dot_S1x32768x8x128_S1x8x2048x32768_S1x8x128x2048_1_3_3_2_02_01 none V w

/-- The last product. -/
def fin (x : FVec Ideal S1x8x128x2048 .f32) (Wo : FVec Ideal S1024x1024 .f32) : FVec Ideal S1x2048x1024 .f32 :=
  Host.dotGeneral dot_S1x2048x1024_S1024x1024_S1x2048x1024_2_0_01_1_n_n none
    (shapeCast _ (transpose S1x2048x8x128 [0, 3, 1, 2] x transposes_S1x8x128x2048_S1x2048x8x128_0_3_1_2) shapeCasts_S1x2048x8x128_S1x2048x1024) Wo

/-- All of it. -/
def whole (X : FVec Ideal S1x2048x1024 .f32) (Wq : FVec Ideal S1024x1024 .f32) (K V : FVec Ideal S1x32768x8x128 .f32)
    (Wo : FVec Ideal S1024x1024 .f32) : FVec Ideal S1x2048x1024 .f32 :=
  fin (ctx V (att (keep mask) (wex (msc mask (sco X Wq K))) (den (keep mask) (wex (msc mask (sco X Wq K)))))) Wo

theorem res_whole (m : (ℓ : Loc nD τ sig) → Buf (Elt Ideal) ℓ) (c : Dev nD) :
    Value.res_main_v39 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The pieces at an index -/

theorem ofBits_bot : Ideal.ofBits FTy.f32 0xFF800000#32 = (⊥ : EReal) := by
  simp [Ideal.ofBits, Ideal.ieee]

/-- A fold by `or` that starts from 1, or meets a 1, ends at 1. -/
theorem foldl_ori {ι : Type} (f : ι → BitVec 1) : ∀ (l : List ι) (b : BitVec 1), (b = 1#1 ∨ ∃ i ∈ l, f i = 1#1) →
    l.foldl (fun b i => IntOp.ori b (f i)) b = 1#1
  | [], b, h => by simpa using h
  | i :: l, b, h => by
      refine foldl_ori f l _ ?_
      rcases h with h | ⟨k, hk, e⟩
      · exact .inl (by show IntOp.ori b (f i) = 1#1; rw [h]; generalize f i = z; revert z; decide)
      · rcases List.mem_cons.1 hk with rfl | hk
        · exact .inl (by show IntOp.ori b (f k) = 1#1; rw [e]; clear e hk; revert b; decide)
        · exact .inr ⟨k, hk, e⟩

/-- Every query row keeps a key. -/
theorem keep_at (a : Fin 2048) : keep mask (ix1 a) = 1#1 := by
  unfold keep
  rw [Host.reduce_eq_foldl]
  refine foldl_ori mask _ _ (.inr ⟨ix2 a ⟨a.val / 64 % 4 * 64, by omega⟩, ?_, ?_⟩)
  · rw [List.mem_filter]
    exact ⟨List.mem_map.2 ⟨S2048x32768.rowMajor _, List.mem_finRange _, Equiv.symm_apply_apply _ _⟩, by
      rw [decide_eq_true_eq]
      funext x
      match x with
      | 0 => rfl⟩
  · rw [mask_at, if_pos]
    show a.val / 64 % 4 * 64 / 64 % 4 = _
    omega

theorem sco_at (X : FVec Ideal S1x2048x1024 .f32) (Wq : FVec Ideal S1024x1024 .f32) (K : FVec Ideal S1x32768x8x128 .f32)
    (h : Fin 8) (a : Fin 2048) (g : Fin 32768) : sco X Wq K (ix4 0 h a g)
      = (∑ x : Fin 128, (∑ y : Fin 1024, X (ix3 0 a y) * Wq (ix2 y ⟨h.val * 128 + x.val, by omega⟩)) * K (ix4 0 g h x)) * Ideal.ofBits FTy.f32 0x3DB504F3#32 := by
  unfold sco
  pointwise

theorem msc_at (M : IVec S2048x32768 1) (s : FVec Ideal S1x8x2048x32768 .f32)
    (h : Fin 8) (a : Fin 2048) (g : Fin 32768) : msc M s (ix4 0 h a g)
      = if M (ix2 a g) = 1#1 then s (ix4 0 h a g) else ⊥ := by
  unfold msc
  pointwise
  have e : id (constant (F := Ideal) S_ FTy.f32 0xFF800000#32) ix0 = (⊥ : EReal) := ofBits_bot
  rw [e]
  unfold Scalar.select
  rfl

theorem wex_at (s : FVec Ideal S1x8x2048x32768 .f32)
    (h : Fin 8) (a : Fin 2048) (g : Fin 32768) : wex s (ix4 0 h a g)
      = Ideal.exp (s (ix4 0 h a g) - Finset.univ.sup fun x => s (ix4 0 h a x)) := by
  unfold wex
  pointwise
  rw [show Ideal.ofBits FTy.f32 0xFF800000#32 = (⊥ : EReal) from ofBits_bot]
  rfl

theorem den_at (k : IVec S2048 1) (w : FVec Ideal S1x8x2048x32768 .f32)
    (h : Fin 8) (a : Fin 2048) (hk : k (ix1 a) = 1#1) : den k w (ix4 0 h a 0)
      = ∑ x, w (ix4 0 h a x) := by
  unfold den
  pointwise
  rw [hk]
  rfl

theorem att_at (k : IVec S2048 1) (w : FVec Ideal S1x8x2048x32768 .f32) (d : FVec Ideal S1x8x2048x1 .f32)
    (h : Fin 8) (a : Fin 2048) (g : Fin 32768) (hk : k (ix1 a) = 1#1) : att k w d (ix4 0 h a g)
      = Ideal.div (w (ix4 0 h a g)) (d (ix4 0 h a 0)) := by
  unfold att
  pointwise
  rw [hk]
  rfl

theorem ctx_at (V : FVec Ideal S1x32768x8x128 .f32) (w : FVec Ideal S1x8x2048x32768 .f32)
    (h : Fin 8) (d : Fin 128) (a : Fin 2048) : ctx V w (ix4 0 h d a)
      = ∑ g : Fin 32768, V (ix4 0 g h d) * w (ix4 0 h a g) := by
  unfold ctx
  pointwise

theorem fin_at (x : FVec Ideal S1x8x128x2048 .f32) (Wo : FVec Ideal S1024x1024 .f32)
    (a : Fin 2048) (k : Fin 1024) : fin x Wo (ix3 0 a k)
      = ∑ u : Fin 1024, x (ix4 0 ⟨u.val / 128, by omega⟩ ⟨u.val % 128, by omega⟩ a) * Wo (ix2 u k) := by
  unfold fin
  pointwise

end Cert.RingRef
-- ==== Proof.Equal.lean ====
/-
  The equation of values: what device c writes out is its block of the reference's result.
-/
module

public import proofs.«01_k».proof.Proof.Row
public import proofs.«01_k».proof.Proof.Host
public import proofs.«01_k».proof.Proof.Softmax
public import proofs.«01_k».proof.Proof.RefValue
public import Idealize.ShloMosaic.Lib.LayoutAt

@[expose] public section

set_option maxRecDepth 16384

noncomputable section

namespace Cert.RingProof

open Idealize.ShloMosaic

abbrev AX := FVec Ideal ⟨3, ![1, 2048, 1024]⟩ .f32
abbrev AW := FVec Ideal ⟨2, ![1024, 1024]⟩ .f32
abbrev AK := FVec Ideal ⟨4, ![1, 32768, 8, 128]⟩ .f32

/-- The stripe that a query row belongs to. -/
def stripe (a : Fin 2048) : Fin 4 := ⟨a.val / 64 % 4, Nat.mod_lt _ (by norm_num)⟩

/-- A row of the reference's context, where the scores are the numbers `ρ`. -/
theorem ctx_row (X : AX) (Wq : AW) (K V : AK) (h : Fin 8) (d : Fin 128) (a : Fin 2048) (ρ : Fin 32768 → ℝ)
    (hρ : ∀ g, RingRef.sco X Wq K (ix4 0 h a g) = (ρ g : EReal)) :
    ∑ g : Fin 32768, V (ix4 0 g h d) * RingRef.att (RingRef.keep RingRef.mask) (RingRef.wex (RingRef.msc RingRef.mask (RingRef.sco X Wq K)))
        (RingRef.den (RingRef.keep RingRef.mask) (RingRef.wex (RingRef.msc RingRef.mask (RingRef.sco X Wq K)))) (ix4 0 h a g)
      = ∑ e : Fin 8, ∑ n : Fin 1024, ((Real.exp (ρ (key e (stripe a) n)) / ∑ e : Fin 8, ∑ n : Fin 1024, Real.exp (ρ (key e (stripe a) n)) : ℝ) : EReal)
          * V (ix4 0 (key e (stripe a) n) h d) := by
  have hs : ∀ g, RingRef.msc RingRef.mask (RingRef.sco X Wq K) (ix4 0 h a g) = masked (fun g : Fin 32768 => g.val / 64 % 4 = (stripe a).val) ρ g := by
    intro g
    rw [RingRef.msc_at, RingRef.mask_at, hρ]
    unfold masked stripe
    by_cases e : g.val / 64 % 4 = a.val / 64 % 4
    · rw [if_pos e, if_pos e, if_pos rfl]
    · rw [if_neg e, if_neg e, if_neg (by decide)]
  have hw := softmax_masked (fun g : Fin 32768 => g.val / 64 % 4 = (stripe a).val) ρ
    ⟨⟨(stripe a).val * 64, by omega⟩, by show (stripe a).val * 64 / 64 % 4 = _; omega⟩
    (fun g => V (ix4 0 g h d)) (fun g => RingRef.msc RingRef.mask (RingRef.sco X Wq K) (ix4 0 h a g)) hs
  rw [sum_stripe, sum_stripe] at hw
  refine Eq.trans (Finset.sum_congr rfl fun g _ => ?_) hw
  rw [RingRef.att_at _ _ _ _ _ _ (RingRef.keep_at a), RingRef.den_at _ _ _ _ (RingRef.keep_at a)]
  simp only [RingRef.wex_at]

/-- The reference's result at an index. -/
theorem whole_at (X : AX) (Wq : AW) (K V : AK) (Wo : AW) (a : Fin 2048) (k : Fin 1024) (ρ : Fin 8 → Fin 32768 → ℝ)
    (hρ : ∀ h g, RingRef.sco X Wq K (ix4 0 h a g) = (ρ h g : EReal)) :
    RingRef.whole X Wq K V Wo (ix3 0 a k)
      = ∑ u : Fin 1024, (∑ e : Fin 8, ∑ n : Fin 1024,
          ((Real.exp (ρ ⟨u.val / 128, by omega⟩ (key e (stripe a) n))
            / ∑ e : Fin 8, ∑ n : Fin 1024, Real.exp (ρ ⟨u.val / 128, by omega⟩ (key e (stripe a) n)) : ℝ) : EReal)
          * V (ix4 0 (key e (stripe a) n) ⟨u.val / 128, by omega⟩ ⟨u.val % 128, by omega⟩)) * Wo (ix2 u k) := by
  unfold RingRef.whole
  rw [RingRef.fin_at]
  refine Finset.sum_congr rfl fun u _ => congrArg (· * Wo (ix2 u k)) ?_
  rw [RingRef.ctx_at]
  exact ctx_row X Wq K V _ _ a _ (hρ _)

/-! ## The kernel -/

section Kernel

open Cert.KernelIdeal (nD τ sig)

variable (m : (ℓ : Loc nD τ sig) → Buf (Elt Ideal) ℓ)

/-- Query row i of device c, among all rows. -/
def qrow (c : Fin 8) (i : Fin 256) : Fin 2048 := ⟨c.val * 256 + i.val, by omega⟩
/-- Key row i of device e, among all rows. -/
def krow (e : Fin 8) (i : Fin 4096) : Fin 32768 := ⟨e.val * 4096 + i.val, by omega⟩

/-- Every device's arguments are its blocks of the reference's. -/
structure Blocks (X : AX) (Wq : AW) (K V : AK) (Wo : AW) : Prop where
  x : ∀ (c : Fin 8) (i : Fin 256) (k : Fin 1024), aX m c (ix3 0 i k) = X (ix3 0 (qrow c i) k)
  wq : ∀ c, aWq m c = Wq
  k : ∀ (c : Fin 8) (i : Fin 4096) (h : Fin 8) (d : Fin 128), aK m c (ix4 0 i h d) = K (ix4 0 (krow c i) h d)
  v : ∀ (c : Fin 8) (i : Fin 4096) (h : Fin 8) (d : Fin 128), aV m c (ix4 0 i h d) = V (ix4 0 (krow c i) h d)
  wo : ∀ c, aWo m c = Wo

variable {m} {X : AX} {Wq : AW} {K V : AK} {Wo : AW}

/-- The kernel's scores are the reference's. -/
theorem Blocks.score (B : Blocks m X Wq K V Wo) (c e : Fin 8) (h : Fin 8) (i : Fin 256) (n : Fin 1024) :
    sc ((argsOf m).q0 c) ((argsOf m).kt e) h ⟨i.val / 64, by omega⟩ ⟨i.val % 64, by omega⟩ n
      = RingRef.sco X Wq K (ix4 0 h (qrow c i) (key e (stripe (qrow c i)) n)) := by
  rw [RingRef.sco_at]
  unfold sc
  refine congrArg (· * scl) (Finset.sum_congr rfl fun k _ => ?_)
  have hq : (argsOf m).q0 c (ix4 h ⟨i.val / 64, by omega⟩ ⟨i.val % 64, by omega⟩ k)
      = ∑ y : Fin 1024, X (ix3 0 (qrow c i) y) * Wq (ix2 y ⟨h.val * 128 + k.val, by omega⟩) := by
    refine (initQ_at _ _ _ _ _).trans ((v5_at m c h ⟨i.val / 64, by omega⟩ ⟨i.val % 64, by omega⟩ k).trans ?_)
    refine Finset.sum_congr rfl fun y _ => ?_
    rw [B.wq, ← B.x]
    refine congrArg (fun z => aX m c (ix3 0 z y) * _) (Fin.ext ?_)
    show i.val / 64 * 64 + i.val % 64 = i.val
    omega
  have hk : (argsOf m).kt e (ix4 h ⟨i.val / 64, by omega⟩ k n) = K (ix4 0 (key e (stripe (qrow c i)) n) h k) := by
    refine (v14_at m e h ⟨i.val / 64, by omega⟩ k n).trans ((B.k _ _ _ _).trans ?_)
    refine congrArg (fun z => K (ix4 0 z h k)) (Fin.ext ?_)
    show e.val * 4096 + (n.val / 64 * 256 + i.val / 64 * 64 + n.val % 64)
      = e.val * 4096 + (n.val / 64 * 256 + (c.val * 256 + i.val) / 64 % 4 * 64 + n.val % 64)
    omega
  rw [hq, hk]

/-- What device c writes out, at an index. -/
theorem Blocks.out (B : Blocks m X Wq K V Wo) (c : Fin 8) (i : Fin 256) (k : Fin 1024) (ρ : Fin 8 → Fin 32768 → ℝ)
    (hρ : ∀ h g, RingRef.sco X Wq K (ix4 0 h (qrow c i) g) = (ρ h g : EReal)) :
    outOf m c (ix3 0 i k) = RingRef.whole X Wq K V Wo (ix3 0 (qrow c i) k) := by
  rw [whole_at X Wq K V Wo _ k ρ hρ]
  refine (pay1_at _ _ i k).trans (Finset.sum_congr rfl fun u _ => ?_)
  have hw : (Cert.KernelIdeal.Gen.V m c Cert.KernelIdeal.main_arg4 : AW) (ix2 u k) = Wo (ix2 u k) := by
    rw [← B.wo c]
    exact arg4_at m c u k
  have hv : ∀ (e : Fin 8) (n : Fin 1024) (h : Fin 8) (d : Fin 128),
      (argsOf m).v e (ix4 h ⟨i.val / 64, by omega⟩ n d) = V (ix4 0 (key e (stripe (qrow c i)) n) h d) := fun e n h d => by
    refine (v15_at m e h ⟨i.val / 64, by omega⟩ n d).trans ((B.v _ _ _ _).trans ?_)
    refine congrArg (fun z => V (ix4 0 z h d)) (Fin.ext ?_)
    show e.val * 4096 + (n.val / 64 * 256 + i.val / 64 * 64 + n.val % 64)
      = e.val * 4096 + (n.val / 64 * 256 + (c.val * 256 + i.val) / 64 % 4 * 64 + n.val % 64)
    omega
  have hr := row (argsOf m) rfl c ⟨u.val / 128, by omega⟩ ⟨i.val / 64, by omega⟩ ⟨i.val % 64, by omega⟩ ⟨u.val % 128, by omega⟩
    (fun e n => ρ ⟨u.val / 128, by omega⟩ (key e (stripe (qrow c i)) n)) (fun e n => (B.score c e _ i n).trans (hρ _ _))
  refine congr (congrArg _ ((outW_at _ _ i u).trans (hr.trans ?_))) hw
  exact Finset.sum_congr rfl fun e _ => Finset.sum_congr rfl fun n _ => congrArg _ (hv e n _ _)

end Kernel

end Cert.RingProof
-- ==== Proof.Finite.lean ====
/-
  The precondition, read: every entry of x, of the queries' weights and of the keys is a number.
-/
module

public import proofs.«01_k».proof.Pre_finite_scores_KernelIdeal
public import proofs.«01_k».proof.Pre_finite_scores_ReferenceIdeal
public import Idealize.ShloMosaic.Lib.ReduceAll
public import Idealize.ShloMosaic.Lib.KernelVsHost

@[expose] public section

set_option maxRecDepth 16384

noncomputable section

namespace Cert.RingProof

open Idealize.ShloMosaic

instance facts_pre : Cert.Pre_finite_scores_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

instance facts_pre_ref : Cert.Pre_finite_scores_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x32768x8x128 := by decide
  reducesTo_S1x32768x8x128_S_d0_1_2_3 := by decide

/-- A value whose size is less than +∞ is a number. -/
theorem real_of_olt (x : EReal) (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h : Ideal.cmp .olt (max x (-x)) (Ideal.ofBits .f32 0x7F800000#32) = 1#1 := h
  rw [htop] at h
  have hlt : max x (-x) < ⊤ := by
    by_contra hn
    unfold Ideal.cmp at h
    simp [hn] at h
  have h1 : x ≠ ⊤ := (lt_of_le_of_lt (le_max_left _ _) hlt).ne
  have h2 : x ≠ ⊥ := by
    rintro rfl
    exact (lt_of_le_of_lt (le_max_right _ _) hlt).ne (by simp)
  exact ⟨_, (EReal.coe_toReal h1 h2).symm⟩

theorem pre_read (x : FVec Ideal ⟨3, ![1, 256, 1024]⟩ .f32) (wq : FVec Ideal ⟨2, ![1024, 1024]⟩ .f32) (k v : FVec Ideal ⟨4, ![1, 4096, 8, 128]⟩ .f32)
    (wo : FVec Ideal ⟨2, ![1024, 1024]⟩ .f32) (h : Cert.Pre_finite_scores_KernelIdeal.fn x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h (fun a => a.elim0)
  obtain ⟨h1, hk⟩ := IntOp.andi_eq_one.1 h0
  obtain ⟨hx, hw⟩ := IntOp.andi_eq_one.1 h1
  haveI : Subsingleton (Shape.Idx ⟨0, ![]⟩) := ⟨fun a b => funext fun i => i.elim0⟩
  exact ⟨fun i => real_of_olt _ (Host.reduce_andi_all _ _ _ _ _ hx i), fun i => real_of_olt _ (Host.reduce_andi_all _ _ _ _ _ hw i),
    fun i => real_of_olt _ (Host.reduce_andi_all _ _ _ _ _ hk i)⟩

end Cert.RingProof
-- ==== Proof.Whole.lean ====
/-
  Every device's block of the result, from the arguments' blocks and the precondition.
-/
module

public import proofs.«01_k».proof.Proof.Equal
public import proofs.«01_k».proof.Proof.Finite

@[expose] public section

set_option maxRecDepth 16384

noncomputable section

namespace Cert.RingProof

open Idealize.ShloMosaic
open Cert.KernelIdeal (nD τ sig)

theorem scl_real : ∃ r : ℝ, Ideal.ofBits FTy.f32 0x3DB504F3#32 = (r : EReal) := by
  simp only [Ideal.ofBits, Ideal.ieee]
  exact ⟨_, rfl⟩

/-- The score of numbers is a number. -/
theorem sco_real (X : AX) (Wq : AW) (K : AK) (h : Fin 8) (a : Fin 2048) (g : Fin 32768) (hx : ∀ y, ∃ r : ℝ, X (ix3 0 a y) = (r : EReal))
    (hw : ∀ y u, ∃ r : ℝ, Wq (ix2 y u) = (r : EReal)) (hk : ∀ d, ∃ r : ℝ, K (ix4 0 g h d) = (r : EReal)) :
    ∃ r : ℝ, RingRef.sco X Wq K (ix4 0 h a g) = (r : EReal) := by
  choose x hx using hx
  choose w hw using hw
  choose k hk using hk
  obtain ⟨s, hs⟩ := scl_real
  rw [RingRef.sco_at, hs]
  simp only [hx, hw, hk, ← EReal.coe_mul, ← coe_sum]
  exact ⟨_, rfl⟩

/-! ## Blocks at an index -/

theorem block_rows (c : Fin 8) (X : AX) (i : Fin 256) (k : Fin 1024) :
    (Layout.block ⟨3, ![1, 256, 1024]⟩ ⟨3, ![1, 2048, 1024]⟩ 1 8 c X) (ix3 0 i k) = X (ix3 0 (qrow c i) k) := by
  simp only [Layout.block_apply]
  unfold qrow
  shard_ext

theorem block_keys (c : Fin 8) (K : AK) (i : Fin 4096) (h : Fin 8) (d : Fin 128) :
    (Layout.block ⟨4, ![1, 4096, 8, 128]⟩ ⟨4, ![1, 32768, 8, 128]⟩ 1 8 c K) (ix4 0 i h d) = K (ix4 0 (krow c i) h d) := by
  simp only [Layout.block_apply]
  unfold krow
  shard_ext

variable (m : (ℓ : Loc nD τ sig) → Buf (Elt Ideal) ℓ)

/-- What every device writes out is its block of the reference's result. -/
theorem out_block {X : AX} {Wq : AW} {K V : AK} {Wo : AW} (B : Blocks m X Wq K V Wo)
    (hf : ∀ c, (∀ i, ∃ r : ℝ, aX m c i = (r : EReal)) ∧ (∀ i, ∃ r : ℝ, aWq m c i = (r : EReal)) ∧ (∀ i, ∃ r : ℝ, aK m c i = (r : EReal))) (c : Fin 8) :
    (outOf m c : FVec Ideal ⟨3, ![1, 256, 1024]⟩ .f32)
      = Layout.block ⟨3, ![1, 256, 1024]⟩ ⟨3, ![1, 2048, 1024]⟩ 1 8 c (RingRef.whole X Wq K V Wo) := by
  funext y
  obtain ⟨i, k, rfl⟩ : ∃ (i : Fin 256) (k : Fin 1024), y = ix3 0 i k := by
    refine ⟨y 1, y 2, ?_⟩
    funext a
    match a with
    | 0 => exact Subsingleton.elim (α := Fin 1) _ _
    | 1 => rfl
    | 2 => rfl
  have hs : ∀ h g, ∃ r : ℝ, RingRef.sco X Wq K (ix4 0 h (qrow c i) g) = (r : EReal) := fun h g => by
    refine sco_real X Wq K h _ g (fun y => ?_) (fun y u => ?_) (fun d => ?_)
    · rw [← B.x]
      exact (hf c).1 _
    · rw [← B.wq c]
      exact (hf c).2.1 _
    · have e : g = krow ⟨g.val / 4096, by omega⟩ ⟨g.val % 4096, by omega⟩ := Fin.ext (by
        show g.val = g.val / 4096 * 4096 + g.val % 4096
        omega)
      rw [e, ← B.k]
      exact (hf _).2.2 _
  choose ρ hρ using hs
  exact (B.out c i k ρ hρ).trans (block_rows c _ i k).symm

end Cert.RingProof
-- ==== Proof.lean ====
/-
  The certificate's claims, put together from the run of the kernel, the run of the reference and the equation of values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Whole

@[expose] public section

noncomputable section

namespace Cert.Proof

open Idealize.ShloMosaic Idealize.SL.Sem

theorem frame_kernel : Cert.quiescent_Kernel := fun m ρ _ =>
  run_same _ _ ((θ_run Cert.KernelIdeal.defs _ _).mono (fun _ h => ⟨fun c => (h.1 c).1, h.2⟩) (Cert.RingProof.run_main (F := Bits) m ρ))

theorem frame_ideal : Cert.quiescent_KernelIdeal := fun m ρ _ =>
  (θ_run Cert.KernelIdeal.defs _ _).mono (fun _ h => ⟨fun c => (h.1 c).1, h.2⟩) (Cert.RingProof.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel computes the reference. -/
theorem equal : Cert.algebraic_KernelIdeal_ReferenceIdeal_pre_finite_scores_KernelIdeal
    (hPre_finite_scores_KernelIdeal := Cert.RingProof.facts_pre) := by
  intro m g m' g' hpre hagree
  refine ⟨Cert.ReferenceIdeal.Value.res_main_v39 m' 0, ?_, ?_⟩
  · refine (θ_run Cert.KernelIdeal.defs _ _).mono (fun r h c => ⟨((h.1 c).2).trans ?_, (h.1 c).1⟩)
      (Cert.RingProof.run_main (F := Ideal) m g)
    rw [Cert.RingRef.res_whole]
    refine Cert.RingProof.out_block m ⟨fun c i k => ?_, fun c => (hagree c).2.1, fun c i h d => ?_, fun c i h d => ?_, fun c => (hagree c).2.2.2.2⟩
      (fun c => Cert.RingProof.pre_read _ _ _ _ _ (hpre c)) c
    · exact (congrFun (hagree c).1 _).trans (Cert.RingProof.block_rows c _ i k)
    · exact (congrFun (hagree c).2.2.1 _).trans (Cert.RingProof.block_keys c _ i h d)
    · exact (congrFun (hagree c).2.2.2.1 _).trans (Cert.RingProof.block_keys c _ i h d)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.RingProof.facts_pre, Cert.RingProof.facts_pre_ref,
  frame_kernel, frame_ideal, fun m ρ _ => frame_ideal m ρ trivial, frame_reference, fun m ρ _ => frame_reference m ρ trivial, trivial, equal⟩

end Cert.Proof

end
